-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).1 = (fun _ => 1#1)
    ∧ (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2.1 = (fun _ => 1#1)
    ∧ (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2.2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_qk [hPre_finite_qk : Cert.Pre_finite_qk.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))).1 = (fun _ => 1#1)
    ∧ (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))).2.1 = (fun _ => 1#1)
    ∧ (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))).2.2 = (fun _ => 1#1)

def Pre_InprojMain (m : (ℓ : Loc Cert.InprojMain.nD Cert.InprojMain.τ Cert.InprojMain.sig) → Buf (Elt Bits) ℓ) : Prop :=
  True

def Pre_InprojMainIdeal (m : (ℓ : Loc Cert.InprojMainIdeal.nD Cert.InprojMainIdeal.τ Cert.InprojMainIdeal.sig) → Buf (Elt Ideal) ℓ) : Prop :=
  True

def Pre_InprojMainRefIdeal (m : (ℓ : Loc Cert.InprojMainRefIdeal.nD Cert.InprojMainRefIdeal.τ Cert.InprojMainRefIdeal.sig) → Buf (Elt Ideal) ℓ) : Prop :=
  True

def Pre_InprojQkv (m : (ℓ : Loc Cert.InprojQkv.nD Cert.InprojQkv.τ Cert.InprojQkv.sig) → Buf (Elt Bits) ℓ) : Prop :=
  True

def Pre_InprojQkvIdeal (m : (ℓ : Loc Cert.InprojQkvIdeal.nD Cert.InprojQkvIdeal.τ Cert.InprojQkvIdeal.sig) → Buf (Elt Ideal) ℓ) : Prop :=
  True

def Pre_InprojQkvRefIdeal (m : (ℓ : Loc Cert.InprojQkvRefIdeal.nD Cert.InprojQkvRefIdeal.τ Cert.InprojQkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_gates_spread [hPre_gates_spread : Cert.Pre_gates_spread.Facts] (m : (ℓ : Loc Cert.FfnIdeal.nD Cert.FfnIdeal.τ Cert.FfnIdeal.sig) → Buf (Elt Ideal) ℓ) : Prop :=
  ∀ c : Dev Cert.FfnIdeal.nD,
    (Cert.Pre_gates_spread.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_gates_spread.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_gates_spread [hPre_gates_spread : Cert.Pre_gates_spread.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_gates_spread.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_gates_spread.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_MainSample (m : (ℓ : Loc Cert.MainSample.nD Cert.MainSample.τ Cert.MainSample.sig) → Buf (Elt Bits) ℓ) : Prop :=
  True

def Pre_MainSampleIdeal (m : (ℓ : Loc Cert.MainSampleIdeal.nD Cert.MainSampleIdeal.τ Cert.MainSampleIdeal.sig) → Buf (Elt Ideal) ℓ) : Prop :=
  True

def Pre_MainSampleRefIdeal (m : (ℓ : Loc Cert.MainSampleRefIdeal.nD Cert.MainSampleRefIdeal.τ Cert.MainSampleRefIdeal.sig) → Buf (Elt Ideal) ℓ) : Prop :=
  True

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleRefIdeal (m : (ℓ : Loc Cert.QkvSampleRefIdeal.nD Cert.QkvSampleRefIdeal.τ Cert.QkvSampleRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_CombineSample (m : (ℓ : Loc Cert.CombineSample.nD Cert.CombineSample.τ Cert.CombineSample.sig) → Buf (Elt Bits) ℓ) : Prop :=
  True

def Pre_CombineSampleIdeal (m : (ℓ : Loc Cert.CombineSampleIdeal.nD Cert.CombineSampleIdeal.τ Cert.CombineSampleIdeal.sig) → Buf (Elt Ideal) ℓ) : Prop :=
  True

def Pre_CombineSampleRefIdeal (m : (ℓ : Loc Cert.CombineSampleRefIdeal.nD Cert.CombineSampleRefIdeal.τ Cert.CombineSampleRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_qk [hAttentionRefIdeal : Cert.AttentionRefIdeal.Facts] [hPre_finite_qk : Cert.Pre_finite_qk.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_qk m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_InprojMain [hInprojMain : Cert.InprojMain.Facts] : Prop :=
  ∀ (m : (ℓ : Loc Cert.InprojMain.nD Cert.InprojMain.τ Cert.InprojMain.sig) → Buf (Elt Bits) ℓ) (g : Dev Cert.InprojMain.nD → PrngReg), Pre_InprojMain m →
    θ_run (Cert.InprojMain.defs (F := Bits)) (onTc (τ := Cert.InprojMain.τ) (Cert.InprojMain.main (F := Bits))) ⟨m, fun _ => 0, g⟩ (fun r => (∀ c : Dev Cert.InprojMain.nD,
      r.2.mem ((c.tc : Thread Cert.InprojMain.nD Cert.InprojMain.τ).loc Cert.InprojMain.main_arg0) = m ((c.tc : Thread Cert.InprojMain.nD Cert.InprojMain.τ).loc Cert.InprojMain.main_arg0)
      ∧ r.2.mem ((c.tc : Thread Cert.InprojMain.nD Cert.InprojMain.τ).loc Cert.InprojMain.main_arg1) = m ((c.tc : Thread Cert.InprojMain.nD Cert.InprojMain.τ).loc Cert.InprojMain.main_arg1)
      ∧ r.2.mem ((c.tc : Thread Cert.InprojMain.nD Cert.InprojMain.τ).loc Cert.InprojMain.main_arg2) = m ((c.tc : Thread Cert.InprojMain.nD Cert.InprojMain.τ).loc Cert.InprojMain.main_arg2)
      ∧ r.2.mem ((c.tc : Thread Cert.InprojMain.nD Cert.InprojMain.τ).loc Cert.InprojMain.main_arg3) = m ((c.tc : Thread Cert.InprojMain.nD Cert.InprojMain.τ).loc Cert.InprojMain.main_arg3))
      ∧ r.2.sem = fun _ => 0)

def quiescent_InprojMainIdeal [hInprojMainIdeal : Cert.InprojMainIdeal.Facts] : Prop :=
  ∀ (m : (ℓ : Loc Cert.InprojMainIdeal.nD Cert.InprojMainIdeal.τ Cert.InprojMainIdeal.sig) → Buf (Elt Ideal) ℓ) (g : Dev Cert.InprojMainIdeal.nD → PrngReg), Pre_InprojMainIdeal m →
    θ_run (Cert.InprojMainIdeal.defs (F := Ideal)) (onTc (τ := Cert.InprojMainIdeal.τ) (Cert.InprojMainIdeal.main (F := Ideal))) ⟨m, fun _ => 0, g⟩ (fun r => (∀ c : Dev Cert.InprojMainIdeal.nD,
      r.2.mem ((c.tc : Thread Cert.InprojMainIdeal.nD Cert.InprojMainIdeal.τ).loc Cert.InprojMainIdeal.main_arg0) = m ((c.tc : Thread Cert.InprojMainIdeal.nD Cert.InprojMainIdeal.τ).loc Cert.InprojMainIdeal.main_arg0)
      ∧ r.2.mem ((c.tc : Thread Cert.InprojMainIdeal.nD Cert.InprojMainIdeal.τ).loc Cert.InprojMainIdeal.main_arg1) = m ((c.tc : Thread Cert.InprojMainIdeal.nD Cert.InprojMainIdeal.τ).loc Cert.InprojMainIdeal.main_arg1)
      ∧ r.2.mem ((c.tc : Thread Cert.InprojMainIdeal.nD Cert.InprojMainIdeal.τ).loc Cert.InprojMainIdeal.main_arg2) = m ((c.tc : Thread Cert.InprojMainIdeal.nD Cert.InprojMainIdeal.τ).loc Cert.InprojMainIdeal.main_arg2)
      ∧ r.2.mem ((c.tc : Thread Cert.InprojMainIdeal.nD Cert.InprojMainIdeal.τ).loc Cert.InprojMainIdeal.main_arg3) = m ((c.tc : Thread Cert.InprojMainIdeal.nD Cert.InprojMainIdeal.τ).loc Cert.InprojMainIdeal.main_arg3))
      ∧ r.2.sem = fun _ => 0)

def quiescent_InprojMainRefIdeal [hInprojMainRefIdeal : Cert.InprojMainRefIdeal.Facts] : Prop :=
  ∀ (m : (ℓ : Loc Cert.InprojMainRefIdeal.nD Cert.InprojMainRefIdeal.τ Cert.InprojMainRefIdeal.sig) → Buf (Elt Ideal) ℓ) (g : Dev Cert.InprojMainRefIdeal.nD → PrngReg), Pre_InprojMainRefIdeal m →
    θ_run (Cert.InprojMainRefIdeal.defs (F := Ideal)) (onTc (τ := Cert.InprojMainRefIdeal.τ) (Cert.InprojMainRefIdeal.main (F := Ideal))) ⟨m, fun _ => 0, g⟩ (fun r => (∀ c : Dev Cert.InprojMainRefIdeal.nD,
      r.2.mem ((c.tc : Thread Cert.InprojMainRefIdeal.nD Cert.InprojMainRefIdeal.τ).loc Cert.InprojMainRefIdeal.main_arg0) = m ((c.tc : Thread Cert.InprojMainRefIdeal.nD Cert.InprojMainRefIdeal.τ).loc Cert.InprojMainRefIdeal.main_arg0)
      ∧ r.2.mem ((c.tc : Thread Cert.InprojMainRefIdeal.nD Cert.InprojMainRefIdeal.τ).loc Cert.InprojMainRefIdeal.main_arg1) = m ((c.tc : Thread Cert.InprojMainRefIdeal.nD Cert.InprojMainRefIdeal.τ).loc Cert.InprojMainRefIdeal.main_arg1)
      ∧ r.2.mem ((c.tc : Thread Cert.InprojMainRefIdeal.nD Cert.InprojMainRefIdeal.τ).loc Cert.InprojMainRefIdeal.main_arg2) = m ((c.tc : Thread Cert.InprojMainRefIdeal.nD Cert.InprojMainRefIdeal.τ).loc Cert.InprojMainRefIdeal.main_arg2)
      ∧ r.2.mem ((c.tc : Thread Cert.InprojMainRefIdeal.nD Cert.InprojMainRefIdeal.τ).loc Cert.InprojMainRefIdeal.main_arg3) = m ((c.tc : Thread Cert.InprojMainRefIdeal.nD Cert.InprojMainRefIdeal.τ).loc Cert.InprojMainRefIdeal.main_arg3))
      ∧ r.2.sem = fun _ => 0)

def quiescent_InprojQkv [hInprojQkv : Cert.InprojQkv.Facts] : Prop :=
  ∀ (m : (ℓ : Loc Cert.InprojQkv.nD Cert.InprojQkv.τ Cert.InprojQkv.sig) → Buf (Elt Bits) ℓ) (g : Dev Cert.InprojQkv.nD → PrngReg), Pre_InprojQkv m →
    θ_run (Cert.InprojQkv.defs (F := Bits)) (onTc (τ := Cert.InprojQkv.τ) (Cert.InprojQkv.main (F := Bits))) ⟨m, fun _ => 0, g⟩ (fun r => (∀ c : Dev Cert.InprojQkv.nD,
      r.2.mem ((c.tc : Thread Cert.InprojQkv.nD Cert.InprojQkv.τ).loc Cert.InprojQkv.main_arg0) = m ((c.tc : Thread Cert.InprojQkv.nD Cert.InprojQkv.τ).loc Cert.InprojQkv.main_arg0)
      ∧ r.2.mem ((c.tc : Thread Cert.InprojQkv.nD Cert.InprojQkv.τ).loc Cert.InprojQkv.main_arg1) = m ((c.tc : Thread Cert.InprojQkv.nD Cert.InprojQkv.τ).loc Cert.InprojQkv.main_arg1)
      ∧ r.2.mem ((c.tc : Thread Cert.InprojQkv.nD Cert.InprojQkv.τ).loc Cert.InprojQkv.main_arg2) = m ((c.tc : Thread Cert.InprojQkv.nD Cert.InprojQkv.τ).loc Cert.InprojQkv.main_arg2)
      ∧ r.2.mem ((c.tc : Thread Cert.InprojQkv.nD Cert.InprojQkv.τ).loc Cert.InprojQkv.main_arg3) = m ((c.tc : Thread Cert.InprojQkv.nD Cert.InprojQkv.τ).loc Cert.InprojQkv.main_arg3))
      ∧ r.2.sem = fun _ => 0)

def quiescent_InprojQkvIdeal [hInprojQkvIdeal : Cert.InprojQkvIdeal.Facts] : Prop :=
  ∀ (m : (ℓ : Loc Cert.InprojQkvIdeal.nD Cert.InprojQkvIdeal.τ Cert.InprojQkvIdeal.sig) → Buf (Elt Ideal) ℓ) (g : Dev Cert.InprojQkvIdeal.nD → PrngReg), Pre_InprojQkvIdeal m →
    θ_run (Cert.InprojQkvIdeal.defs (F := Ideal)) (onTc (τ := Cert.InprojQkvIdeal.τ) (Cert.InprojQkvIdeal.main (F := Ideal))) ⟨m, fun _ => 0, g⟩ (fun r => (∀ c : Dev Cert.InprojQkvIdeal.nD,
      r.2.mem ((c.tc : Thread Cert.InprojQkvIdeal.nD Cert.InprojQkvIdeal.τ).loc Cert.InprojQkvIdeal.main_arg0) = m ((c.tc : Thread Cert.InprojQkvIdeal.nD Cert.InprojQkvIdeal.τ).loc Cert.InprojQkvIdeal.main_arg0)
      ∧ r.2.mem ((c.tc : Thread Cert.InprojQkvIdeal.nD Cert.InprojQkvIdeal.τ).loc Cert.InprojQkvIdeal.main_arg1) = m ((c.tc : Thread Cert.InprojQkvIdeal.nD Cert.InprojQkvIdeal.τ).loc Cert.InprojQkvIdeal.main_arg1)
      ∧ r.2.mem ((c.tc : Thread Cert.InprojQkvIdeal.nD Cert.InprojQkvIdeal.τ).loc Cert.InprojQkvIdeal.main_arg2) = m ((c.tc : Thread Cert.InprojQkvIdeal.nD Cert.InprojQkvIdeal.τ).loc Cert.InprojQkvIdeal.main_arg2)
      ∧ r.2.mem ((c.tc : Thread Cert.InprojQkvIdeal.nD Cert.InprojQkvIdeal.τ).loc Cert.InprojQkvIdeal.main_arg3) = m ((c.tc : Thread Cert.InprojQkvIdeal.nD Cert.InprojQkvIdeal.τ).loc Cert.InprojQkvIdeal.main_arg3))
      ∧ r.2.sem = fun _ => 0)

def quiescent_InprojQkvRefIdeal [hInprojQkvRefIdeal : Cert.InprojQkvRefIdeal.Facts] : Prop :=
  ∀ (m : (ℓ : Loc Cert.InprojQkvRefIdeal.nD Cert.InprojQkvRefIdeal.τ Cert.InprojQkvRefIdeal.sig) → Buf (Elt Ideal) ℓ) (g : Dev Cert.InprojQkvRefIdeal.nD → PrngReg), Pre_InprojQkvRefIdeal m →
    θ_run (Cert.InprojQkvRefIdeal.defs (F := Ideal)) (onTc (τ := Cert.InprojQkvRefIdeal.τ) (Cert.InprojQkvRefIdeal.main (F := Ideal))) ⟨m, fun _ => 0, g⟩ (fun r => (∀ c : Dev Cert.InprojQkvRefIdeal.nD,
      r.2.mem ((c.tc : Thread Cert.InprojQkvRefIdeal.nD Cert.InprojQkvRefIdeal.τ).loc Cert.InprojQkvRefIdeal.main_arg0) = m ((c.tc : Thread Cert.InprojQkvRefIdeal.nD Cert.InprojQkvRefIdeal.τ).loc Cert.InprojQkvRefIdeal.main_arg0)
      ∧ r.2.mem ((c.tc : Thread Cert.InprojQkvRefIdeal.nD Cert.InprojQkvRefIdeal.τ).loc Cert.InprojQkvRefIdeal.main_arg1) = m ((c.tc : Thread Cert.InprojQkvRefIdeal.nD Cert.InprojQkvRefIdeal.τ).loc Cert.InprojQkvRefIdeal.main_arg1)
      ∧ r.2.mem ((c.tc : Thread Cert.InprojQkvRefIdeal.nD Cert.InprojQkvRefIdeal.τ).loc Cert.InprojQkvRefIdeal.main_arg2) = m ((c.tc : Thread Cert.InprojQkvRefIdeal.nD Cert.InprojQkvRefIdeal.τ).loc Cert.InprojQkvRefIdeal.main_arg2)
      ∧ r.2.mem ((c.tc : Thread Cert.InprojQkvRefIdeal.nD Cert.InprojQkvRefIdeal.τ).loc Cert.InprojQkvRefIdeal.main_arg3) = m ((c.tc : Thread Cert.InprojQkvRefIdeal.nD Cert.InprojQkvRefIdeal.τ).loc Cert.InprojQkvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_gates_spread [hFfnIdeal : Cert.FfnIdeal.Facts] [hPre_gates_spread : Cert.Pre_gates_spread.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_gates_spread m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_gates_spread [hFfnRefIdeal : Cert.FfnRefIdeal.Facts] [hPre_gates_spread : Cert.Pre_gates_spread.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_gates_spread m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_MainSample [hMainSample : Cert.MainSample.Facts] : Prop :=
  ∀ (m : (ℓ : Loc Cert.MainSample.nD Cert.MainSample.τ Cert.MainSample.sig) → Buf (Elt Bits) ℓ) (g : Dev Cert.MainSample.nD → PrngReg), Pre_MainSample m →
    θ_run (Cert.MainSample.defs (F := Bits)) (onTc (τ := Cert.MainSample.τ) (Cert.MainSample.main (F := Bits))) ⟨m, fun _ => 0, g⟩ (fun r => (∀ c : Dev Cert.MainSample.nD,
      r.2.mem ((c.tc : Thread Cert.MainSample.nD Cert.MainSample.τ).loc Cert.MainSample.main_arg0) = m ((c.tc : Thread Cert.MainSample.nD Cert.MainSample.τ).loc Cert.MainSample.main_arg0)
      ∧ r.2.mem ((c.tc : Thread Cert.MainSample.nD Cert.MainSample.τ).loc Cert.MainSample.main_arg1) = m ((c.tc : Thread Cert.MainSample.nD Cert.MainSample.τ).loc Cert.MainSample.main_arg1)
      ∧ r.2.mem ((c.tc : Thread Cert.MainSample.nD Cert.MainSample.τ).loc Cert.MainSample.main_arg2) = m ((c.tc : Thread Cert.MainSample.nD Cert.MainSample.τ).loc Cert.MainSample.main_arg2)
      ∧ r.2.mem ((c.tc : Thread Cert.MainSample.nD Cert.MainSample.τ).loc Cert.MainSample.main_arg3) = m ((c.tc : Thread Cert.MainSample.nD Cert.MainSample.τ).loc Cert.MainSample.main_arg3))
      ∧ r.2.sem = fun _ => 0)

def quiescent_MainSampleIdeal [hMainSampleIdeal : Cert.MainSampleIdeal.Facts] : Prop :=
  ∀ (m : (ℓ : Loc Cert.MainSampleIdeal.nD Cert.MainSampleIdeal.τ Cert.MainSampleIdeal.sig) → Buf (Elt Ideal) ℓ) (g : Dev Cert.MainSampleIdeal.nD → PrngReg), Pre_MainSampleIdeal m →
    θ_run (Cert.MainSampleIdeal.defs (F := Ideal)) (onTc (τ := Cert.MainSampleIdeal.τ) (Cert.MainSampleIdeal.main (F := Ideal))) ⟨m, fun _ => 0, g⟩ (fun r => (∀ c : Dev Cert.MainSampleIdeal.nD,
      r.2.mem ((c.tc : Thread Cert.MainSampleIdeal.nD Cert.MainSampleIdeal.τ).loc Cert.MainSampleIdeal.main_arg0) = m ((c.tc : Thread Cert.MainSampleIdeal.nD Cert.MainSampleIdeal.τ).loc Cert.MainSampleIdeal.main_arg0)
      ∧ r.2.mem ((c.tc : Thread Cert.MainSampleIdeal.nD Cert.MainSampleIdeal.τ).loc Cert.MainSampleIdeal.main_arg1) = m ((c.tc : Thread Cert.MainSampleIdeal.nD Cert.MainSampleIdeal.τ).loc Cert.MainSampleIdeal.main_arg1)
      ∧ r.2.mem ((c.tc : Thread Cert.MainSampleIdeal.nD Cert.MainSampleIdeal.τ).loc Cert.MainSampleIdeal.main_arg2) = m ((c.tc : Thread Cert.MainSampleIdeal.nD Cert.MainSampleIdeal.τ).loc Cert.MainSampleIdeal.main_arg2)
      ∧ r.2.mem ((c.tc : Thread Cert.MainSampleIdeal.nD Cert.MainSampleIdeal.τ).loc Cert.MainSampleIdeal.main_arg3) = m ((c.tc : Thread Cert.MainSampleIdeal.nD Cert.MainSampleIdeal.τ).loc Cert.MainSampleIdeal.main_arg3))
      ∧ r.2.sem = fun _ => 0)

def quiescent_MainSampleRefIdeal [hMainSampleRefIdeal : Cert.MainSampleRefIdeal.Facts] : Prop :=
  ∀ (m : (ℓ : Loc Cert.MainSampleRefIdeal.nD Cert.MainSampleRefIdeal.τ Cert.MainSampleRefIdeal.sig) → Buf (Elt Ideal) ℓ) (g : Dev Cert.MainSampleRefIdeal.nD → PrngReg), Pre_MainSampleRefIdeal m →
    θ_run (Cert.MainSampleRefIdeal.defs (F := Ideal)) (onTc (τ := Cert.MainSampleRefIdeal.τ) (Cert.MainSampleRefIdeal.main (F := Ideal))) ⟨m, fun _ => 0, g⟩ (fun r => (∀ c : Dev Cert.MainSampleRefIdeal.nD,
      r.2.mem ((c.tc : Thread Cert.MainSampleRefIdeal.nD Cert.MainSampleRefIdeal.τ).loc Cert.MainSampleRefIdeal.main_arg0) = m ((c.tc : Thread Cert.MainSampleRefIdeal.nD Cert.MainSampleRefIdeal.τ).loc Cert.MainSampleRefIdeal.main_arg0)
      ∧ r.2.mem ((c.tc : Thread Cert.MainSampleRefIdeal.nD Cert.MainSampleRefIdeal.τ).loc Cert.MainSampleRefIdeal.main_arg1) = m ((c.tc : Thread Cert.MainSampleRefIdeal.nD Cert.MainSampleRefIdeal.τ).loc Cert.MainSampleRefIdeal.main_arg1)
      ∧ r.2.mem ((c.tc : Thread Cert.MainSampleRefIdeal.nD Cert.MainSampleRefIdeal.τ).loc Cert.MainSampleRefIdeal.main_arg2) = m ((c.tc : Thread Cert.MainSampleRefIdeal.nD Cert.MainSampleRefIdeal.τ).loc Cert.MainSampleRefIdeal.main_arg2)
      ∧ r.2.mem ((c.tc : Thread Cert.MainSampleRefIdeal.nD Cert.MainSampleRefIdeal.τ).loc Cert.MainSampleRefIdeal.main_arg3) = m ((c.tc : Thread Cert.MainSampleRefIdeal.nD Cert.MainSampleRefIdeal.τ).loc Cert.MainSampleRefIdeal.main_arg3))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2)
      ∧ r.2.mem ((c.tc : Thread Cert.QkvSample.nD Cert.QkvSample.τ).loc Cert.QkvSample.main_arg3) = m ((c.tc : Thread Cert.QkvSample.nD Cert.QkvSample.τ).loc Cert.QkvSample.main_arg3))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
      ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3))
      ∧ r.2.sem = fun _ => 0)

def quiescent_QkvSampleRefIdeal [hQkvSampleRefIdeal : Cert.QkvSampleRefIdeal.Facts] : Prop :=
  ∀ (m : (ℓ : Loc Cert.QkvSampleRefIdeal.nD Cert.QkvSampleRefIdeal.τ Cert.QkvSampleRefIdeal.sig) → Buf (Elt Ideal) ℓ) (g : Dev Cert.QkvSampleRefIdeal.nD → PrngReg), Pre_QkvSampleRefIdeal m →
    θ_run (Cert.QkvSampleRefIdeal.defs (F := Ideal)) (onTc (τ := Cert.QkvSampleRefIdeal.τ) (Cert.QkvSampleRefIdeal.main (F := Ideal))) ⟨m, fun _ => 0, g⟩ (fun r => (∀ c : Dev Cert.QkvSampleRefIdeal.nD,
      r.2.mem ((c.tc : Thread Cert.QkvSampleRefIdeal.nD Cert.QkvSampleRefIdeal.τ).loc Cert.QkvSampleRefIdeal.main_arg0) = m ((c.tc : Thread Cert.QkvSampleRefIdeal.nD Cert.QkvSampleRefIdeal.τ).loc Cert.QkvSampleRefIdeal.main_arg0)
      ∧ r.2.mem ((c.tc : Thread Cert.QkvSampleRefIdeal.nD Cert.QkvSampleRefIdeal.τ).loc Cert.QkvSampleRefIdeal.main_arg1) = m ((c.tc : Thread Cert.QkvSampleRefIdeal.nD Cert.QkvSampleRefIdeal.τ).loc Cert.QkvSampleRefIdeal.main_arg1)
      ∧ r.2.mem ((c.tc : Thread Cert.QkvSampleRefIdeal.nD Cert.QkvSampleRefIdeal.τ).loc Cert.QkvSampleRefIdeal.main_arg2) = m ((c.tc : Thread Cert.QkvSampleRefIdeal.nD Cert.QkvSampleRefIdeal.τ).loc Cert.QkvSampleRefIdeal.main_arg2)
      ∧ r.2.mem ((c.tc : Thread Cert.QkvSampleRefIdeal.nD Cert.QkvSampleRefIdeal.τ).loc Cert.QkvSampleRefIdeal.main_arg3) = m ((c.tc : Thread Cert.QkvSampleRefIdeal.nD Cert.QkvSampleRefIdeal.τ).loc Cert.QkvSampleRefIdeal.main_arg3))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10))
      ∧ r.2.sem = fun _ => 0)

def quiescent_CombineSample [hCombineSample : Cert.CombineSample.Facts] : Prop :=
  ∀ (m : (ℓ : Loc Cert.CombineSample.nD Cert.CombineSample.τ Cert.CombineSample.sig) → Buf (Elt Bits) ℓ) (g : Dev Cert.CombineSample.nD → PrngReg), Pre_CombineSample m →
    θ_run (Cert.CombineSample.defs (F := Bits)) (onTc (τ := Cert.CombineSample.τ) (Cert.CombineSample.main (F := Bits))) ⟨m, fun _ => 0, g⟩ (fun r => (∀ c : Dev Cert.CombineSample.nD,
      r.2.mem ((c.tc : Thread Cert.CombineSample.nD Cert.CombineSample.τ).loc Cert.CombineSample.main_arg0) = m ((c.tc : Thread Cert.CombineSample.nD Cert.CombineSample.τ).loc Cert.CombineSample.main_arg0)
      ∧ r.2.mem ((c.tc : Thread Cert.CombineSample.nD Cert.CombineSample.τ).loc Cert.CombineSample.main_arg1) = m ((c.tc : Thread Cert.CombineSample.nD Cert.CombineSample.τ).loc Cert.CombineSample.main_arg1)
      ∧ r.2.mem ((c.tc : Thread Cert.CombineSample.nD Cert.CombineSample.τ).loc Cert.CombineSample.main_arg2) = m ((c.tc : Thread Cert.CombineSample.nD Cert.CombineSample.τ).loc Cert.CombineSample.main_arg2)
      ∧ r.2.mem ((c.tc : Thread Cert.CombineSample.nD Cert.CombineSample.τ).loc Cert.CombineSample.main_arg3) = m ((c.tc : Thread Cert.CombineSample.nD Cert.CombineSample.τ).loc Cert.CombineSample.main_arg3))
      ∧ r.2.sem = fun _ => 0)

def quiescent_CombineSampleIdeal [hCombineSampleIdeal : Cert.CombineSampleIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg), Pre_CombineSampleIdeal m →
    θ_run (Cert.CombineSampleIdeal.defs (F := Ideal)) (onTc (τ := Cert.CombineSampleIdeal.τ) (Cert.CombineSampleIdeal.main (F := Ideal))) ⟨m, fun _ => 0, g⟩ (fun r => (∀ c : Dev Cert.CombineSampleIdeal.nD,
      r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
      ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
      ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
      ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3))
      ∧ r.2.sem = fun _ => 0)

def quiescent_CombineSampleRefIdeal [hCombineSampleRefIdeal : Cert.CombineSampleRefIdeal.Facts] : Prop :=
  ∀ (m : (ℓ : Loc Cert.CombineSampleRefIdeal.nD Cert.CombineSampleRefIdeal.τ Cert.CombineSampleRefIdeal.sig) → Buf (Elt Ideal) ℓ) (g : Dev Cert.CombineSampleRefIdeal.nD → PrngReg), Pre_CombineSampleRefIdeal m →
    θ_run (Cert.CombineSampleRefIdeal.defs (F := Ideal)) (onTc (τ := Cert.CombineSampleRefIdeal.τ) (Cert.CombineSampleRefIdeal.main (F := Ideal))) ⟨m, fun _ => 0, g⟩ (fun r => (∀ c : Dev Cert.CombineSampleRefIdeal.nD,
      r.2.mem ((c.tc : Thread Cert.CombineSampleRefIdeal.nD Cert.CombineSampleRefIdeal.τ).loc Cert.CombineSampleRefIdeal.main_arg0) = m ((c.tc : Thread Cert.CombineSampleRefIdeal.nD Cert.CombineSampleRefIdeal.τ).loc Cert.CombineSampleRefIdeal.main_arg0)
      ∧ r.2.mem ((c.tc : Thread Cert.CombineSampleRefIdeal.nD Cert.CombineSampleRefIdeal.τ).loc Cert.CombineSampleRefIdeal.main_arg1) = m ((c.tc : Thread Cert.CombineSampleRefIdeal.nD Cert.CombineSampleRefIdeal.τ).loc Cert.CombineSampleRefIdeal.main_arg1)
      ∧ r.2.mem ((c.tc : Thread Cert.CombineSampleRefIdeal.nD Cert.CombineSampleRefIdeal.τ).loc Cert.CombineSampleRefIdeal.main_arg2) = m ((c.tc : Thread Cert.CombineSampleRefIdeal.nD Cert.CombineSampleRefIdeal.τ).loc Cert.CombineSampleRefIdeal.main_arg2)
      ∧ r.2.mem ((c.tc : Thread Cert.CombineSampleRefIdeal.nD Cert.CombineSampleRefIdeal.τ).loc Cert.CombineSampleRefIdeal.main_arg3) = m ((c.tc : Thread Cert.CombineSampleRefIdeal.nD Cert.CombineSampleRefIdeal.τ).loc Cert.CombineSampleRefIdeal.main_arg3))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4)
      ∧ r.2.mem ((c.tc : Thread Cert.ShortConv.nD Cert.ShortConv.τ).loc Cert.ShortConv.main_arg5) = m ((c.tc : Thread Cert.ShortConv.nD Cert.ShortConv.τ).loc Cert.ShortConv.main_arg5)
      ∧ r.2.mem ((c.tc : Thread Cert.ShortConv.nD Cert.ShortConv.τ).loc Cert.ShortConv.main_arg6) = m ((c.tc : Thread Cert.ShortConv.nD Cert.ShortConv.τ).loc Cert.ShortConv.main_arg6)
      ∧ r.2.mem ((c.tc : Thread Cert.ShortConv.nD Cert.ShortConv.τ).loc Cert.ShortConv.main_arg7) = m ((c.tc : Thread Cert.ShortConv.nD Cert.ShortConv.τ).loc Cert.ShortConv.main_arg7)
      ∧ r.2.mem ((c.tc : Thread Cert.ShortConv.nD Cert.ShortConv.τ).loc Cert.ShortConv.main_arg8) = m ((c.tc : Thread Cert.ShortConv.nD Cert.ShortConv.τ).loc Cert.ShortConv.main_arg8))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
      ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
      ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
      ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7)
      ∧ r.2.mem ((c.tc : Thread Cert.ShortConvIdeal.nD Cert.ShortConvIdeal.τ).loc Cert.ShortConvIdeal.main_arg8) = m ((c.tc : Thread Cert.ShortConvIdeal.nD Cert.ShortConvIdeal.τ).loc Cert.ShortConvIdeal.main_arg8))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3)
      ∧ r.2.mem ((c.tc : Thread Cert.ShortConvRefIdeal.nD Cert.ShortConvRefIdeal.τ).loc Cert.ShortConvRefIdeal.main_arg4) = m ((c.tc : Thread Cert.ShortConvRefIdeal.nD Cert.ShortConvRefIdeal.τ).loc Cert.ShortConvRefIdeal.main_arg4)
      ∧ r.2.mem ((c.tc : Thread Cert.ShortConvRefIdeal.nD Cert.ShortConvRefIdeal.τ).loc Cert.ShortConvRefIdeal.main_arg5) = m ((c.tc : Thread Cert.ShortConvRefIdeal.nD Cert.ShortConvRefIdeal.τ).loc Cert.ShortConvRefIdeal.main_arg5)
      ∧ r.2.mem ((c.tc : Thread Cert.ShortConvRefIdeal.nD Cert.ShortConvRefIdeal.τ).loc Cert.ShortConvRefIdeal.main_arg6) = m ((c.tc : Thread Cert.ShortConvRefIdeal.nD Cert.ShortConvRefIdeal.τ).loc Cert.ShortConvRefIdeal.main_arg6)
      ∧ r.2.mem ((c.tc : Thread Cert.ShortConvRefIdeal.nD Cert.ShortConvRefIdeal.τ).loc Cert.ShortConvRefIdeal.main_arg7) = m ((c.tc : Thread Cert.ShortConvRefIdeal.nD Cert.ShortConvRefIdeal.τ).loc Cert.ShortConvRefIdeal.main_arg7)
      ∧ r.2.mem ((c.tc : Thread Cert.ShortConvRefIdeal.nD Cert.ShortConvRefIdeal.τ).loc Cert.ShortConvRefIdeal.main_arg8) = m ((c.tc : Thread Cert.ShortConvRefIdeal.nD Cert.ShortConvRefIdeal.τ).loc Cert.ShortConvRefIdeal.main_arg8))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5)
      ∧ r.2.mem ((c.tc : Thread Cert.ConvSample.nD Cert.ConvSample.τ).loc Cert.ConvSample.main_arg6) = m ((c.tc : Thread Cert.ConvSample.nD Cert.ConvSample.τ).loc Cert.ConvSample.main_arg6)
      ∧ r.2.mem ((c.tc : Thread Cert.ConvSample.nD Cert.ConvSample.τ).loc Cert.ConvSample.main_arg7) = m ((c.tc : Thread Cert.ConvSample.nD Cert.ConvSample.τ).loc Cert.ConvSample.main_arg7)
      ∧ r.2.mem ((c.tc : Thread Cert.ConvSample.nD Cert.ConvSample.τ).loc Cert.ConvSample.main_arg8) = m ((c.tc : Thread Cert.ConvSample.nD Cert.ConvSample.τ).loc Cert.ConvSample.main_arg8))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
      ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6)
      ∧ r.2.mem ((c.tc : Thread Cert.ConvSampleIdeal.nD Cert.ConvSampleIdeal.τ).loc Cert.ConvSampleIdeal.main_arg7) = m ((c.tc : Thread Cert.ConvSampleIdeal.nD Cert.ConvSampleIdeal.τ).loc Cert.ConvSampleIdeal.main_arg7)
      ∧ r.2.mem ((c.tc : Thread Cert.ConvSampleIdeal.nD Cert.ConvSampleIdeal.τ).loc Cert.ConvSampleIdeal.main_arg8) = m ((c.tc : Thread Cert.ConvSampleIdeal.nD Cert.ConvSampleIdeal.τ).loc Cert.ConvSampleIdeal.main_arg8))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5)
      ∧ r.2.mem ((c.tc : Thread Cert.ConvSampleRefIdeal.nD Cert.ConvSampleRefIdeal.τ).loc Cert.ConvSampleRefIdeal.main_arg6) = m ((c.tc : Thread Cert.ConvSampleRefIdeal.nD Cert.ConvSampleRefIdeal.τ).loc Cert.ConvSampleRefIdeal.main_arg6)
      ∧ r.2.mem ((c.tc : Thread Cert.ConvSampleRefIdeal.nD Cert.ConvSampleRefIdeal.τ).loc Cert.ConvSampleRefIdeal.main_arg7) = m ((c.tc : Thread Cert.ConvSampleRefIdeal.nD Cert.ConvSampleRefIdeal.τ).loc Cert.ConvSampleRefIdeal.main_arg7)
      ∧ r.2.mem ((c.tc : Thread Cert.ConvSampleRefIdeal.nD Cert.ConvSampleRefIdeal.τ).loc Cert.ConvSampleRefIdeal.main_arg8) = m ((c.tc : Thread Cert.ConvSampleRefIdeal.nD Cert.ConvSampleRefIdeal.τ).loc Cert.ConvSampleRefIdeal.main_arg8))
      ∧ r.2.sem = fun _ => 0)

def preserves_Attention_AttentionIdeal : Prop :=
  True

def algebraic_AttentionIdeal_AttentionRefIdeal_pre_finite_qk [hAttentionIdeal : Cert.AttentionIdeal.Facts] [hAttentionRefIdeal : Cert.AttentionRefIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_qk m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v19_0)) (v1 : (c : Dev Cert.AttentionIdeal.nD) → Buf (Elt Ideal) ((c.tc : Thread Cert.AttentionIdeal.nD Cert.AttentionIdeal.τ).loc Cert.AttentionIdeal.main_v19_1)) (v2 : (c : Dev Cert.AttentionIdeal.nD) → Buf (Elt Ideal) ((c.tc : Thread Cert.AttentionIdeal.nD Cert.AttentionIdeal.τ).loc Cert.AttentionIdeal.main_v19_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v19_0) = v0 c
          ∧ r.2.mem ((c.tc : Thread Cert.AttentionIdeal.nD Cert.AttentionIdeal.τ).loc Cert.AttentionIdeal.main_v19_1) = v1 c
          ∧ r.2.mem ((c.tc : Thread Cert.AttentionIdeal.nD Cert.AttentionIdeal.τ).loc Cert.AttentionIdeal.main_v19_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v51) = v0 c
          ∧ r.2.mem ((c.tc : Thread Cert.AttentionRefIdeal.nD Cert.AttentionRefIdeal.τ).loc Cert.AttentionRefIdeal.main_v52) = v1 c
          ∧ r.2.mem ((c.tc : Thread Cert.AttentionRefIdeal.nD Cert.AttentionRefIdeal.τ).loc Cert.AttentionRefIdeal.main_v53) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_InprojMain_InprojMainIdeal : Prop :=
  True

def algebraic_InprojMainIdeal_InprojMainRefIdeal [hInprojMainIdeal : Cert.InprojMainIdeal.Facts] [hInprojMainRefIdeal : Cert.InprojMainRefIdeal.Facts] : Prop :=
  ∀ (m : (ℓ : Loc Cert.InprojMainIdeal.nD Cert.InprojMainIdeal.τ Cert.InprojMainIdeal.sig) → Buf (Elt Ideal) ℓ) (g : Dev Cert.InprojMainIdeal.nD → PrngReg)
    (m' : (ℓ : Loc Cert.InprojMainRefIdeal.nD Cert.InprojMainRefIdeal.τ Cert.InprojMainRefIdeal.sig) → Buf (Elt Ideal) ℓ) (g' : Dev Cert.InprojMainRefIdeal.nD → PrngReg), Pre_InprojMainIdeal m →
    (∀ c : Dev Cert.InprojMainIdeal.nD,
      m' ((c.tc : Thread Cert.InprojMainRefIdeal.nD Cert.InprojMainRefIdeal.τ).loc Cert.InprojMainRefIdeal.main_arg0) = m ((c.tc : Thread Cert.InprojMainIdeal.nD Cert.InprojMainIdeal.τ).loc Cert.InprojMainIdeal.main_arg0)
      ∧ m' ((c.tc : Thread Cert.InprojMainRefIdeal.nD Cert.InprojMainRefIdeal.τ).loc Cert.InprojMainRefIdeal.main_arg1) = m ((c.tc : Thread Cert.InprojMainIdeal.nD Cert.InprojMainIdeal.τ).loc Cert.InprojMainIdeal.main_arg1)
      ∧ m' ((c.tc : Thread Cert.InprojMainRefIdeal.nD Cert.InprojMainRefIdeal.τ).loc Cert.InprojMainRefIdeal.main_arg2) = m ((c.tc : Thread Cert.InprojMainIdeal.nD Cert.InprojMainIdeal.τ).loc Cert.InprojMainIdeal.main_arg2)
      ∧ m' ((c.tc : Thread Cert.InprojMainRefIdeal.nD Cert.InprojMainRefIdeal.τ).loc Cert.InprojMainRefIdeal.main_arg3) = m ((c.tc : Thread Cert.InprojMainIdeal.nD Cert.InprojMainIdeal.τ).loc Cert.InprojMainIdeal.main_arg3)) →
    ∃ (v0 : (c : Dev Cert.InprojMainIdeal.nD) → Buf (Elt Ideal) ((c.tc : Thread Cert.InprojMainIdeal.nD Cert.InprojMainIdeal.τ).loc Cert.InprojMainIdeal.main_v0)),
      θ_run (Cert.InprojMainIdeal.defs (F := Ideal)) (onTc (τ := Cert.InprojMainIdeal.τ) (Cert.InprojMainIdeal.main (F := Ideal))) ⟨m, fun _ => 0, g⟩ (fun r => ∀ c : Dev Cert.InprojMainIdeal.nD,
          r.2.mem ((c.tc : Thread Cert.InprojMainIdeal.nD Cert.InprojMainIdeal.τ).loc Cert.InprojMainIdeal.main_v0) = v0 c
          ∧ r.2.mem ((c.tc : Thread Cert.InprojMainIdeal.nD Cert.InprojMainIdeal.τ).loc Cert.InprojMainIdeal.main_arg0) = m ((c.tc : Thread Cert.InprojMainIdeal.nD Cert.InprojMainIdeal.τ).loc Cert.InprojMainIdeal.main_arg0)
          ∧ r.2.mem ((c.tc : Thread Cert.InprojMainIdeal.nD Cert.InprojMainIdeal.τ).loc Cert.InprojMainIdeal.main_arg1) = m ((c.tc : Thread Cert.InprojMainIdeal.nD Cert.InprojMainIdeal.τ).loc Cert.InprojMainIdeal.main_arg1)
          ∧ r.2.mem ((c.tc : Thread Cert.InprojMainIdeal.nD Cert.InprojMainIdeal.τ).loc Cert.InprojMainIdeal.main_arg2) = m ((c.tc : Thread Cert.InprojMainIdeal.nD Cert.InprojMainIdeal.τ).loc Cert.InprojMainIdeal.main_arg2)
          ∧ r.2.mem ((c.tc : Thread Cert.InprojMainIdeal.nD Cert.InprojMainIdeal.τ).loc Cert.InprojMainIdeal.main_arg3) = m ((c.tc : Thread Cert.InprojMainIdeal.nD Cert.InprojMainIdeal.τ).loc Cert.InprojMainIdeal.main_arg3))
      ∧ θ_run (Cert.InprojMainRefIdeal.defs (F := Ideal)) (onTc (τ := Cert.InprojMainRefIdeal.τ) (Cert.InprojMainRefIdeal.main (F := Ideal))) ⟨m', fun _ => 0, g'⟩ (fun r => ∀ c : Dev Cert.InprojMainRefIdeal.nD,
          r.2.mem ((c.tc : Thread Cert.InprojMainRefIdeal.nD Cert.InprojMainRefIdeal.τ).loc Cert.InprojMainRefIdeal.main_v24) = v0 c
          ∧ r.2.mem ((c.tc : Thread Cert.InprojMainRefIdeal.nD Cert.InprojMainRefIdeal.τ).loc Cert.InprojMainRefIdeal.main_arg0) = m' ((c.tc : Thread Cert.InprojMainRefIdeal.nD Cert.InprojMainRefIdeal.τ).loc Cert.InprojMainRefIdeal.main_arg0)
          ∧ r.2.mem ((c.tc : Thread Cert.InprojMainRefIdeal.nD Cert.InprojMainRefIdeal.τ).loc Cert.InprojMainRefIdeal.main_arg1) = m' ((c.tc : Thread Cert.InprojMainRefIdeal.nD Cert.InprojMainRefIdeal.τ).loc Cert.InprojMainRefIdeal.main_arg1)
          ∧ r.2.mem ((c.tc : Thread Cert.InprojMainRefIdeal.nD Cert.InprojMainRefIdeal.τ).loc Cert.InprojMainRefIdeal.main_arg2) = m' ((c.tc : Thread Cert.InprojMainRefIdeal.nD Cert.InprojMainRefIdeal.τ).loc Cert.InprojMainRefIdeal.main_arg2)
          ∧ r.2.mem ((c.tc : Thread Cert.InprojMainRefIdeal.nD Cert.InprojMainRefIdeal.τ).loc Cert.InprojMainRefIdeal.main_arg3) = m' ((c.tc : Thread Cert.InprojMainRefIdeal.nD Cert.InprojMainRefIdeal.τ).loc Cert.InprojMainRefIdeal.main_arg3))

def preserves_InprojQkv_InprojQkvIdeal : Prop :=
  True

def algebraic_InprojQkvIdeal_InprojQkvRefIdeal [hInprojQkvIdeal : Cert.InprojQkvIdeal.Facts] [hInprojQkvRefIdeal : Cert.InprojQkvRefIdeal.Facts] : Prop :=
  ∀ (m : (ℓ : Loc Cert.InprojQkvIdeal.nD Cert.InprojQkvIdeal.τ Cert.InprojQkvIdeal.sig) → Buf (Elt Ideal) ℓ) (g : Dev Cert.InprojQkvIdeal.nD → PrngReg)
    (m' : (ℓ : Loc Cert.InprojQkvRefIdeal.nD Cert.InprojQkvRefIdeal.τ Cert.InprojQkvRefIdeal.sig) → Buf (Elt Ideal) ℓ) (g' : Dev Cert.InprojQkvRefIdeal.nD → PrngReg), Pre_InprojQkvIdeal m →
    (∀ c : Dev Cert.InprojQkvIdeal.nD,
      m' ((c.tc : Thread Cert.InprojQkvRefIdeal.nD Cert.InprojQkvRefIdeal.τ).loc Cert.InprojQkvRefIdeal.main_arg0) = m ((c.tc : Thread Cert.InprojQkvIdeal.nD Cert.InprojQkvIdeal.τ).loc Cert.InprojQkvIdeal.main_arg0)
      ∧ m' ((c.tc : Thread Cert.InprojQkvRefIdeal.nD Cert.InprojQkvRefIdeal.τ).loc Cert.InprojQkvRefIdeal.main_arg1) = m ((c.tc : Thread Cert.InprojQkvIdeal.nD Cert.InprojQkvIdeal.τ).loc Cert.InprojQkvIdeal.main_arg1)
      ∧ m' ((c.tc : Thread Cert.InprojQkvRefIdeal.nD Cert.InprojQkvRefIdeal.τ).loc Cert.InprojQkvRefIdeal.main_arg2) = m ((c.tc : Thread Cert.InprojQkvIdeal.nD Cert.InprojQkvIdeal.τ).loc Cert.InprojQkvIdeal.main_arg2)
      ∧ m' ((c.tc : Thread Cert.InprojQkvRefIdeal.nD Cert.InprojQkvRefIdeal.τ).loc Cert.InprojQkvRefIdeal.main_arg3) = m ((c.tc : Thread Cert.InprojQkvIdeal.nD Cert.InprojQkvIdeal.τ).loc Cert.InprojQkvIdeal.main_arg3)) →
    ∃ (v0 : (c : Dev Cert.InprojQkvIdeal.nD) → Buf (Elt Ideal) ((c.tc : Thread Cert.InprojQkvIdeal.nD Cert.InprojQkvIdeal.τ).loc Cert.InprojQkvIdeal.main_v0)),
      θ_run (Cert.InprojQkvIdeal.defs (F := Ideal)) (onTc (τ := Cert.InprojQkvIdeal.τ) (Cert.InprojQkvIdeal.main (F := Ideal))) ⟨m, fun _ => 0, g⟩ (fun r => ∀ c : Dev Cert.InprojQkvIdeal.nD,
          r.2.mem ((c.tc : Thread Cert.InprojQkvIdeal.nD Cert.InprojQkvIdeal.τ).loc Cert.InprojQkvIdeal.main_v0) = v0 c
          ∧ r.2.mem ((c.tc : Thread Cert.InprojQkvIdeal.nD Cert.InprojQkvIdeal.τ).loc Cert.InprojQkvIdeal.main_arg0) = m ((c.tc : Thread Cert.InprojQkvIdeal.nD Cert.InprojQkvIdeal.τ).loc Cert.InprojQkvIdeal.main_arg0)
          ∧ r.2.mem ((c.tc : Thread Cert.InprojQkvIdeal.nD Cert.InprojQkvIdeal.τ).loc Cert.InprojQkvIdeal.main_arg1) = m ((c.tc : Thread Cert.InprojQkvIdeal.nD Cert.InprojQkvIdeal.τ).loc Cert.InprojQkvIdeal.main_arg1)
          ∧ r.2.mem ((c.tc : Thread Cert.InprojQkvIdeal.nD Cert.InprojQkvIdeal.τ).loc Cert.InprojQkvIdeal.main_arg2) = m ((c.tc : Thread Cert.InprojQkvIdeal.nD Cert.InprojQkvIdeal.τ).loc Cert.InprojQkvIdeal.main_arg2)
          ∧ r.2.mem ((c.tc : Thread Cert.InprojQkvIdeal.nD Cert.InprojQkvIdeal.τ).loc Cert.InprojQkvIdeal.main_arg3) = m ((c.tc : Thread Cert.InprojQkvIdeal.nD Cert.InprojQkvIdeal.τ).loc Cert.InprojQkvIdeal.main_arg3))
      ∧ θ_run (Cert.InprojQkvRefIdeal.defs (F := Ideal)) (onTc (τ := Cert.InprojQkvRefIdeal.τ) (Cert.InprojQkvRefIdeal.main (F := Ideal))) ⟨m', fun _ => 0, g'⟩ (fun r => ∀ c : Dev Cert.InprojQkvRefIdeal.nD,
          r.2.mem ((c.tc : Thread Cert.InprojQkvRefIdeal.nD Cert.InprojQkvRefIdeal.τ).loc Cert.InprojQkvRefIdeal.main_v23) = v0 c
          ∧ r.2.mem ((c.tc : Thread Cert.InprojQkvRefIdeal.nD Cert.InprojQkvRefIdeal.τ).loc Cert.InprojQkvRefIdeal.main_arg0) = m' ((c.tc : Thread Cert.InprojQkvRefIdeal.nD Cert.InprojQkvRefIdeal.τ).loc Cert.InprojQkvRefIdeal.main_arg0)
          ∧ r.2.mem ((c.tc : Thread Cert.InprojQkvRefIdeal.nD Cert.InprojQkvRefIdeal.τ).loc Cert.InprojQkvRefIdeal.main_arg1) = m' ((c.tc : Thread Cert.InprojQkvRefIdeal.nD Cert.InprojQkvRefIdeal.τ).loc Cert.InprojQkvRefIdeal.main_arg1)
          ∧ r.2.mem ((c.tc : Thread Cert.InprojQkvRefIdeal.nD Cert.InprojQkvRefIdeal.τ).loc Cert.InprojQkvRefIdeal.main_arg2) = m' ((c.tc : Thread Cert.InprojQkvRefIdeal.nD Cert.InprojQkvRefIdeal.τ).loc Cert.InprojQkvRefIdeal.main_arg2)
          ∧ r.2.mem ((c.tc : Thread Cert.InprojQkvRefIdeal.nD Cert.InprojQkvRefIdeal.τ).loc Cert.InprojQkvRefIdeal.main_arg3) = m' ((c.tc : Thread Cert.InprojQkvRefIdeal.nD Cert.InprojQkvRefIdeal.τ).loc Cert.InprojQkvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_v66) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ffn_FfnIdeal : Prop :=
  True

def algebraic_FfnIdeal_FfnRefIdeal_pre_gates_spread [hFfnIdeal : Cert.FfnIdeal.Facts] [hFfnRefIdeal : Cert.FfnRefIdeal.Facts] [hPre_gates_spread : Cert.Pre_gates_spread.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_gates_spread m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_v29) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v5) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v5) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_MainSample_MainSampleIdeal : Prop :=
  True

def algebraic_MainSampleIdeal_MainSampleRefIdeal [hMainSampleIdeal : Cert.MainSampleIdeal.Facts] [hMainSampleRefIdeal : Cert.MainSampleRefIdeal.Facts] : Prop :=
  ∀ (m : (ℓ : Loc Cert.MainSampleIdeal.nD Cert.MainSampleIdeal.τ Cert.MainSampleIdeal.sig) → Buf (Elt Ideal) ℓ) (g : Dev Cert.MainSampleIdeal.nD → PrngReg)
    (m' : (ℓ : Loc Cert.MainSampleRefIdeal.nD Cert.MainSampleRefIdeal.τ Cert.MainSampleRefIdeal.sig) → Buf (Elt Ideal) ℓ) (g' : Dev Cert.MainSampleRefIdeal.nD → PrngReg), Pre_MainSampleIdeal m →
    (∀ c : Dev Cert.MainSampleIdeal.nD,
      m' ((c.tc : Thread Cert.MainSampleRefIdeal.nD Cert.MainSampleRefIdeal.τ).loc Cert.MainSampleRefIdeal.main_arg0) = m ((c.tc : Thread Cert.MainSampleIdeal.nD Cert.MainSampleIdeal.τ).loc Cert.MainSampleIdeal.main_arg0)
      ∧ m' ((c.tc : Thread Cert.MainSampleRefIdeal.nD Cert.MainSampleRefIdeal.τ).loc Cert.MainSampleRefIdeal.main_arg1) = m ((c.tc : Thread Cert.MainSampleIdeal.nD Cert.MainSampleIdeal.τ).loc Cert.MainSampleIdeal.main_arg1)
      ∧ m' ((c.tc : Thread Cert.MainSampleRefIdeal.nD Cert.MainSampleRefIdeal.τ).loc Cert.MainSampleRefIdeal.main_arg2) = m ((c.tc : Thread Cert.MainSampleIdeal.nD Cert.MainSampleIdeal.τ).loc Cert.MainSampleIdeal.main_arg2)
      ∧ m' ((c.tc : Thread Cert.MainSampleRefIdeal.nD Cert.MainSampleRefIdeal.τ).loc Cert.MainSampleRefIdeal.main_arg3) = m ((c.tc : Thread Cert.MainSampleIdeal.nD Cert.MainSampleIdeal.τ).loc Cert.MainSampleIdeal.main_arg3)) →
    ∃ (v0 : (c : Dev Cert.MainSampleIdeal.nD) → Buf (Elt Ideal) ((c.tc : Thread Cert.MainSampleIdeal.nD Cert.MainSampleIdeal.τ).loc Cert.MainSampleIdeal.main_v0)),
      θ_run (Cert.MainSampleIdeal.defs (F := Ideal)) (onTc (τ := Cert.MainSampleIdeal.τ) (Cert.MainSampleIdeal.main (F := Ideal))) ⟨m, fun _ => 0, g⟩ (fun r => ∀ c : Dev Cert.MainSampleIdeal.nD,
          r.2.mem ((c.tc : Thread Cert.MainSampleIdeal.nD Cert.MainSampleIdeal.τ).loc Cert.MainSampleIdeal.main_v0) = v0 c
          ∧ r.2.mem ((c.tc : Thread Cert.MainSampleIdeal.nD Cert.MainSampleIdeal.τ).loc Cert.MainSampleIdeal.main_arg0) = m ((c.tc : Thread Cert.MainSampleIdeal.nD Cert.MainSampleIdeal.τ).loc Cert.MainSampleIdeal.main_arg0)
          ∧ r.2.mem ((c.tc : Thread Cert.MainSampleIdeal.nD Cert.MainSampleIdeal.τ).loc Cert.MainSampleIdeal.main_arg1) = m ((c.tc : Thread Cert.MainSampleIdeal.nD Cert.MainSampleIdeal.τ).loc Cert.MainSampleIdeal.main_arg1)
          ∧ r.2.mem ((c.tc : Thread Cert.MainSampleIdeal.nD Cert.MainSampleIdeal.τ).loc Cert.MainSampleIdeal.main_arg2) = m ((c.tc : Thread Cert.MainSampleIdeal.nD Cert.MainSampleIdeal.τ).loc Cert.MainSampleIdeal.main_arg2)
          ∧ r.2.mem ((c.tc : Thread Cert.MainSampleIdeal.nD Cert.MainSampleIdeal.τ).loc Cert.MainSampleIdeal.main_arg3) = m ((c.tc : Thread Cert.MainSampleIdeal.nD Cert.MainSampleIdeal.τ).loc Cert.MainSampleIdeal.main_arg3))
      ∧ θ_run (Cert.MainSampleRefIdeal.defs (F := Ideal)) (onTc (τ := Cert.MainSampleRefIdeal.τ) (Cert.MainSampleRefIdeal.main (F := Ideal))) ⟨m', fun _ => 0, g'⟩ (fun r => ∀ c : Dev Cert.MainSampleRefIdeal.nD,
          r.2.mem ((c.tc : Thread Cert.MainSampleRefIdeal.nD Cert.MainSampleRefIdeal.τ).loc Cert.MainSampleRefIdeal.main_v25) = v0 c
          ∧ r.2.mem ((c.tc : Thread Cert.MainSampleRefIdeal.nD Cert.MainSampleRefIdeal.τ).loc Cert.MainSampleRefIdeal.main_arg0) = m' ((c.tc : Thread Cert.MainSampleRefIdeal.nD Cert.MainSampleRefIdeal.τ).loc Cert.MainSampleRefIdeal.main_arg0)
          ∧ r.2.mem ((c.tc : Thread Cert.MainSampleRefIdeal.nD Cert.MainSampleRefIdeal.τ).loc Cert.MainSampleRefIdeal.main_arg1) = m' ((c.tc : Thread Cert.MainSampleRefIdeal.nD Cert.MainSampleRefIdeal.τ).loc Cert.MainSampleRefIdeal.main_arg1)
          ∧ r.2.mem ((c.tc : Thread Cert.MainSampleRefIdeal.nD Cert.MainSampleRefIdeal.τ).loc Cert.MainSampleRefIdeal.main_arg2) = m' ((c.tc : Thread Cert.MainSampleRefIdeal.nD Cert.MainSampleRefIdeal.τ).loc Cert.MainSampleRefIdeal.main_arg2)
          ∧ r.2.mem ((c.tc : Thread Cert.MainSampleRefIdeal.nD Cert.MainSampleRefIdeal.τ).loc Cert.MainSampleRefIdeal.main_arg3) = m' ((c.tc : Thread Cert.MainSampleRefIdeal.nD Cert.MainSampleRefIdeal.τ).loc Cert.MainSampleRefIdeal.main_arg3))

def preserves_QkvSample_QkvSampleIdeal : Prop :=
  True

def algebraic_QkvSampleIdeal_QkvSampleRefIdeal [hQkvSampleIdeal : Cert.QkvSampleIdeal.Facts] [hQkvSampleRefIdeal : Cert.QkvSampleRefIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleRefIdeal.nD Cert.QkvSampleRefIdeal.τ Cert.QkvSampleRefIdeal.sig) → Buf (Elt Ideal) ℓ) (g' : Dev Cert.QkvSampleRefIdeal.nD → PrngReg), Pre_QkvSampleIdeal m →
    (∀ c : Dev Cert.QkvSampleIdeal.nD,
      m' ((c.tc : Thread Cert.QkvSampleRefIdeal.nD Cert.QkvSampleRefIdeal.τ).loc Cert.QkvSampleRefIdeal.main_arg0) = m ((c.tc : Thread Cert.QkvSampleIdeal.nD Cert.QkvSampleIdeal.τ).loc Cert.QkvSampleIdeal.main_arg0)
      ∧ m' ((c.tc : Thread Cert.QkvSampleRefIdeal.nD Cert.QkvSampleRefIdeal.τ).loc Cert.QkvSampleRefIdeal.main_arg1) = m ((c.tc : Thread Cert.QkvSampleIdeal.nD Cert.QkvSampleIdeal.τ).loc Cert.QkvSampleIdeal.main_arg1)
      ∧ m' ((c.tc : Thread Cert.QkvSampleRefIdeal.nD Cert.QkvSampleRefIdeal.τ).loc Cert.QkvSampleRefIdeal.main_arg2) = m ((c.tc : Thread Cert.QkvSampleIdeal.nD Cert.QkvSampleIdeal.τ).loc Cert.QkvSampleIdeal.main_arg2)
      ∧ m' ((c.tc : Thread Cert.QkvSampleRefIdeal.nD Cert.QkvSampleRefIdeal.τ).loc Cert.QkvSampleRefIdeal.main_arg3) = m ((c.tc : Thread Cert.QkvSampleIdeal.nD Cert.QkvSampleIdeal.τ).loc Cert.QkvSampleIdeal.main_arg3)) →
    ∃ (v0 : (c : Dev Cert.QkvSampleIdeal.nD) → Buf (Elt Ideal) ((c.tc : Thread Cert.QkvSampleIdeal.nD Cert.QkvSampleIdeal.τ).loc Cert.QkvSampleIdeal.main_v0)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v0) = v0 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
          ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3))
      ∧ θ_run (Cert.QkvSampleRefIdeal.defs (F := Ideal)) (onTc (τ := Cert.QkvSampleRefIdeal.τ) (Cert.QkvSampleRefIdeal.main (F := Ideal))) ⟨m', fun _ => 0, g'⟩ (fun r => ∀ c : Dev Cert.QkvSampleRefIdeal.nD,
          r.2.mem ((c.tc : Thread Cert.QkvSampleRefIdeal.nD Cert.QkvSampleRefIdeal.τ).loc Cert.QkvSampleRefIdeal.main_v24) = v0 c
          ∧ r.2.mem ((c.tc : Thread Cert.QkvSampleRefIdeal.nD Cert.QkvSampleRefIdeal.τ).loc Cert.QkvSampleRefIdeal.main_arg0) = m' ((c.tc : Thread Cert.QkvSampleRefIdeal.nD Cert.QkvSampleRefIdeal.τ).loc Cert.QkvSampleRefIdeal.main_arg0)
          ∧ r.2.mem ((c.tc : Thread Cert.QkvSampleRefIdeal.nD Cert.QkvSampleRefIdeal.τ).loc Cert.QkvSampleRefIdeal.main_arg1) = m' ((c.tc : Thread Cert.QkvSampleRefIdeal.nD Cert.QkvSampleRefIdeal.τ).loc Cert.QkvSampleRefIdeal.main_arg1)
          ∧ r.2.mem ((c.tc : Thread Cert.QkvSampleRefIdeal.nD Cert.QkvSampleRefIdeal.τ).loc Cert.QkvSampleRefIdeal.main_arg2) = m' ((c.tc : Thread Cert.QkvSampleRefIdeal.nD Cert.QkvSampleRefIdeal.τ).loc Cert.QkvSampleRefIdeal.main_arg2)
          ∧ r.2.mem ((c.tc : Thread Cert.QkvSampleRefIdeal.nD Cert.QkvSampleRefIdeal.τ).loc Cert.QkvSampleRefIdeal.main_arg3) = m' ((c.tc : Thread Cert.QkvSampleRefIdeal.nD Cert.QkvSampleRefIdeal.τ).loc Cert.QkvSampleRefIdeal.main_arg3))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)
      ∧ m' ((c.tc : Thread Cert.MergeSampleRefIdeal.nD Cert.MergeSampleRefIdeal.τ).loc Cert.MergeSampleRefIdeal.main_arg10) = m ((c.tc : Thread Cert.MergeSampleIdeal.nD Cert.MergeSampleIdeal.τ).loc Cert.MergeSampleIdeal.main_arg10)) →
    ∃ (v0 : (c : Dev Cert.MergeSampleIdeal.nD) → Buf (Elt Ideal) ((c.tc : Thread Cert.MergeSampleIdeal.nD Cert.MergeSampleIdeal.τ).loc Cert.MergeSampleIdeal.main_v0_0)) (v1 : (c : Dev Cert.MergeSampleIdeal.nD) → Buf (Elt Ideal) ((c.tc : Thread Cert.MergeSampleIdeal.nD Cert.MergeSampleIdeal.τ).loc Cert.MergeSampleIdeal.main_v0_1)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v0_0) = v0 c
          ∧ r.2.mem ((c.tc : Thread Cert.MergeSampleIdeal.nD Cert.MergeSampleIdeal.τ).loc Cert.MergeSampleIdeal.main_v0_1) = v1 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v66) = v0 c
          ∧ r.2.mem ((c.tc : Thread Cert.MergeSampleRefIdeal.nD Cert.MergeSampleRefIdeal.τ).loc Cert.MergeSampleRefIdeal.main_v68) = v1 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9)
          ∧ r.2.mem ((c.tc : Thread Cert.MergeSampleRefIdeal.nD Cert.MergeSampleRefIdeal.τ).loc Cert.MergeSampleRefIdeal.main_arg10) = m' ((c.tc : Thread Cert.MergeSampleRefIdeal.nD Cert.MergeSampleRefIdeal.τ).loc Cert.MergeSampleRefIdeal.main_arg10))

def preserves_CombineSample_CombineSampleIdeal : Prop :=
  True

def algebraic_CombineSampleIdeal_CombineSampleRefIdeal [hCombineSampleIdeal : Cert.CombineSampleIdeal.Facts] [hCombineSampleRefIdeal : Cert.CombineSampleRefIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg)
    (m' : (ℓ : Loc Cert.CombineSampleRefIdeal.nD Cert.CombineSampleRefIdeal.τ Cert.CombineSampleRefIdeal.sig) → Buf (Elt Ideal) ℓ) (g' : Dev Cert.CombineSampleRefIdeal.nD → PrngReg), Pre_CombineSampleIdeal m →
    (∀ c : Dev Cert.CombineSampleIdeal.nD,
      m' ((c.tc : Thread Cert.CombineSampleRefIdeal.nD Cert.CombineSampleRefIdeal.τ).loc Cert.CombineSampleRefIdeal.main_arg0) = m ((c.tc : Thread Cert.CombineSampleIdeal.nD Cert.CombineSampleIdeal.τ).loc Cert.CombineSampleIdeal.main_arg0)
      ∧ m' ((c.tc : Thread Cert.CombineSampleRefIdeal.nD Cert.CombineSampleRefIdeal.τ).loc Cert.CombineSampleRefIdeal.main_arg1) = m ((c.tc : Thread Cert.CombineSampleIdeal.nD Cert.CombineSampleIdeal.τ).loc Cert.CombineSampleIdeal.main_arg1)
      ∧ m' ((c.tc : Thread Cert.CombineSampleRefIdeal.nD Cert.CombineSampleRefIdeal.τ).loc Cert.CombineSampleRefIdeal.main_arg2) = m ((c.tc : Thread Cert.CombineSampleIdeal.nD Cert.CombineSampleIdeal.τ).loc Cert.CombineSampleIdeal.main_arg2)
      ∧ m' ((c.tc : Thread Cert.CombineSampleRefIdeal.nD Cert.CombineSampleRefIdeal.τ).loc Cert.CombineSampleRefIdeal.main_arg3) = m ((c.tc : Thread Cert.CombineSampleIdeal.nD Cert.CombineSampleIdeal.τ).loc Cert.CombineSampleIdeal.main_arg3)) →
    ∃ (v0 : (c : Dev Cert.CombineSampleIdeal.nD) → Buf (Elt Ideal) ((c.tc : Thread Cert.CombineSampleIdeal.nD Cert.CombineSampleIdeal.τ).loc Cert.CombineSampleIdeal.main_v0)),
      θ_run (Cert.CombineSampleIdeal.defs (F := Ideal)) (onTc (τ := Cert.CombineSampleIdeal.τ) (Cert.CombineSampleIdeal.main (F := Ideal))) ⟨m, fun _ => 0, g⟩ (fun r => ∀ c : Dev Cert.CombineSampleIdeal.nD,
          r.2.mem ((c.tc : Thread Cert.CombineSampleIdeal.nD Cert.CombineSampleIdeal.τ).loc Cert.CombineSampleIdeal.main_v0) = v0 c
          ∧ r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
          ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
          ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
          ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3))
      ∧ θ_run (Cert.CombineSampleRefIdeal.defs (F := Ideal)) (onTc (τ := Cert.CombineSampleRefIdeal.τ) (Cert.CombineSampleRefIdeal.main (F := Ideal))) ⟨m', fun _ => 0, g'⟩ (fun r => ∀ c : Dev Cert.CombineSampleRefIdeal.nD,
          r.2.mem ((c.tc : Thread Cert.CombineSampleRefIdeal.nD Cert.CombineSampleRefIdeal.τ).loc Cert.CombineSampleRefIdeal.main_v5) = v0 c
          ∧ r.2.mem ((c.tc : Thread Cert.CombineSampleRefIdeal.nD Cert.CombineSampleRefIdeal.τ).loc Cert.CombineSampleRefIdeal.main_arg0) = m' ((c.tc : Thread Cert.CombineSampleRefIdeal.nD Cert.CombineSampleRefIdeal.τ).loc Cert.CombineSampleRefIdeal.main_arg0)
          ∧ r.2.mem ((c.tc : Thread Cert.CombineSampleRefIdeal.nD Cert.CombineSampleRefIdeal.τ).loc Cert.CombineSampleRefIdeal.main_arg1) = m' ((c.tc : Thread Cert.CombineSampleRefIdeal.nD Cert.CombineSampleRefIdeal.τ).loc Cert.CombineSampleRefIdeal.main_arg1)
          ∧ r.2.mem ((c.tc : Thread Cert.CombineSampleRefIdeal.nD Cert.CombineSampleRefIdeal.τ).loc Cert.CombineSampleRefIdeal.main_arg2) = m' ((c.tc : Thread Cert.CombineSampleRefIdeal.nD Cert.CombineSampleRefIdeal.τ).loc Cert.CombineSampleRefIdeal.main_arg2)
          ∧ r.2.mem ((c.tc : Thread Cert.CombineSampleRefIdeal.nD Cert.CombineSampleRefIdeal.τ).loc Cert.CombineSampleRefIdeal.main_arg3) = m' ((c.tc : Thread Cert.CombineSampleRefIdeal.nD Cert.CombineSampleRefIdeal.τ).loc Cert.CombineSampleRefIdeal.main_arg3))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)
      ∧ m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)
      ∧ m' ((c.tc : Thread Cert.ShortConvRefIdeal.nD Cert.ShortConvRefIdeal.τ).loc Cert.ShortConvRefIdeal.main_arg5) = m ((c.tc : Thread Cert.ShortConvIdeal.nD Cert.ShortConvIdeal.τ).loc Cert.ShortConvIdeal.main_arg5)
      ∧ m' ((c.tc : Thread Cert.ShortConvRefIdeal.nD Cert.ShortConvRefIdeal.τ).loc Cert.ShortConvRefIdeal.main_arg6) = m ((c.tc : Thread Cert.ShortConvIdeal.nD Cert.ShortConvIdeal.τ).loc Cert.ShortConvIdeal.main_arg6)
      ∧ m' ((c.tc : Thread Cert.ShortConvRefIdeal.nD Cert.ShortConvRefIdeal.τ).loc Cert.ShortConvRefIdeal.main_arg7) = m ((c.tc : Thread Cert.ShortConvIdeal.nD Cert.ShortConvIdeal.τ).loc Cert.ShortConvIdeal.main_arg7)
      ∧ m' ((c.tc : Thread Cert.ShortConvRefIdeal.nD Cert.ShortConvRefIdeal.τ).loc Cert.ShortConvRefIdeal.main_arg8) = m ((c.tc : Thread Cert.ShortConvIdeal.nD Cert.ShortConvIdeal.τ).loc Cert.ShortConvIdeal.main_arg8)) →
    ∃ (v0 : (c : Dev Cert.ShortConvIdeal.nD) → Buf (Elt Ideal) ((c.tc : Thread Cert.ShortConvIdeal.nD Cert.ShortConvIdeal.τ).loc Cert.ShortConvIdeal.main_v2_1)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v2_1) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
          ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
          ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
          ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7)
          ∧ r.2.mem ((c.tc : Thread Cert.ShortConvIdeal.nD Cert.ShortConvIdeal.τ).loc Cert.ShortConvIdeal.main_arg8) = m ((c.tc : Thread Cert.ShortConvIdeal.nD Cert.ShortConvIdeal.τ).loc Cert.ShortConvIdeal.main_arg8))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v31) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3)
          ∧ r.2.mem ((c.tc : Thread Cert.ShortConvRefIdeal.nD Cert.ShortConvRefIdeal.τ).loc Cert.ShortConvRefIdeal.main_arg4) = m' ((c.tc : Thread Cert.ShortConvRefIdeal.nD Cert.ShortConvRefIdeal.τ).loc Cert.ShortConvRefIdeal.main_arg4)
          ∧ r.2.mem ((c.tc : Thread Cert.ShortConvRefIdeal.nD Cert.ShortConvRefIdeal.τ).loc Cert.ShortConvRefIdeal.main_arg5) = m' ((c.tc : Thread Cert.ShortConvRefIdeal.nD Cert.ShortConvRefIdeal.τ).loc Cert.ShortConvRefIdeal.main_arg5)
          ∧ r.2.mem ((c.tc : Thread Cert.ShortConvRefIdeal.nD Cert.ShortConvRefIdeal.τ).loc Cert.ShortConvRefIdeal.main_arg6) = m' ((c.tc : Thread Cert.ShortConvRefIdeal.nD Cert.ShortConvRefIdeal.τ).loc Cert.ShortConvRefIdeal.main_arg6)
          ∧ r.2.mem ((c.tc : Thread Cert.ShortConvRefIdeal.nD Cert.ShortConvRefIdeal.τ).loc Cert.ShortConvRefIdeal.main_arg7) = m' ((c.tc : Thread Cert.ShortConvRefIdeal.nD Cert.ShortConvRefIdeal.τ).loc Cert.ShortConvRefIdeal.main_arg7)
          ∧ r.2.mem ((c.tc : Thread Cert.ShortConvRefIdeal.nD Cert.ShortConvRefIdeal.τ).loc Cert.ShortConvRefIdeal.main_arg8) = m' ((c.tc : Thread Cert.ShortConvRefIdeal.nD Cert.ShortConvRefIdeal.τ).loc Cert.ShortConvRefIdeal.main_arg8))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)
      ∧ m' ((c.tc : Thread Cert.ConvSampleRefIdeal.nD Cert.ConvSampleRefIdeal.τ).loc Cert.ConvSampleRefIdeal.main_arg6) = m ((c.tc : Thread Cert.ConvSampleIdeal.nD Cert.ConvSampleIdeal.τ).loc Cert.ConvSampleIdeal.main_arg6)
      ∧ m' ((c.tc : Thread Cert.ConvSampleRefIdeal.nD Cert.ConvSampleRefIdeal.τ).loc Cert.ConvSampleRefIdeal.main_arg7) = m ((c.tc : Thread Cert.ConvSampleIdeal.nD Cert.ConvSampleIdeal.τ).loc Cert.ConvSampleIdeal.main_arg7)
      ∧ m' ((c.tc : Thread Cert.ConvSampleRefIdeal.nD Cert.ConvSampleRefIdeal.τ).loc Cert.ConvSampleRefIdeal.main_arg8) = m ((c.tc : Thread Cert.ConvSampleIdeal.nD Cert.ConvSampleIdeal.τ).loc Cert.ConvSampleIdeal.main_arg8)) →
    ∃ (v0 : (c : Dev Cert.ConvSampleIdeal.nD) → Buf (Elt Ideal) ((c.tc : Thread Cert.ConvSampleIdeal.nD Cert.ConvSampleIdeal.τ).loc Cert.ConvSampleIdeal.main_v2_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v2_1) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
          ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6)
          ∧ r.2.mem ((c.tc : Thread Cert.ConvSampleIdeal.nD Cert.ConvSampleIdeal.τ).loc Cert.ConvSampleIdeal.main_arg7) = m ((c.tc : Thread Cert.ConvSampleIdeal.nD Cert.ConvSampleIdeal.τ).loc Cert.ConvSampleIdeal.main_arg7)
          ∧ r.2.mem ((c.tc : Thread Cert.ConvSampleIdeal.nD Cert.ConvSampleIdeal.τ).loc Cert.ConvSampleIdeal.main_arg8) = m ((c.tc : Thread Cert.ConvSampleIdeal.nD Cert.ConvSampleIdeal.τ).loc Cert.ConvSampleIdeal.main_arg8))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v31) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5)
          ∧ r.2.mem ((c.tc : Thread Cert.ConvSampleRefIdeal.nD Cert.ConvSampleRefIdeal.τ).loc Cert.ConvSampleRefIdeal.main_arg6) = m' ((c.tc : Thread Cert.ConvSampleRefIdeal.nD Cert.ConvSampleRefIdeal.τ).loc Cert.ConvSampleRefIdeal.main_arg6)
          ∧ r.2.mem ((c.tc : Thread Cert.ConvSampleRefIdeal.nD Cert.ConvSampleRefIdeal.τ).loc Cert.ConvSampleRefIdeal.main_arg7) = m' ((c.tc : Thread Cert.ConvSampleRefIdeal.nD Cert.ConvSampleRefIdeal.τ).loc Cert.ConvSampleRefIdeal.main_arg7)
          ∧ r.2.mem ((c.tc : Thread Cert.ConvSampleRefIdeal.nD Cert.ConvSampleRefIdeal.τ).loc Cert.ConvSampleRefIdeal.main_arg8) = m' ((c.tc : Thread Cert.ConvSampleRefIdeal.nD Cert.ConvSampleRefIdeal.τ).loc Cert.ConvSampleRefIdeal.main_arg8))

def Claim : Prop :=
  ∃ (hAttention : Cert.Attention.Facts) (hAttentionIdeal : Cert.AttentionIdeal.Facts) (hAttentionRefIdeal : Cert.AttentionRefIdeal.Facts) (hInprojMain : Cert.InprojMain.Facts) (hInprojMainIdeal : Cert.InprojMainIdeal.Facts) (hInprojMainRefIdeal : Cert.InprojMainRefIdeal.Facts) (hInprojQkv : Cert.InprojQkv.Facts) (hInprojQkvIdeal : Cert.InprojQkvIdeal.Facts) (hInprojQkvRefIdeal : Cert.InprojQkvRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hModulation : Cert.Modulation.Facts) (hModulationIdeal : Cert.ModulationIdeal.Facts) (hModulationRefIdeal : Cert.ModulationRefIdeal.Facts) (hCombine : Cert.Combine.Facts) (hCombineIdeal : Cert.CombineIdeal.Facts) (hCombineRefIdeal : Cert.CombineRefIdeal.Facts) (hMainSample : Cert.MainSample.Facts) (hMainSampleIdeal : Cert.MainSampleIdeal.Facts) (hMainSampleRefIdeal : Cert.MainSampleRefIdeal.Facts) (hQkvSample : Cert.QkvSample.Facts) (hQkvSampleIdeal : Cert.QkvSampleIdeal.Facts) (hQkvSampleRefIdeal : Cert.QkvSampleRefIdeal.Facts) (hMergeSample : Cert.MergeSample.Facts) (hMergeSampleIdeal : Cert.MergeSampleIdeal.Facts) (hMergeSampleRefIdeal : Cert.MergeSampleRefIdeal.Facts) (hCombineSample : Cert.CombineSample.Facts) (hCombineSampleIdeal : Cert.CombineSampleIdeal.Facts) (hCombineSampleRefIdeal : Cert.CombineSampleRefIdeal.Facts) (hShortConv : Cert.ShortConv.Facts) (hShortConvIdeal : Cert.ShortConvIdeal.Facts) (hShortConvRefIdeal : Cert.ShortConvRefIdeal.Facts) (hConvSample : Cert.ConvSample.Facts) (hConvSampleIdeal : Cert.ConvSampleIdeal.Facts) (hConvSampleRefIdeal : Cert.ConvSampleRefIdeal.Facts) (hPre_finite_qk : Cert.Pre_finite_qk.Facts) (hPre_gates_spread : Cert.Pre_gates_spread.Facts),
    quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionRefIdeal (hAttentionRefIdeal := hAttentionRefIdeal)
    ∧ quiescent_AttentionRefIdeal_pre_finite_qk (hAttentionRefIdeal := hAttentionRefIdeal) (hPre_finite_qk := hPre_finite_qk)
    ∧ quiescent_InprojMain (hInprojMain := hInprojMain)
    ∧ quiescent_InprojMainIdeal (hInprojMainIdeal := hInprojMainIdeal)
    ∧ quiescent_InprojMainRefIdeal (hInprojMainRefIdeal := hInprojMainRefIdeal)
    ∧ quiescent_InprojQkv (hInprojQkv := hInprojQkv)
    ∧ quiescent_InprojQkvIdeal (hInprojQkvIdeal := hInprojQkvIdeal)
    ∧ quiescent_InprojQkvRefIdeal (hInprojQkvRefIdeal := hInprojQkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnIdeal_pre_gates_spread (hFfnIdeal := hFfnIdeal) (hPre_gates_spread := hPre_gates_spread)
    ∧ quiescent_FfnRefIdeal (hFfnRefIdeal := hFfnRefIdeal)
    ∧ quiescent_FfnRefIdeal_pre_gates_spread (hFfnRefIdeal := hFfnRefIdeal) (hPre_gates_spread := hPre_gates_spread)
    ∧ quiescent_Modulation (hModulation := hModulation)
    ∧ quiescent_ModulationIdeal (hModulationIdeal := hModulationIdeal)
    ∧ quiescent_ModulationRefIdeal (hModulationRefIdeal := hModulationRefIdeal)
    ∧ quiescent_Combine (hCombine := hCombine)
    ∧ quiescent_CombineIdeal (hCombineIdeal := hCombineIdeal)
    ∧ quiescent_CombineRefIdeal (hCombineRefIdeal := hCombineRefIdeal)
    ∧ quiescent_MainSample (hMainSample := hMainSample)
    ∧ quiescent_MainSampleIdeal (hMainSampleIdeal := hMainSampleIdeal)
    ∧ quiescent_MainSampleRefIdeal (hMainSampleRefIdeal := hMainSampleRefIdeal)
    ∧ quiescent_QkvSample (hQkvSample := hQkvSample)
    ∧ quiescent_QkvSampleIdeal (hQkvSampleIdeal := hQkvSampleIdeal)
    ∧ quiescent_QkvSampleRefIdeal (hQkvSampleRefIdeal := hQkvSampleRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_CombineSample (hCombineSample := hCombineSample)
    ∧ quiescent_CombineSampleIdeal (hCombineSampleIdeal := hCombineSampleIdeal)
    ∧ quiescent_CombineSampleRefIdeal (hCombineSampleRefIdeal := hCombineSampleRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ preserves_Attention_AttentionIdeal
    ∧ algebraic_AttentionIdeal_AttentionRefIdeal_pre_finite_qk (hAttentionIdeal := hAttentionIdeal) (hAttentionRefIdeal := hAttentionRefIdeal) (hPre_finite_qk := hPre_finite_qk)
    ∧ preserves_InprojMain_InprojMainIdeal
    ∧ algebraic_InprojMainIdeal_InprojMainRefIdeal (hInprojMainIdeal := hInprojMainIdeal) (hInprojMainRefIdeal := hInprojMainRefIdeal)
    ∧ preserves_InprojQkv_InprojQkvIdeal
    ∧ algebraic_InprojQkvIdeal_InprojQkvRefIdeal (hInprojQkvIdeal := hInprojQkvIdeal) (hInprojQkvRefIdeal := hInprojQkvRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal_pre_gates_spread (hFfnIdeal := hFfnIdeal) (hFfnRefIdeal := hFfnRefIdeal) (hPre_gates_spread := hPre_gates_spread)
    ∧ preserves_Modulation_ModulationIdeal
    ∧ algebraic_ModulationIdeal_ModulationRefIdeal (hModulationIdeal := hModulationIdeal) (hModulationRefIdeal := hModulationRefIdeal)
    ∧ preserves_Combine_CombineIdeal
    ∧ algebraic_CombineIdeal_CombineRefIdeal (hCombineIdeal := hCombineIdeal) (hCombineRefIdeal := hCombineRefIdeal)
    ∧ preserves_MainSample_MainSampleIdeal
    ∧ algebraic_MainSampleIdeal_MainSampleRefIdeal (hMainSampleIdeal := hMainSampleIdeal) (hMainSampleRefIdeal := hMainSampleRefIdeal)
    ∧ preserves_QkvSample_QkvSampleIdeal
    ∧ algebraic_QkvSampleIdeal_QkvSampleRefIdeal (hQkvSampleIdeal := hQkvSampleIdeal) (hQkvSampleRefIdeal := hQkvSampleRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_CombineSample_CombineSampleIdeal
    ∧ algebraic_CombineSampleIdeal_CombineSampleRefIdeal (hCombineSampleIdeal := hCombineSampleIdeal) (hCombineSampleRefIdeal := hCombineSampleRefIdeal)
    ∧ preserves_ShortConv_ShortConvIdeal
    ∧ algebraic_ShortConvIdeal_ShortConvRefIdeal (hShortConvIdeal := hShortConvIdeal) (hShortConvRefIdeal := hShortConvRefIdeal)
    ∧ preserves_ConvSample_ConvSampleIdeal
    ∧ algebraic_ConvSampleIdeal_ConvSampleRefIdeal (hConvSampleIdeal := hConvSampleIdeal) (hConvSampleRefIdeal := hConvSampleRefIdeal)
-- ==== Pre_finite_qk.lean ====
abbrev S16x256x768 : Shape := ⟨3, ![16, 256, 768]⟩
abbrev S64 : Shape := ⟨1, ![64]⟩
abbrev S16x256x640 : Shape := ⟨3, ![16, 256, 640]⟩
abbrev S_ : Shape := ⟨0, ![]⟩

class Facts : Prop where
  slices_S16x256x768_S16x256x640_0_0_0 : S16x256x768.Slices ![0, 0, 0] S16x256x640
  bcast_S_S16x256x640 : S_.BroadcastsInDim S16x256x640 (![] : Fin 0 → Fin S16x256x640.rank)
  bcast_S_S64 : S_.BroadcastsInDim S64 (![] : Fin 0 → Fin S64.rank)

variable [Facts]

def fn {F : FTy → Type} [FloatOps F] (main_arg0 : FVec F S16x256x768 .f32) (main_arg1 : FVec F S64 .f32) (main_arg2 : FVec F S64 .f32) : IVec S16x256x640 1 × IVec S64 1 × IVec S64 1 :=
  let main_v0 : FVec F S16x256x640 .f32 := (extractStridedSlice S16x256x640 ![0, 0, 0] · slices_S16x256x768_S16x256x640_0_0_0) main_arg0
  let main_v1 : FVec F S16x256x640 .f32 := Host.absf main_v0
  let main_cst : FVec F S_ .f32 := constant S_ .f32 0x7F800000#32
  let main_v2 : FVec F S16x256x640 .f32 := broadcastInDim S16x256x640 ![] bcast_S_S16x256x640 main_cst
  let main_v3 : IVec S16x256x640 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  (main_v3, main_v6, main_v9)
-- ==== Pre_gates_spread.lean ====
abbrev S16x16x32x1024 : Shape := ⟨4, ![16, 16, 32, 1024]⟩
abbrev S16x16x32x128 : Shape := ⟨4, ![16, 16, 32, 128]⟩
abbrev S8x16x128x1024 : Shape := ⟨4, ![8, 16, 128, 1024]⟩
abbrev S8x16x128x128 : Shape := ⟨4, ![8, 16, 128, 128]⟩
abbrev S16x1024x512 : Shape := ⟨3, ![16, 1024, 512]⟩
abbrev S16x512x1024 : Shape := ⟨3, ![16, 512, 1024]⟩
abbrev S16x16x32x1 : Shape := ⟨4, ![16, 16, 32, 1]⟩
abbrev S_ : Shape := ⟨0, ![]⟩
abbrev S8x16x128x1 : Shape := ⟨4, ![8, 16, 128, 1]⟩

class Facts : Prop where
  slices_S16x16x32x128_S16x16x32x1_0_0_0_0 : S16x16x32x128.Slices ![0, 0, 0, 0] S16x16x32x1
  bcast_S16x16x32x1_S16x16x32x128_0_1_2_3 : S16x16x32x1.BroadcastsInDim S16x16x32x128 (![0, 1, 2, 3] : Fin 4 → Fin S16x16x32x128.rank)
  bcast_S_S16x16x32x128 : S_.BroadcastsInDim S16x16x32x128 (![] : Fin 0 → Fin S16x16x32x128.rank)
  slices_S8x16x128x128_S8x16x128x1_0_0_0_0 : S8x16x128x128.Slices ![0, 0, 0, 0] S8x16x128x1
  bcast_S8x16x128x1_S8x16x128x128_0_1_2_3 : S8x16x128x1.BroadcastsInDim S8x16x128x128 (![0, 1, 2, 3] : Fin 4 → Fin S8x16x128x128.rank)
  bcast_S_S8x16x128x128 : S_.BroadcastsInDim S8x16x128x128 (![] : Fin 0 → Fin S8x16x128x128.rank)

variable [Facts]

def fn {F : FTy → Type} [FloatOps F] (main_arg0 : FVec F S16x16x32x1024 .bf16) (main_arg1 : FVec F S16x16x32x128 .f32) (main_arg2 : FVec F S8x16x128x1024 .bf16) (main_arg3 : FVec F S8x16x128x128 .f32) (main_arg4 : FVec F S16x1024x512 .f32) (main_arg5 : FVec F S16x1024x512 .f32) (main_arg6 : FVec F S16x512x1024 .f32) : IVec S16x16x32x128 1 × IVec S8x16x128x128 1 :=
  let main_v0 : FVec F S16x16x32x1 .f32 := (extractStridedSlice S16x16x32x1 ![0, 0, 0, 0] · slices_S16x16x32x128_S16x16x32x1_0_0_0_0) main_arg1
  let main_v1 : FVec F S16x16x32x128 .f32 := broadcastInDim S16x16x32x128 ![0, 1, 2, 3] bcast_S16x16x32x1_S16x16x32x128_0_1_2_3 main_v0
  let main_v2 : IVec S16x16x32x128 1 := cmpf .oeq main_arg1 main_v1
  let main_cst : FVec F S_ .f32 := constant S_ .f32 0x00000000#32
  let main_v3 : FVec F S16x16x32x128 .f32 := broadcastInDim S16x16x32x128 ![] bcast_S_S16x16x32x128 main_cst
  let main_v4 : IVec S16x16x32x128 1 := cmpf .oge main_arg1 main_v3
  let main_v5 : IVec S16x16x32x128 1 := andi main_v2 main_v4
  let main_cst_0 : FVec F S_ .f32 := constant S_ .f32 0x7F800000#32
  let main_v6 : FVec F S16x16x32x128 .f32 := broadcastInDim S16x16x32x128 ![] bcast_S_S16x16x32x128 main_cst_0
  let main_v7 : IVec S16x16x32x128 1 := cmpf .olt main_arg1 main_v6
  let main_v8 : IVec S16x16x32x128 1 := andi main_v5 main_v7
  let main_v9 : FVec F S8x16x128x1 .f32 := (extractStridedSlice S8x16x128x1 ![0, 0, 0, 0] · slices_S8x16x128x128_S8x16x128x1_0_0_0_0) main_arg3
  let main_v10 : FVec F S8x16x128x128 .f32 := broadcastInDim S8x16x128x128 ![0, 1, 2, 3] bcast_S8x16x128x1_S8x16x128x128_0_1_2_3 main_v9
  let main_v11 : IVec S8x16x128x128 1 := cmpf .oeq main_arg3 main_v10
  let main_cst_1 : FVec F S_ .f32 := constant S_ .f32 0x00000000#32
  let main_v12 : FVec F S8x16x128x128 .f32 := broadcastInDim S8x16x128x128 ![] bcast_S_S8x16x128x128 main_cst_1
  let main_v13 : IVec S8x16x128x128 1 := cmpf .oge main_arg3 main_v12
  let main_v14 : IVec S8x16x128x128 1 := andi main_v11 main_v13
  let main_cst_2 : FVec F S_ .f32 := constant S_ .f32 0x7F800000#32
  let main_v15 : FVec F S8x16x128x128 .f32 := broadcastInDim S8x16x128x128 ![] bcast_S_S8x16x128x128 main_cst_2
  let main_v16 : IVec S8x16x128x128 1 := cmpf .olt main_arg3 main_v15
  let main_v17 : IVec S8x16x128x128 1 := andi main_v14 main_v16
  (main_v8, main_v17)
-- ==== Attention.lean ====
abbrev S16x256x768 : Shape := ⟨3, ![16, 256, 768]⟩
abbrev S64 : Shape := ⟨1, ![64]⟩
abbrev S2x128x256 : Shape := ⟨3, ![2, 128, 256]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S16x256x512 : Shape := ⟨3, ![16, 256, 512]⟩
abbrev S16x256x128 : Shape := ⟨3, ![16, 256, 128]⟩
abbrev S1x256x512 : Shape := ⟨3, ![1, 256, 512]⟩
abbrev S1x256x128 : Shape := ⟨3, ![1, 256, 128]⟩
abbrev S2x256x256 : Shape := ⟨3, ![2, 256, 256]⟩
abbrev S256x128 : Shape := ⟨2, ![256, 128]⟩
abbrev S128x128 : Shape := ⟨2, ![128, 128]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩
abbrev S256x512 : Shape := ⟨2, ![256, 512]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S16x256x768, .f32⟩
  | .hbm, ⟨1, _⟩ => ⟨S64, .f32⟩
  | .hbm, ⟨2, _⟩ => ⟨S64, .f32⟩
  | .hbm, ⟨3, _⟩ => ⟨S2x128x256, .f32⟩
  | .hbm, ⟨4, _⟩ => ⟨S512, .i32⟩
  | .hbm, ⟨5, _⟩ => ⟨S512x1, .i32⟩
  | .hbm, ⟨6, _⟩ => ⟨S_, .i32⟩
  | .hbm, ⟨7, _⟩ => ⟨S_, .i32⟩
  | .hbm, ⟨8, _⟩ => ⟨S512x1, .i32⟩
  | .hbm, ⟨9, _⟩ => ⟨S512x1, .i32⟩
  | .hbm, ⟨10, _⟩ => ⟨S1x512, .i32⟩
  | .hbm, ⟨11, _⟩ => ⟨S_, .i32⟩
  | .hbm, ⟨12, _⟩ => ⟨S_, .i32⟩
  | .hbm, ⟨13, _⟩ => ⟨S1x512, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S512x512, .f32⟩
  | .hbm, ⟨19, _⟩ => ⟨S512x512, .bf16⟩
  | .hbm, ⟨20, _⟩ => ⟨S2x128x256, .bf16⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S16x256x512, .bf16⟩
  | .hbm, ⟨30, _⟩ => ⟨S16x256x128, .f32⟩
  | .hbm, ⟨31, _⟩ => ⟨S16x256x128, .f32⟩
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S2x128x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S2x256x256, .bf16⟩
  | .local _ .vmem, ⟨17, _⟩ => ⟨S2x256x256, .bf16⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttentionRefIdeal.lean ====
abbrev S16x256x768 : Shape := ⟨3, ![16, 256, 768]⟩
abbrev S64 : Shape := ⟨1, ![64]⟩
abbrev S16x256x512 : Shape := ⟨3, ![16, 256, 512]⟩
abbrev S16x256x128 : Shape := ⟨3, ![16, 256, 128]⟩
abbrev S16x256x8x64 : Shape := ⟨4, ![16, 256, 8, 64]⟩
abbrev S_ : Shape := ⟨0, ![]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S16x256x2x4x64 : Shape := ⟨5, ![16, 256, 2, 4, 64]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩

abbrev nBuf : Space → Nat
  | .hbm => 67
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S64, .f32⟩
  | .hbm, ⟨2, _⟩ => ⟨S64, .f32⟩
  | .hbm, ⟨3, _⟩ => ⟨S16x256x512, .f32⟩
  | .hbm, ⟨4, _⟩ => ⟨S16x256x128, .f32⟩
  | .hbm, ⟨5, _⟩ => ⟨S16x256x128, .f32⟩
  | .hbm, ⟨6, _⟩ => ⟨S16x256x8x64, .f32⟩
  | .hbm, ⟨7, _⟩ => ⟨S16x256x8x64, .f32⟩
  | .hbm, ⟨8, _⟩ => ⟨S_, .f32⟩
  | .hbm, ⟨9, _⟩ => ⟨S16x256x8, .f32⟩
  | .hbm, ⟨10, _⟩ => ⟨S16x256x8x1, .f32⟩
  | .hbm, ⟨11, _⟩ => ⟨S_, .f32⟩
  | .hbm, ⟨12, _⟩ => ⟨S16x256x8x1, .f32⟩
  | .hbm, ⟨13, _⟩ => ⟨S16x256x8x1, .f32⟩
  | .hbm, ⟨14, _⟩ => ⟨S_, .f32⟩
  | .hbm, ⟨15, _⟩ => ⟨S16x256x8x1, .f32⟩
  | .hbm, ⟨16, _⟩ => ⟨S16x256x8x1, .f32⟩
  | .hbm, ⟨17, _⟩ => ⟨S16x256x8x1, .f32⟩
  | .hbm, ⟨18, _⟩ => ⟨S16x256x8x64, .f32⟩
  | .hbm, ⟨19, _⟩ => ⟨S16x256x8x64, .f32⟩
  | .hbm, ⟨20, _⟩ => ⟨S1x1x1x64, .f32⟩
  | .hbm, ⟨21, _⟩ => ⟨S16x256x8x64, .f32⟩
  | .hbm, ⟨22, _⟩ => ⟨S16x256x8x64, .f32⟩
  | .hbm, ⟨23, _⟩ => ⟨S16x256x2x64, .f32⟩
  | .hbm, ⟨24, _⟩ => ⟨S16x256x2x64, .f32⟩
  | .hbm, ⟨25, _⟩ => ⟨S_, .f32⟩
  | .hbm, ⟨26, _⟩ => ⟨S16x256x2, .f32⟩
  | .hbm, ⟨27, _⟩ => ⟨S16x256x2x1, .f32⟩
  | .hbm, ⟨28, _⟩ => ⟨S_, .f32⟩
  | .hbm, ⟨29, _⟩ => ⟨S16x256x2x1, .f32⟩
  | .hbm, ⟨30, _⟩ => ⟨S16x256x2x1, .f32⟩
  | .hbm, ⟨31, _⟩ => ⟨S_, .f32⟩
  | .hbm, ⟨32, _⟩ => ⟨S16x256x2x1, .f32⟩
  | .hbm, ⟨33, _⟩ => ⟨S16x256x2x1, .f32⟩
  | .hbm, ⟨34, _⟩ => ⟨S16x256x2x1, .f32⟩
  | .hbm, ⟨35, _⟩ => ⟨S16x256x2x64, .f32⟩
  | .hbm, ⟨36, _⟩ => ⟨S16x256x2x64, .f32⟩
  | .hbm, ⟨37, _⟩ => ⟨S1x1x1x64, .f32⟩
  | .hbm, ⟨38, _⟩ => ⟨S16x256x2x64, .f32⟩
  | .hbm, ⟨39, _⟩ => ⟨S16x256x2x64, .f32⟩
  | .hbm, ⟨40, _⟩ => ⟨S16x256x2x64, .f32⟩
  | .hbm, ⟨41, _⟩ => ⟨S16x256x2x4x64, .f32⟩
  | .hbm, ⟨42, _⟩ => ⟨S16x2x256x256x4, .f32⟩
  | .hbm, ⟨43, _⟩ => ⟨S16x2x4x256x256, .f32⟩
  | .hbm, ⟨44, _⟩ => ⟨S_, .f32⟩
  | .hbm, ⟨45, _⟩ => ⟨S16x2x4x256x256, .f32⟩
  | .hbm, ⟨46, _⟩ => ⟨S16x2x4x256x256, .f32⟩
  | .hbm, ⟨47, _⟩ => ⟨S_, .f32⟩
  | .hbm, ⟨48, _⟩ => ⟨S16x2x4x256, .f32⟩
  | .hbm, ⟨49, _⟩ => ⟨S_, .f32⟩
  | .hbm, ⟨50, _⟩ => ⟨S16x2x4x256, .f32⟩
  | .hbm, ⟨51, _⟩ => ⟨S16x2x4x256, .f32⟩
  | .hbm, ⟨52, _⟩ => ⟨S16x2x4x256x1, .f32⟩
  | .hbm, ⟨53, _⟩ => ⟨S16x2x4x256x256, .f32⟩
  | .hbm, ⟨54, _⟩ => ⟨S16x2x4x256x256, .f32⟩
  | .hbm, ⟨55, _⟩ => ⟨S16x2x4x256x256, .f32⟩
  | .hbm, ⟨56, _⟩ => ⟨S_, .f32⟩
  | .hbm, ⟨57, _⟩ => ⟨S16x2x4x256, .f32⟩
  | .hbm, ⟨58, _⟩ => ⟨S16x2x4x256x1, .f32⟩
  | .hbm, ⟨59, _⟩ => ⟨S16x2x4x256x256, .f32⟩
  | .hbm, ⟨60, _⟩ => ⟨S16x2x4x256x256, .f32⟩
  | .hbm, ⟨61, _⟩ => ⟨S16x2x64x4x256, .f32⟩
  | .hbm, ⟨62, _⟩ => ⟨S16x256x2x4x64, .f32⟩
  | .hbm, ⟨63, _⟩ => ⟨S16x256x512, .f32⟩
  | .hbm, ⟨64, _⟩ => ⟨S16x256x512, .bf16⟩
  | .hbm, ⟨65, _⟩ => ⟨S16x256x128, .f32⟩
  | .hbm, ⟨66, _⟩ => ⟨S16x256x128, .f32⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== InprojMain.lean ====
abbrev S4096x1024 : Shape := ⟨2, ![4096, 1024]⟩
abbrev S1x6x1024 : Shape := ⟨3, ![1, 6, 1024]⟩
abbrev S1x1024 : Shape := ⟨2, ![1, 1024]⟩
abbrev S1024x6144 : Shape := ⟨2, ![1024, 6144]⟩
abbrev S4096x6144 : Shape := ⟨2, ![4096, 6144]⟩
abbrev S512x1024 : Shape := ⟨2, ![512, 1024]⟩
abbrev S1024x768 : Shape := ⟨2, ![1024, 768]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024, .f32⟩
  | .hbm, ⟨3, _⟩ => ⟨S1024x6144, .bf16⟩
  | .hbm, ⟨4, _⟩ => ⟨S4096x6144, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x768, .bf16⟩
  | .local _ .vmem, ⟨5, _⟩ => ⟨S1024x768, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojMainRefIdeal.lean ====
abbrev S4096x1024 : Shape := ⟨2, ![4096, 1024]⟩
abbrev S1x6x1024 : Shape := ⟨3, ![1, 6, 1024]⟩
abbrev S1x1024 : Shape := ⟨2, ![1, 1024]⟩
abbrev S1024x6144 : Shape := ⟨2, ![1024, 6144]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024, .f32⟩
  | .hbm, ⟨3, _⟩ => ⟨S1024x6144, .bf16⟩
  | .hbm, ⟨4, _⟩ => ⟨S1x1x1024, .f32⟩
  | .hbm, ⟨5, _⟩ => ⟨S1x1024, .f32⟩
  | .hbm, ⟨6, _⟩ => ⟨S1x1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x6144, .f32⟩
  | .hbm, ⟨31, _⟩ => ⟨S4096x6144, .f32⟩
  | .hbm, ⟨32, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== InprojQkv.lean ====
abbrev S4096x1024 : Shape := ⟨2, ![4096, 1024]⟩
abbrev S1x6x1024 : Shape := ⟨3, ![1, 6, 1024]⟩
abbrev S1x1024 : Shape := ⟨2, ![1, 1024]⟩
abbrev S1024x768 : Shape := ⟨2, ![1024, 768]⟩
abbrev S4096x768 : Shape := ⟨2, ![4096, 768]⟩
abbrev S512x1024 : Shape := ⟨2, ![512, 1024]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024, .f32⟩
  | .hbm, ⟨3, _⟩ => ⟨S1024x768, .bf16⟩
  | .hbm, ⟨4, _⟩ => ⟨S4096x768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x768, .bf16⟩
  | .local _ .vmem, ⟨5, _⟩ => ⟨S512x768, .f32⟩
  | .local _ .vmem, ⟨6, _⟩ => ⟨S512x768, .f32⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojQkvRefIdeal.lean ====
abbrev S4096x1024 : Shape := ⟨2, ![4096, 1024]⟩
abbrev S1x6x1024 : Shape := ⟨3, ![1, 6, 1024]⟩
abbrev S1x1024 : Shape := ⟨2, ![1, 1024]⟩
abbrev S1024x768 : Shape := ⟨2, ![1024, 768]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x768 : Shape := ⟨2, ![4096, 768]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024, .f32⟩
  | .hbm, ⟨3, _⟩ => ⟨S1024x768, .bf16⟩
  | .hbm, ⟨4, _⟩ => ⟨S1x1x1024, .f32⟩
  | .hbm, ⟨5, _⟩ => ⟨S1x1024, .f32⟩
  | .hbm, ⟨6, _⟩ => ⟨S1x1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x768, .f32⟩
  | .hbm, ⟨31, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Merge.lean ====
abbrev S4096x512 : Shape := ⟨2, ![4096, 512]⟩
abbrev S4096x6144 : Shape := ⟨2, ![4096, 6144]⟩
abbrev S4096x1024 : Shape := ⟨2, ![4096, 1024]⟩
abbrev S1x6x1024 : Shape := ⟨3, ![1, 6, 1024]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x6144, .bf16⟩
  | .hbm, ⟨4, _⟩ => ⟨S4096x1024, .f32⟩
  | .hbm, ⟨5, _⟩ => ⟨S1x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S4096x512 : Shape := ⟨2, ![4096, 512]⟩
abbrev S4096x6144 : Shape := ⟨2, ![4096, 6144]⟩
abbrev S4096x1024 : Shape := ⟨2, ![4096, 1024]⟩
abbrev S1x6x1024 : Shape := ⟨3, ![1, 6, 1024]⟩
abbrev S1x1024 : Shape := ⟨2, ![1, 1024]⟩
abbrev S512x1024 : Shape := ⟨2, ![512, 1024]⟩
abbrev S1024x1024 : Shape := ⟨2, ![1024, 1024]⟩
abbrev S4096x3072 : Shape := ⟨2, ![4096, 3072]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x6144, .bf16⟩
  | .hbm, ⟨4, _⟩ => ⟨S4096x1024, .f32⟩
  | .hbm, ⟨5, _⟩ => ⟨S1x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x6144, .f32⟩
  | .hbm, ⟨15, _⟩ => ⟨S4096x3072, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1x1024, .f32⟩
  | .hbm, ⟨20, _⟩ => ⟨S1x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S512x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S512x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S512x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1024x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Ffn.lean ====
abbrev S16x16x32x1024 : Shape := ⟨4, ![16, 16, 32, 1024]⟩
abbrev S16x16x32x128 : Shape := ⟨4, ![16, 16, 32, 128]⟩
abbrev S8x16x128x1024 : Shape := ⟨4, ![8, 16, 128, 1024]⟩
abbrev S8x16x128x128 : Shape := ⟨4, ![8, 16, 128, 128]⟩
abbrev S16x1024x512 : Shape := ⟨3, ![16, 1024, 512]⟩
abbrev S16x512x1024 : Shape := ⟨3, ![16, 512, 1024]⟩
abbrev S16x1x32x1024 : Shape := ⟨4, ![16, 1, 32, 1024]⟩
abbrev S16x1x32x128 : Shape := ⟨4, ![16, 1, 32, 128]⟩
abbrev S8x1x128x1024 : Shape := ⟨4, ![8, 1, 128, 1024]⟩
abbrev S8x1x128x128 : Shape := ⟨4, ![8, 1, 128, 128]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S16x32x1024 : Shape := ⟨3, ![16, 32, 1024]⟩
abbrev S16x32x128 : Shape := ⟨3, ![16, 32, 128]⟩
abbrev S512x128 : Shape := ⟨2, ![512, 128]⟩
abbrev S512x512 : Shape := ⟨2, ![512, 512]⟩
abbrev S8x128x1024 : Shape := ⟨3, ![8, 128, 1024]⟩
abbrev S1024x1024 : Shape := ⟨2, ![1024, 1024]⟩
abbrev S8x128x128 : Shape := ⟨3, ![8, 128, 128]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S16x16x32x1024, .bf16⟩
  | .hbm, ⟨1, _⟩ => ⟨S16x16x32x128, .f32⟩
  | .hbm, ⟨2, _⟩ => ⟨S8x16x128x1024, .bf16⟩
  | .hbm, ⟨3, _⟩ => ⟨S8x16x128x128, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x16x32x1024, .bf16⟩
  | .hbm, ⟨8, _⟩ => ⟨S8x16x128x1024, .bf16⟩
  | .local _ .vmem, ⟨0, _⟩ => ⟨S16x1x32x1024, .bf16⟩
  | .local _ .vmem, ⟨1, _⟩ => ⟨S16x1x32x1024, .bf16⟩
  | .local _ .vmem, ⟨2, _⟩ => ⟨S16x1x32x128, .f32⟩
  | .local _ .vmem, ⟨3, _⟩ => ⟨S16x1x32x128, .f32⟩
  | .local _ .vmem, ⟨4, _⟩ => ⟨S8x1x128x1024, .bf16⟩
  | .local _ .vmem, ⟨5, _⟩ => ⟨S8x1x128x1024, .bf16⟩
  | .local _ .vmem, ⟨6, _⟩ => ⟨S8x1x128x128, .f32⟩
  | .local _ .vmem, ⟨7, _⟩ => ⟨S8x1x128x128, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S16x1x32x1024, .bf16⟩
  | .local _ .vmem, ⟨15, _⟩ => ⟨S16x1x32x1024, .bf16⟩
  | .local _ .vmem, ⟨16, _⟩ => ⟨S8x1x128x1024, .bf16⟩
  | .local _ .vmem, ⟨17, _⟩ => ⟨S8x1x128x1024, .bf16⟩
  | _, _ => ⟨S16x16x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S16x16x32x1024 : Shape := ⟨4, ![16, 16, 32, 1024]⟩
abbrev S16x16x32x128 : Shape := ⟨4, ![16, 16, 32, 128]⟩
abbrev S8x16x128x1024 : Shape := ⟨4, ![8, 16, 128, 1024]⟩
abbrev S8x16x128x128 : Shape := ⟨4, ![8, 16, 128, 128]⟩
abbrev S16x1024x512 : Shape := ⟨3, ![16, 1024, 512]⟩
abbrev S16x512x1024 : Shape := ⟨3, ![16, 512, 1024]⟩
abbrev S16x16x32x1 : Shape := ⟨4, ![16, 16, 32, 1]⟩
abbrev S16x16x32 : Shape := ⟨3, ![16, 16, 32]⟩
abbrev S16x512x16x32 : Shape := ⟨4, ![16, 512, 16, 32]⟩
abbrev S16x16x32x512 : Shape := ⟨4, ![16, 16, 32, 512]⟩
abbrev S_ : Shape := ⟨0, ![]⟩
abbrev S16x1024x16x32 : Shape := ⟨4, ![16, 1024, 16, 32]⟩
abbrev S8x16x128x1 : Shape := ⟨4, ![8, 16, 128, 1]⟩
abbrev S8x16x128 : Shape := ⟨3, ![8, 16, 128]⟩
abbrev S16x512x8x128 : Shape := ⟨4, ![16, 512, 8, 128]⟩
abbrev S8x16x128x512 : Shape := ⟨4, ![8, 16, 128, 512]⟩
abbrev S16x1024x8x128 : Shape := ⟨4, ![16, 1024, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S16x16x32x1024, .bf16⟩
  | .hbm, ⟨1, _⟩ => ⟨S16x16x32x128, .f32⟩
  | .hbm, ⟨2, _⟩ => ⟨S8x16x128x1024, .bf16⟩
  | .hbm, ⟨3, _⟩ => ⟨S8x16x128x128, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x16x32x1, .f32⟩
  | .hbm, ⟨8, _⟩ => ⟨S16x16x32, .f32⟩
  | .hbm, ⟨9, _⟩ => ⟨S16x16x32x1024, .f32⟩
  | .hbm, ⟨10, _⟩ => ⟨S16x512x16x32, .f32⟩
  | .hbm, ⟨11, _⟩ => ⟨S16x16x32x512, .f32⟩
  | .hbm, ⟨12, _⟩ => ⟨S16x512x16x32, .f32⟩
  | .hbm, ⟨13, _⟩ => ⟨S16x16x32x512, .f32⟩
  | .hbm, ⟨14, _⟩ => ⟨S16x16x32x512, .f32⟩
  | .hbm, ⟨15, _⟩ => ⟨S16x16x32x512, .f32⟩
  | .hbm, ⟨16, _⟩ => ⟨S_, .f32⟩
  | .hbm, ⟨17, _⟩ => ⟨S16x16x32x512, .f32⟩
  | .hbm, ⟨18, _⟩ => ⟨S16x16x32x512, .f32⟩
  | .hbm, ⟨19, _⟩ => ⟨S_, .f32⟩
  | .hbm, ⟨20, _⟩ => ⟨S16x16x32x512, .f32⟩
  | .hbm, ⟨21, _⟩ => ⟨S16x16x32x512, .f32⟩
  | .hbm, ⟨22, _⟩ => ⟨S16x16x32x512, .f32⟩
  | .hbm, ⟨23, _⟩ => ⟨S16x16x32x512, .f32⟩
  | .hbm, ⟨24, _⟩ => ⟨S16x1024x16x32, .f32⟩
  | .hbm, ⟨25, _⟩ => ⟨S16x16x32x1024, .f32⟩
  | .hbm, ⟨26, _⟩ => ⟨S16x16x32x1, .f32⟩
  | .hbm, ⟨27, _⟩ => ⟨S16x16x32x1024, .f32⟩
  | .hbm, ⟨28, _⟩ => ⟨S16x16x32x1024, .f32⟩
  | .hbm, ⟨29, _⟩ => ⟨S16x16x32x1024, .bf16⟩
  | .hbm, ⟨30, _⟩ => ⟨S8x16x128x1, .f32⟩
  | .hbm, ⟨31, _⟩ => ⟨S8x16x128, .f32⟩
  | .hbm, ⟨32, _⟩ => ⟨S8x16x128x1024, .f32⟩
  | .hbm, ⟨33, _⟩ => ⟨S16x512x8x128, .f32⟩
  | .hbm, ⟨34, _⟩ => ⟨S8x16x128x512, .f32⟩
  | .hbm, ⟨35, _⟩ => ⟨S16x512x8x128, .f32⟩
  | .hbm, ⟨36, _⟩ => ⟨S8x16x128x512, .f32⟩
  | .hbm, ⟨37, _⟩ => ⟨S8x16x128x512, .f32⟩
  | .hbm, ⟨38, _⟩ => ⟨S8x16x128x512, .f32⟩
  | .hbm, ⟨39, _⟩ => ⟨S_, .f32⟩
  | .hbm, ⟨40, _⟩ => ⟨S8x16x128x512, .f32⟩
  | .hbm, ⟨41, _⟩ => ⟨S8x16x128x512, .f32⟩
  | .hbm, ⟨42, _⟩ => ⟨S_, .f32⟩
  | .hbm, ⟨43, _⟩ => ⟨S8x16x128x512, .f32⟩
  | .hbm, ⟨44, _⟩ => ⟨S8x16x128x512, .f32⟩
  | .hbm, ⟨45, _⟩ => ⟨S8x16x128x512, .f32⟩
  | .hbm, ⟨46, _⟩ => ⟨S8x16x128x512, .f32⟩
  | .hbm, ⟨47, _⟩ => ⟨S16x1024x8x128, .f32⟩
  | .hbm, ⟨48, _⟩ => ⟨S8x16x128x1024, .f32⟩
  | .hbm, ⟨49, _⟩ => ⟨S8x16x128x1, .f32⟩
  | .hbm, ⟨50, _⟩ => ⟨S8x16x128x1024, .f32⟩
  | .hbm, ⟨51, _⟩ => ⟨S8x16x128x1024, .f32⟩
  | .hbm, ⟨52, _⟩ => ⟨S8x16x128x1024, .bf16⟩
  | _, _ => ⟨S16x16x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Combine.lean ====
abbrev S16x512x256 : Shape := ⟨3, ![16, 512, 256]⟩
abbrev S16x512x1024 : Shape := ⟨3, ![16, 512, 1024]⟩
abbrev S16x256x1024 : Shape := ⟨3, ![16, 256, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x256x512 : Shape := ⟨3, ![1, 256, 512]⟩
abbrev S1x1x512 : Shape := ⟨3, ![1, 1, 512]⟩
abbrev S512x256 : Shape := ⟨2, ![512, 256]⟩
abbrev S512x512 : Shape := ⟨2, ![512, 512]⟩
abbrev S256x512 : Shape := ⟨2, ![256, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x512x256, .bf16⟩
  | .hbm, ⟨1, _⟩ => ⟨S16x512x1024, .bf16⟩
  | .hbm, ⟨2, _⟩ => ⟨S16x256x1024, .f32⟩
  | .hbm, ⟨3, _⟩ => ⟨S1x1x1024, .f32⟩
  | .hbm, ⟨4, _⟩ => ⟨S16x256x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x512, .bf16⟩
  | .local _ .vmem, ⟨3, _⟩ => ⟨S1x512x512, .bf16⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | .local _ .vmem, ⟨8, _⟩ => ⟨S1x256x512, .f32⟩
  | .local _ .vmem, ⟨9, _⟩ => ⟨S1x256x512, .f32⟩
  | _, _ => ⟨S16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CombineRefIdeal.lean ====
abbrev S16x512x256 : Shape := ⟨3, ![16, 512, 256]⟩
abbrev S16x512x1024 : Shape := ⟨3, ![16, 512, 1024]⟩
abbrev S16x256x1024 : Shape := ⟨3, ![16, 256, 1024]⟩
abbrev S1x1x1024 : Shape := ⟨3, ![1, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x512x256, .bf16⟩
  | .hbm, ⟨1, _⟩ => ⟨S16x512x1024, .bf16⟩
  | .hbm, ⟨2, _⟩ => ⟨S16x256x1024, .f32⟩
  | .hbm, ⟨3, _⟩ => ⟨S1x1x1024, .f32⟩
  | .hbm, ⟨4, _⟩ => ⟨S16x512x256, .f32⟩
  | .hbm, ⟨5, _⟩ => ⟨S16x512x1024, .f32⟩
  | .hbm, ⟨6, _⟩ => ⟨S16x256x1024, .f32⟩
  | .hbm, ⟨7, _⟩ => ⟨S16x256x1024, .f32⟩
  | .hbm, ⟨8, _⟩ => ⟨S16x256x1024, .f32⟩
  | .hbm, ⟨9, _⟩ => ⟨S16x256x1024, .f32⟩
  | _, _ => ⟨S16x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MainSample.lean ====
abbrev S8192x1024 : Shape := ⟨2, ![8192, 1024]⟩
abbrev S8x6x1024 : Shape := ⟨3, ![8, 6, 1024]⟩
abbrev S1x1024 : Shape := ⟨2, ![1, 1024]⟩
abbrev S1024x6144 : Shape := ⟨2, ![1024, 6144]⟩
abbrev S8192x6144 : Shape := ⟨2, ![8192, 6144]⟩
abbrev S512x1024 : Shape := ⟨2, ![512, 1024]⟩
abbrev S1x6x1024 : Shape := ⟨3, ![1, 6, 1024]⟩
abbrev S1024x768 : Shape := ⟨2, ![1024, 768]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x6144, .bf16⟩
  | .hbm, ⟨4, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x768, .bf16⟩
  | .local _ .vmem, ⟨6, _⟩ => ⟨S1024x768, .bf16⟩
  | .local _ .vmem, ⟨7, _⟩ => ⟨S512x768, .bf16⟩
  | .local _ .vmem, ⟨8, _⟩ => ⟨S512x768, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MainSampleRefIdeal.lean ====
abbrev S8192x1024 : Shape := ⟨2, ![8192, 1024]⟩
abbrev S8x6x1024 : Shape := ⟨3, ![8, 6, 1024]⟩
abbrev S1x1024 : Shape := ⟨2, ![1, 1024]⟩
abbrev S1024x6144 : Shape := ⟨2, ![1024, 6144]⟩
abbrev S8x1x1024 : Shape := ⟨3, ![8, 1, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x6144 : Shape := ⟨3, ![8, 1024, 6144]⟩
abbrev S8192x6144 : Shape := ⟨2, ![8192, 6144]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x6144, .bf16⟩
  | .hbm, ⟨4, _⟩ => ⟨S8x1x1024, .f32⟩
  | .hbm, ⟨5, _⟩ => ⟨S8x1x1024, .f32⟩
  | .hbm, ⟨6, _⟩ => ⟨S8x1024x1024, .f32⟩
  | .hbm, ⟨7, _⟩ => ⟨S8x1024x1024, .f32⟩
  | .hbm, ⟨8, _⟩ => ⟨S_, .f32⟩
  | .hbm, ⟨9, _⟩ => ⟨S8x1024, .f32⟩
  | .hbm, ⟨10, _⟩ => ⟨S8x1024x1, .f32⟩
  | .hbm, ⟨11, _⟩ => ⟨S_, .f32⟩
  | .hbm, ⟨12, _⟩ => ⟨S8x1024x1, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S8x1024x1, .f32⟩
  | .hbm, ⟨18, _⟩ => ⟨S8x1024x1024, .f32⟩
  | .hbm, ⟨19, _⟩ => ⟨S8x1024x1024, .f32⟩
  | .hbm, ⟨20, _⟩ => ⟨S1x1x1024, .f32⟩
  | .hbm, ⟨21, _⟩ => ⟨S8x1024x1024, .f32⟩
  | .hbm, ⟨22, _⟩ => ⟨S8x1024x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | .hbm, ⟨29, _⟩ => ⟨S8x1024x1024, .f32⟩
  | .hbm, ⟨30, _⟩ => ⟨S1024x6144, .f32⟩
  | .hbm, ⟨31, _⟩ => ⟨S8x1024x6144, .f32⟩
  | .hbm, ⟨32, _⟩ => ⟨S8192x6144, .f32⟩
  | .hbm, ⟨33, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== QkvSample.lean ====
abbrev S8192x1024 : Shape := ⟨2, ![8192, 1024]⟩
abbrev S8x6x1024 : Shape := ⟨3, ![8, 6, 1024]⟩
abbrev S1x1024 : Shape := ⟨2, ![1, 1024]⟩
abbrev S1024x768 : Shape := ⟨2, ![1024, 768]⟩
abbrev S8192x768 : Shape := ⟨2, ![8192, 768]⟩
abbrev S512x1024 : Shape := ⟨2, ![512, 1024]⟩
abbrev S1x6x1024 : Shape := ⟨3, ![1, 6, 1024]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x768, .bf16⟩
  | .hbm, ⟨4, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x768, .bf16⟩
  | .local _ .vmem, ⟨6, _⟩ => ⟨S512x768, .f32⟩
  | .local _ .vmem, ⟨7, _⟩ => ⟨S512x768, .f32⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvSampleRefIdeal.lean ====
abbrev S8192x1024 : Shape := ⟨2, ![8192, 1024]⟩
abbrev S8x6x1024 : Shape := ⟨3, ![8, 6, 1024]⟩
abbrev S1x1024 : Shape := ⟨2, ![1, 1024]⟩
abbrev S1024x768 : Shape := ⟨2, ![1024, 768]⟩
abbrev S8x1x1024 : Shape := ⟨3, ![8, 1, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x768 : Shape := ⟨3, ![8, 1024, 768]⟩
abbrev S8192x768 : Shape := ⟨2, ![8192, 768]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x768, .bf16⟩
  | .hbm, ⟨4, _⟩ => ⟨S8x1x1024, .f32⟩
  | .hbm, ⟨5, _⟩ => ⟨S8x1x1024, .f32⟩
  | .hbm, ⟨6, _⟩ => ⟨S8x1024x1024, .f32⟩
  | .hbm, ⟨7, _⟩ => ⟨S8x1024x1024, .f32⟩
  | .hbm, ⟨8, _⟩ => ⟨S_, .f32⟩
  | .hbm, ⟨9, _⟩ => ⟨S8x1024, .f32⟩
  | .hbm, ⟨10, _⟩ => ⟨S8x1024x1, .f32⟩
  | .hbm, ⟨11, _⟩ => ⟨S_, .f32⟩
  | .hbm, ⟨12, _⟩ => ⟨S8x1024x1, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S8x1024x1, .f32⟩
  | .hbm, ⟨18, _⟩ => ⟨S8x1024x1024, .f32⟩
  | .hbm, ⟨19, _⟩ => ⟨S8x1024x1024, .f32⟩
  | .hbm, ⟨20, _⟩ => ⟨S1x1x1024, .f32⟩
  | .hbm, ⟨21, _⟩ => ⟨S8x1024x1024, .f32⟩
  | .hbm, ⟨22, _⟩ => ⟨S8x1024x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | .hbm, ⟨29, _⟩ => ⟨S8x1024x1024, .f32⟩
  | .hbm, ⟨30, _⟩ => ⟨S1024x768, .f32⟩
  | .hbm, ⟨31, _⟩ => ⟨S8x1024x768, .f32⟩
  | .hbm, ⟨32, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== MergeSample.lean ====
abbrev S8192x512 : Shape := ⟨2, ![8192, 512]⟩
abbrev S8192x6144 : Shape := ⟨2, ![8192, 6144]⟩
abbrev S8192x1024 : Shape := ⟨2, ![8192, 1024]⟩
abbrev S8x6x1024 : Shape := ⟨3, ![8, 6, 1024]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S8192x1024, .f32⟩
  | .hbm, ⟨5, _⟩ => ⟨S8x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeSampleRefIdeal.lean ====
abbrev S8192x512 : Shape := ⟨2, ![8192, 512]⟩
abbrev S8192x6144 : Shape := ⟨2, ![8192, 6144]⟩
abbrev S8192x1024 : Shape := ⟨2, ![8192, 1024]⟩
abbrev S8x6x1024 : Shape := ⟨3, ![8, 6, 1024]⟩
abbrev S1x1024 : Shape := ⟨2, ![1, 1024]⟩
abbrev S512x1024 : Shape := ⟨2, ![512, 1024]⟩
abbrev S1024x1024 : Shape := ⟨2, ![1024, 1024]⟩
abbrev S8192x3072 : Shape := ⟨2, ![8192, 3072]⟩
abbrev S8x1x1024 : Shape := ⟨3, ![8, 1, 1024]⟩
abbrev S_ : Shape := ⟨0, ![]⟩
abbrev S8x1024x1024 : Shape := ⟨3, ![8, 1024, 1024]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S8192x1024, .f32⟩
  | .hbm, ⟨5, _⟩ => ⟨S8x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x6144, .f32⟩
  | .hbm, ⟨15, _⟩ => ⟨S8192x3072, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S512x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S512x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S512x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8x1024x1024, .f32⟩
  | .hbm, ⟨58, _⟩ => ⟨S1024x1024, .f32⟩
  | .hbm, ⟨59, _⟩ => ⟨S8192x1024, .f32⟩
  | .hbm, ⟨60, _⟩ => ⟨S8x1024x1024, .f32⟩
  | .hbm, ⟨61, _⟩ => ⟨S8x1024x1024, .f32⟩
  | .hbm, ⟨62, _⟩ => ⟨S8x1024x1024, .f32⟩
  | .hbm, ⟨63, _⟩ => ⟨S8x1024x1024, .f32⟩
  | .hbm, ⟨64, _⟩ => ⟨S8x1024x1024, .f32⟩
  | .hbm, ⟨65, _⟩ => ⟨S_, .f32⟩
  | .hbm, ⟨66, _⟩ => ⟨S8x1024, .f32⟩
  | .hbm, ⟨67, _⟩ => ⟨S8x1024x1, .f32⟩
  | .hbm, ⟨68, _⟩ => ⟨S_, .f32⟩
  | .hbm, ⟨69, _⟩ => ⟨S8x1024x1, .f32⟩
  | .hbm, ⟨70, _⟩ => ⟨S8x1024x1, .f32⟩
  | .hbm, ⟨71, _⟩ => ⟨S_, .f32⟩
  | .hbm, ⟨72, _⟩ => ⟨S8x1024x1, .f32⟩
  | .hbm, ⟨73, _⟩ => ⟨S8x1024x1, .f32⟩
  | .hbm, ⟨74, _⟩ => ⟨S8x1024x1, .f32⟩
  | .hbm, ⟨75, _⟩ => ⟨S8x1024x1024, .f32⟩
  | .hbm, ⟨76, _⟩ => ⟨S8x1024x1024, .f32⟩
  | .hbm, ⟨77, _⟩ => ⟨S1x1x1024, .f32⟩
  | .hbm, ⟨78, _⟩ => ⟨S8x1024x1024, .f32⟩
  | .hbm, ⟨79, _⟩ => ⟨S8x1024x1024, .f32⟩
  | .hbm, ⟨80, _⟩ => ⟨S_, .f32⟩
  | .hbm, ⟨81, _⟩ => ⟨S8x1x1024, .f32⟩
  | .hbm, ⟨82, _⟩ => ⟨S8x1x1024, .f32⟩
  | .hbm, ⟨83, _⟩ => ⟨S8x1024x1024, .f32⟩
  | .hbm, ⟨84, _⟩ => ⟨S8x1024x1024, .f32⟩
  | .hbm, ⟨85, _⟩ => ⟨S8x1024x1024, .f32⟩
  | .hbm, ⟨86, _⟩ => ⟨S8x1024x1024, .f32⟩
  | .hbm, ⟨87, _⟩ => ⟨S8192x1024, .f32⟩
  | .hbm, ⟨88, _⟩ => ⟨S8x1024x1024, .bf16⟩
  | .hbm, ⟨89, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== CombineSample.lean ====
abbrev S8x2048x1024 : Shape := ⟨3, ![8, 2048, 1024]⟩
abbrev S8x1024x1024 : Shape := ⟨3, ![8, 1024, 1024]⟩
abbrev S8x1x1024 : Shape := ⟨3, ![8, 1, 1024]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S1x1x512 : Shape := ⟨3, ![1, 1, 512]⟩
abbrev S2048x1024 : Shape := ⟨2, ![2048, 1024]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x1024x1024, .f32⟩
  | .hbm, ⟨3, _⟩ => ⟨S8x1x1024, .f32⟩
  | .hbm, ⟨4, _⟩ => ⟨S8x1024x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CombineSampleRefIdeal.lean ====
abbrev S8x2048x1024 : Shape := ⟨3, ![8, 2048, 1024]⟩
abbrev S8x1024x1024 : Shape := ⟨3, ![8, 1024, 1024]⟩
abbrev S8x1x1024 : Shape := ⟨3, ![8, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x1024x1024, .f32⟩
  | .hbm, ⟨3, _⟩ => ⟨S8x1x1024, .f32⟩
  | .hbm, ⟨4, _⟩ => ⟨S8x2048x1024, .f32⟩
  | .hbm, ⟨5, _⟩ => ⟨S8x2048x1024, .f32⟩
  | .hbm, ⟨6, _⟩ => ⟨S8x1024x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ShortConv.lean ====
abbrev S16x256x6144 : Shape := ⟨3, ![16, 256, 6144]⟩
abbrev S3x1536 : Shape := ⟨2, ![3, 1536]⟩
abbrev S1536 : Shape := ⟨1, ![1536]⟩
abbrev S3x512 : Shape := ⟨2, ![3, 512]⟩
abbrev S512 : Shape := ⟨1, ![512]⟩
abbrev S2x3x256x512 : Shape := ⟨4, ![2, 3, 256, 512]⟩
abbrev S2x512 : Shape := ⟨2, ![2, 512]⟩
abbrev S512x256 : Shape := ⟨2, ![512, 256]⟩
abbrev S256x512 : Shape := ⟨2, ![256, 512]⟩
abbrev S1x1536 : Shape := ⟨2, ![1, 1536]⟩
abbrev S1x512 : Shape := ⟨2, ![1, 512]⟩
abbrev S16x256x512 : Shape := ⟨3, ![16, 256, 512]⟩
abbrev S1x256x256 : Shape := ⟨3, ![1, 256, 256]⟩
abbrev S3x256 : Shape := ⟨2, ![3, 256]⟩
abbrev S1x256 : Shape := ⟨2, ![1, 256]⟩
abbrev S2x3x256x256 : Shape := ⟨4, ![2, 3, 256, 256]⟩
abbrev S2x256 : Shape := ⟨2, ![2, 256]⟩
abbrev S256x256 : Shape := ⟨2, ![256, 256]⟩
abbrev S1x1x256x256 : Shape := ⟨4, ![1, 1, 256, 256]⟩

abbrev nBuf : Space → Nat
  | .hbm => 13
  | .vmem => 38
  | .smem => 0
  | _ => 0

abbrev bufTy : (tb : Table) → Fin (tcTables nBuf tb) → BufTy
  | .hbm, ⟨0, _⟩ => ⟨S16x256x6144, .bf16⟩
  | .hbm, ⟨1, _⟩ => ⟨S3x1536, .f32⟩
  | .hbm, ⟨2, _⟩ => ⟨S1536, .f32⟩
  | .hbm, ⟨3, _⟩ => ⟨S3x512, .f32⟩
  | .hbm, ⟨4, _⟩ => ⟨S512, .f32⟩
  | .hbm, ⟨5, _⟩ => ⟨S2x3x256x512, .f32⟩
  | .hbm, ⟨6, _⟩ => ⟨S2x512, .f32⟩
  | .hbm, ⟨7, _⟩ => ⟨S512x256, .bf16⟩
  | .hbm, ⟨8, _⟩ => ⟨S256x512, .bf16⟩
  | .hbm, ⟨9, _⟩ => ⟨S1x1536, .f32⟩
  | .hbm, ⟨10, _⟩ => ⟨S1x512, .f32⟩
  | .hbm, ⟨11, _⟩ => ⟨S16x256x512, .bf16⟩
  | .hbm, ⟨12, _⟩ => ⟨S16x256x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S3x256, .f32⟩
  | .local _ .vmem, ⟨25, _⟩ => ⟨S3x256, .f32⟩
  | .local _ .vmem, ⟨26, _⟩ => ⟨S1x256, .f32⟩
  | .local _ .vmem, ⟨27, _⟩ => ⟨S1x256, .f32⟩
  | .local _ .vmem, ⟨28, _⟩ => ⟨S2x3x256x256, .f32⟩
  | .local _ .vmem, ⟨29, _⟩ => ⟨S2x256, .f32⟩
  | .local _ .vmem, ⟨30, _⟩ => ⟨S2x256, .f32⟩
  | .local _ .vmem, ⟨31, _⟩ => ⟨S512x256, .bf16⟩
  | .local _ .vmem, ⟨32, _⟩ => ⟨S256x512, .bf16⟩
  | .local _ .vmem, ⟨33, _⟩ => ⟨S1x256x256, .bf16⟩
  | .local _ .vmem, ⟨34, _⟩ => ⟨S1x256x256, .bf16⟩
  | .local _ .vmem, ⟨35, _⟩ => ⟨S1x256x256, .bf16⟩
  | .local _ .vmem, ⟨36, _⟩ => ⟨S1x256x256, .bf16⟩
  | .local _ .vmem, ⟨37, _⟩ => ⟨S512x256, .bf16⟩
  | _, _ => ⟨S16x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![arg1.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S2x3x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ShortConvRefIdeal.lean ====
abbrev S16x256x6144 : Shape := ⟨3, ![16, 256, 6144]⟩
abbrev S3x1536 : Shape := ⟨2, ![3, 1536]⟩
abbrev S1536 : Shape := ⟨1, ![1536]⟩
abbrev S3x512 : Shape := ⟨2, ![3, 512]⟩
abbrev S512 : Shape := ⟨1, ![512]⟩
abbrev S2x3x256x512 : Shape := ⟨4, ![2, 3, 256, 512]⟩
abbrev S2x512 : Shape := ⟨2, ![2, 512]⟩
abbrev S512x256 : Shape := ⟨2, ![512, 256]⟩
abbrev S256x512 : Shape := ⟨2, ![256, 512]⟩
abbrev S16x256x1536 : Shape := ⟨3, ![16, 256, 1536]⟩
abbrev S16x256x512 : Shape := ⟨3, ![16, 256, 512]⟩
abbrev S_ : Shape := ⟨0, ![]⟩
abbrev S16x258x512 : Shape := ⟨3, ![16, 258, 512]⟩
abbrev S1x512 : Shape := ⟨2, ![1, 512]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x256x6144, .bf16⟩
  | .hbm, ⟨1, _⟩ => ⟨S3x1536, .f32⟩
  | .hbm, ⟨2, _⟩ => ⟨S1536, .f32⟩
  | .hbm, ⟨3, _⟩ => ⟨S3x512, .f32⟩
  | .hbm, ⟨4, _⟩ => ⟨S512, .f32⟩
  | .hbm, ⟨5, _⟩ => ⟨S2x3x256x512, .f32⟩
  | .hbm, ⟨6, _⟩ => ⟨S2x512, .f32⟩
  | .hbm, ⟨7, _⟩ => ⟨S512x256, .bf16⟩
  | .hbm, ⟨8, _⟩ => ⟨S256x512, .bf16⟩
  | .hbm, ⟨9, _⟩ => ⟨S16x256x1536, .bf16⟩
  | .hbm, ⟨10, _⟩ => ⟨S16x256x1536, .f32⟩
  | .hbm, ⟨11, _⟩ => ⟨S16x256x512, .f32⟩
  | .hbm, ⟨12, _⟩ => ⟨S16x256x512, .f32⟩
  | .hbm, ⟨13, _⟩ => ⟨S16x256x512, .f32⟩
  | .hbm, ⟨14, _⟩ => ⟨S16x256x512, .f32⟩
  | .hbm, ⟨15, _⟩ => ⟨S_, .i32⟩
  | .hbm, ⟨16, _⟩ => ⟨S_, .f32⟩
  | .hbm, ⟨17, _⟩ => ⟨S16x258x512, .f32⟩
  | .hbm, ⟨18, _⟩ => ⟨S16x256x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S16x256x512, .f32⟩
  | .hbm, ⟨23, _⟩ => ⟨S16x256x512, .f32⟩
  | .hbm, ⟨24, _⟩ => ⟨S16x256x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S16x256x512, .f32⟩
  | .hbm, ⟨29, _⟩ => ⟨S16x256x512, .f32⟩
  | .hbm, ⟨30, _⟩ => ⟨S16x256x512, .f32⟩
  | .hbm, ⟨31, _⟩ => ⟨S16x256x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S16x256x512, .f32⟩
  | .hbm, ⟨36, _⟩ => ⟨S16x256x512, .f32⟩
  | .hbm, ⟨37, _⟩ => ⟨S16x256x512, .f32⟩
  | .hbm, ⟨38, _⟩ => ⟨S1x1x512, .f32⟩
  | .hbm, ⟨39, _⟩ => ⟨S16x256x512, .f32⟩
  | .hbm, ⟨40, _⟩ => ⟨S16x256x512, .f32⟩
  | .hbm, ⟨41, _⟩ => ⟨S16x256x512, .f32⟩
  | .hbm, ⟨42, _⟩ => ⟨S16x256x512, .bf16⟩
  | _, _ => ⟨S16x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== ConvSample.lean ====
abbrev S8x1024x6144 : Shape := ⟨3, ![8, 1024, 6144]⟩
abbrev S3x1536 : Shape := ⟨2, ![3, 1536]⟩
abbrev S1536 : Shape := ⟨1, ![1536]⟩
abbrev S3x512 : Shape := ⟨2, ![3, 512]⟩
abbrev S512 : Shape := ⟨1, ![512]⟩
abbrev S2x3x1024x512 : Shape := ⟨4, ![2, 3, 1024, 512]⟩
abbrev S2x512 : Shape := ⟨2, ![2, 512]⟩
abbrev S2048x1024 : Shape := ⟨2, ![2048, 1024]⟩
abbrev S1024x2048 : Shape := ⟨2, ![1024, 2048]⟩
abbrev S1x1536 : Shape := ⟨2, ![1, 1536]⟩
abbrev S1x512 : Shape := ⟨2, ![1, 512]⟩
abbrev S8x1024x512 : Shape := ⟨3, ![8, 1024, 512]⟩
abbrev S1x1024x256 : Shape := ⟨3, ![1, 1024, 256]⟩
abbrev S3x256 : Shape := ⟨2, ![3, 256]⟩
abbrev S1x256 : Shape := ⟨2, ![1, 256]⟩
abbrev S2x3x1024x256 : Shape := ⟨4, ![2, 3, 1024, 256]⟩
abbrev S2x256 : Shape := ⟨2, ![2, 256]⟩
abbrev S2048x256 : Shape := ⟨2, ![2048, 256]⟩
abbrev S1024x256 : Shape := ⟨2, ![1024, 256]⟩
abbrev S1x1x1024x256 : Shape := ⟨4, ![1, 1, 1024, 256]⟩

abbrev nBuf : Space → Nat
  | .hbm => 13
  | .vmem => 38
  | .smem => 0
  | _ => 0

abbrev bufTy : (tb : Table) → Fin (tcTables nBuf tb) → BufTy
  | .hbm, ⟨0, _⟩ => ⟨S8x1024x6144, .bf16⟩
  | .hbm, ⟨1, _⟩ => ⟨S3x1536, .f32⟩
  | .hbm, ⟨2, _⟩ => ⟨S1536, .f32⟩
  | .hbm, ⟨3, _⟩ => ⟨S3x512, .f32⟩
  | .hbm, ⟨4, _⟩ => ⟨S512, .f32⟩
  | .hbm, ⟨5, _⟩ => ⟨S2x3x1024x512, .f32⟩
  | .hbm, ⟨6, _⟩ => ⟨S2x512, .f32⟩
  | .hbm, ⟨7, _⟩ => ⟨S2048x1024, .bf16⟩
  | .hbm, ⟨8, _⟩ => ⟨S1024x2048, .bf16⟩
  | .hbm, ⟨9, _⟩ => ⟨S1x1536, .f32⟩
  | .hbm, ⟨10, _⟩ => ⟨S1x512, .f32⟩
  | .hbm, ⟨11, _⟩ => ⟨S8x1024x512, .bf16⟩
  | .hbm, ⟨12, _⟩ => ⟨S8x1024x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S3x256, .f32⟩
  | .local _ .vmem, ⟨25, _⟩ => ⟨S3x256, .f32⟩
  | .local _ .vmem, ⟨26, _⟩ => ⟨S1x256, .f32⟩
  | .local _ .vmem, ⟨27, _⟩ => ⟨S1x256, .f32⟩
  | .local _ .vmem, ⟨28, _⟩ => ⟨S2x3x1024x256, .f32⟩
  | .local _ .vmem, ⟨29, _⟩ => ⟨S2x256, .f32⟩
  | .local _ .vmem, ⟨30, _⟩ => ⟨S2x256, .f32⟩
  | .local _ .vmem, ⟨31, _⟩ => ⟨S2048x1024, .bf16⟩
  | .local _ .vmem, ⟨32, _⟩ => ⟨S1024x2048, .bf16⟩
  | .local _ .vmem, ⟨33, _⟩ => ⟨S1x1024x256, .bf16⟩
  | .local _ .vmem, ⟨34, _⟩ => ⟨S1x1024x256, .bf16⟩
  | .local _ .vmem, ⟨35, _⟩ => ⟨S1x1024x256, .bf16⟩
  | .local _ .vmem, ⟨36, _⟩ => ⟨S1x1024x256, .bf16⟩
  | .local _ .vmem, ⟨37, _⟩ => ⟨S2048x256, .bf16⟩
  | _, _ => ⟨S8x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![arg1.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S2x3x1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S2048x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ConvSampleRefIdeal.lean ====
abbrev S8x1024x6144 : Shape := ⟨3, ![8, 1024, 6144]⟩
abbrev S3x1536 : Shape := ⟨2, ![3, 1536]⟩
abbrev S1536 : Shape := ⟨1, ![1536]⟩
abbrev S3x512 : Shape := ⟨2, ![3, 512]⟩
abbrev S512 : Shape := ⟨1, ![512]⟩
abbrev S2x3x1024x512 : Shape := ⟨4, ![2, 3, 1024, 512]⟩
abbrev S2x512 : Shape := ⟨2, ![2, 512]⟩
abbrev S2048x1024 : Shape := ⟨2, ![2048, 1024]⟩
abbrev S1024x2048 : Shape := ⟨2, ![1024, 2048]⟩
abbrev S8x1024x1536 : Shape := ⟨3, ![8, 1024, 1536]⟩
abbrev S8x1024x512 : Shape := ⟨3, ![8, 1024, 512]⟩
abbrev S_ : Shape := ⟨0, ![]⟩
abbrev S8x1026x512 : Shape := ⟨3, ![8, 1026, 512]⟩
abbrev S1x512 : Shape := ⟨2, ![1, 512]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x6144, .bf16⟩
  | .hbm, ⟨1, _⟩ => ⟨S3x1536, .f32⟩
  | .hbm, ⟨2, _⟩ => ⟨S1536, .f32⟩
  | .hbm, ⟨3, _⟩ => ⟨S3x512, .f32⟩
  | .hbm, ⟨4, _⟩ => ⟨S512, .f32⟩
  | .hbm, ⟨5, _⟩ => ⟨S2x3x1024x512, .f32⟩
  | .hbm, ⟨6, _⟩ => ⟨S2x512, .f32⟩
  | .hbm, ⟨7, _⟩ => ⟨S2048x1024, .bf16⟩
  | .hbm, ⟨8, _⟩ => ⟨S1024x2048, .bf16⟩
  | .hbm, ⟨9, _⟩ => ⟨S8x1024x1536, .bf16⟩
  | .hbm, ⟨10, _⟩ => ⟨S8x1024x1536, .f32⟩
  | .hbm, ⟨11, _⟩ => ⟨S8x1024x512, .f32⟩
  | .hbm, ⟨12, _⟩ => ⟨S8x1024x512, .f32⟩
  | .hbm, ⟨13, _⟩ => ⟨S8x1024x512, .f32⟩
  | .hbm, ⟨14, _⟩ => ⟨S8x1024x512, .f32⟩
  | .hbm, ⟨15, _⟩ => ⟨S_, .i32⟩
  | .hbm, ⟨16, _⟩ => ⟨S_, .f32⟩
  | .hbm, ⟨17, _⟩ => ⟨S8x1026x512, .f32⟩
  | .hbm, ⟨18, _⟩ => ⟨S8x1024x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S8x1024x512, .f32⟩
  | .hbm, ⟨23, _⟩ => ⟨S8x1024x512, .f32⟩
  | .hbm, ⟨24, _⟩ => ⟨S8x1024x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S8x1024x512, .f32⟩
  | .hbm, ⟨29, _⟩ => ⟨S8x1024x512, .f32⟩
  | .hbm, ⟨30, _⟩ => ⟨S8x1024x512, .f32⟩
  | .hbm, ⟨31, _⟩ => ⟨S8x1024x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S8x1024x512, .f32⟩
  | .hbm, ⟨36, _⟩ => ⟨S8x1024x512, .f32⟩
  | .hbm, ⟨37, _⟩ => ⟨S8x1024x512, .f32⟩
  | .hbm, ⟨38, _⟩ => ⟨S1x1x512, .f32⟩
  | .hbm, ⟨39, _⟩ => ⟨S8x1024x512, .f32⟩
  | .hbm, ⟨40, _⟩ => ⟨S8x1024x512, .f32⟩
  | .hbm, ⟨41, _⟩ => ⟨S8x1024x512, .f32⟩
  | .hbm, ⟨42, _⟩ => ⟨S8x1024x512, .bf16⟩
  | _, _ => ⟨S8x1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Spec.lean ====
/-
  The mathematics of the calls over the extended reals, said once, without arrays: what the kernels and the references
  are both read as. Nothing here mentions a kernel.
-/
module

public import Idealize.ShloMosaic.Lib.Pointwise
public import Idealize.ShloMosaic.Lib.Pointwise.Tactic

@[expose] public section

noncomputable section

namespace Cert.Spec

open Idealize.ShloMosaic

/-- The logistic function as both sides compute it. -/
def sigmoid (x : EReal) : EReal := Ideal.div 1 (1 + Ideal.exp (-x))

/-- A gated pair of projections of one row: `silu (x · w₁) * (x · w₂)`. -/
def gatedUp {d : Nat} (x w₁ w₂ : Fin d → EReal) : EReal :=
  (∑ k, x k * w₁ k) * sigmoid (∑ k, x k * w₁ k) * ∑ k, x k * w₂ k

/-- Multiplying by a finite number that is not negative passes through a finite sum, infinite terms included. -/
theorem sum_mul_of_nonneg {ι : Type} (s : Finset ι) (f : ι → EReal) (g : EReal) (h0 : 0 ≤ g) (h1 : g < ⊤) :
    (∑ i ∈ s, f i) * g = ∑ i ∈ s, f i * g := by
  classical
  induction s using Finset.induction_on with
  | empty => simp
  | insert a s ha ih =>
    rw [Finset.sum_insert ha, Finset.sum_insert ha, EReal.right_distrib_of_nonneg_of_ne_top h0 h1.ne, ih]

/-- One token's hidden row before a projection: the row over its root mean square, weighted, then scaled and shifted by
    the layer's modulation. The two literals are the programs' own: 1024 and the small number under the root. -/
def modRow (x shift scale w : Fin 1024 → EReal) (k : Fin 1024) : EReal :=
  x k * Ideal.rsqrt (Ideal.div (∑ j, x j * x j) (Ideal.ofBits .f32 1149239296#32) + Ideal.ofBits .f32 897988541#32) * w k
    * (1 + scale k) + shift k

/-- The three branches of one token, each projected to the model's width, gated and added. -/
def gateMix (ya yb yc : Fin 512 → EReal) (ga gb gc : Fin 1024 → EReal) (wa wb wc : Fin 512 → Fin 1024 → EReal) (k : Fin 1024) : EReal :=
  sigmoid (ga k) * (∑ j, ya j * wa j k) + sigmoid (gb k) * (∑ j, yb j * wb j k) + sigmoid (gc k) * ∑ j, yc j * wc j k

/-- The residual row: the token's row plus the gated output projection of the mixed branches. -/
def residual (x g u : Fin 1024 → EReal) (w : Fin 1024 → Fin 1024 → EReal) (n : Fin 1024) : EReal :=
  x n + g n * ∑ k, u k * w k n

end Cert.Spec

end
-- ==== Proof.Bits.lean ====
/-
  Constants and flags: the literals the programs write, as extended reals, and the one-bit words a predicate is made of.
-/
module

public import Idealize.ShloMosaic.Lib.Pointwise
public import Idealize.ShloMosaic.Lib.Pointwise.Tactic

@[expose] public section

noncomputable section

namespace Cert.Spec

open Idealize.ShloMosaic

/-- The literal `+inf` is `⊤`. -/
theorem inf_lit : Ideal.ofBits .f32 0x7F800000#32 = ⊤ := by simp [Ideal.ofBits, Ideal.ieee]

/-- The literal `64` is 64. -/
theorem lit_64 : Ideal.ofBits .f32 0x42800000#32 = ((64 : ℝ) : EReal) := by
  simp [Ideal.ofBits, Ideal.ieee, -EReal.coe_mul]; norm_num

/-- The literal `0.015625` is 1/64. -/
theorem lit_inv64 : Ideal.ofBits .f32 0x3C800000#32 = ((1 / 64 : ℝ) : EReal) := by
  simp [Ideal.ofBits, Ideal.ieee, -EReal.coe_mul]; norm_num

/-- The literal `0.125` is 1/8. -/
theorem lit_eighth : Ideal.ofBits .f32 0x3E000000#32 = ((1 / 8 : ℝ) : EReal) := by
  simp [Ideal.ofBits, Ideal.ieee, -EReal.coe_mul]; norm_num

/-- The conjunction of two flags is set when both are. -/
theorem andi_one : ∀ a b : BitVec 1, IntOp.andi a b = 1#1 ↔ a = 1#1 ∧ b = 1#1 := by decide

/-- The flag of a proposition is set when the proposition holds. -/
theorem flag_one (p : Prop) [Decidable p] : BitVec.ofBool (decide p) = 1#1 ↔ p := by
  by_cases h : p <;> simp [h]

end Cert.Spec

end
-- ==== Proof.AttentionMath.lean ====
/-
  The attention's mathematics over the extended reals, without arrays: a head's normed row, the score of a query and a
  key, the softmax-weighted sum of the values, and the equations between the two ways of computing them.
-/
module

public import proofs.«01_k».proof.Proof.Spec
public import proofs.«01_k».proof.Proof.Bits

@[expose] public section

noncomputable section

namespace Cert.Spec

open Idealize.ShloMosaic

/-- A head's row over its root mean square, weighted. The literals are the programs' own: 64 and the small number under
    the root. -/
def headNorm (x w : Fin 64 → EReal) (d : Fin 64) : EReal :=
  x d * Ideal.rsqrt (Ideal.div (∑ e, x e * x e) (Ideal.ofBits .f32 0x42800000#32) + Ideal.ofBits .f32 0x358637BD#32) * w d

/-- The score of a query and a key: their product over the square root of 64. -/
def score (q k : Fin 64 → EReal) : EReal := (∑ d, k d * q d) * Ideal.ofBits .f32 0x3E000000#32

/-- The largest of a query's scores. -/
def top {n : Nat} (s : Fin n → EReal) : EReal := Finset.fold max (Ideal.ofBits .f32 0xFF800000#32) s Finset.univ

/-- The values `v`, weighted by the softmax of the scores `s`. -/
def attend {n : Nat} (s v : Fin n → EReal) : EReal :=
  ∑ j, v j * Ideal.div (Ideal.exp (s j - top s)) (∑ x, Ideal.exp (s x - top s))

/-- One head of the attention for one token: its query row, the rows of keys and of values. -/
def headAttend {n : Nat} (q : Fin 64 → EReal) (k v : Fin n → Fin 64 → EReal) (d : Fin 64) : EReal :=
  attend (fun j => score q (k j)) (fun j => v j d)

/-- The literal `-inf` is `⊥`. -/
theorem neg_inf_lit : Ideal.ofBits .f32 0xFF800000#32 = ⊥ := by simp [Ideal.ofBits, Ideal.ieee]

/-- A number that is neither infinity. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.sub_self {x : EReal} : IsReal x → x - x = 0 := by
  rintro ⟨a, rfl⟩; exact EReal.sub_self (EReal.coe_ne_top a) (EReal.coe_ne_bot a)

/-- A number whose absolute value is below `⊤` is finite. -/
theorem isReal_of_abs_lt {x : EReal} (h : max x (-x) < ⊤) : IsReal x := by
  induction x with
  | bot => simp at h
  | top => simp at h
  | coe r => exact ⟨r, rfl⟩

/-- Dividing by the literal 64 is multiplying by the literal 1/64. -/
theorem div_64 (x : EReal) : Ideal.div x (Ideal.ofBits .f32 0x42800000#32) = x * Ideal.ofBits .f32 0x3C800000#32 := by
  rw [lit_64, lit_inv64, Ideal.div, if_neg (by norm_num), ← EReal.coe_inv]
  norm_num

/-- The literal 1/8 is not negative and is finite. -/
theorem eighth_nonneg : (0 : EReal) ≤ Ideal.ofBits .f32 0x3E000000#32 := by
  rw [lit_eighth]; exact_mod_cast (by norm_num : (0 : ℝ) ≤ 1 / 8)

theorem eighth_lt_top : Ideal.ofBits .f32 0x3E000000#32 < ⊤ := by
  rw [lit_eighth]; exact EReal.coe_lt_top _

/-- The small number under the root is positive. -/
theorem eps_pos : ∃ r : ℝ, 0 < r ∧ Ideal.ofBits .f32 0x358637BD#32 = (r : EReal) := by
  refine ⟨_, ?_, by simp [Ideal.ofBits, Ideal.ieee, -EReal.coe_mul]; rfl⟩
  positivity

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rsqrt_pos (r : ℝ) (h : 0 < r) : Ideal.rsqrt (r : EReal) = (((Real.sqrt r)⁻¹ : ℝ) : EReal) := by
  show (if r < 0 then _ else if r = 0 then _ else _) = _
  rw [if_neg h.le.not_gt, if_neg h.ne']

/-- A normed head's row of finite numbers is finite. -/
theorem headNorm_isReal (x w : Fin 64 → EReal) (hx : ∀ d, IsReal (x d)) (hw : ∀ d, IsReal (w d)) (d : Fin 64) : IsReal (headNorm x w d) := by
  unfold headNorm
  refine ((hx d).mul ?_).mul (hw d)
  choose r hr using hx
  have hs : ∑ e, x e * x e = ((∑ e, r e * r e : ℝ) : EReal) := by
    rw [coe_sum]
    exact Finset.sum_congr rfl fun e _ => by rw [hr e, EReal.coe_mul]
  obtain ⟨ε, hε, he⟩ := eps_pos
  have hp : 0 < (∑ e, r e * r e) * (1 / 64) + ε := add_pos_of_nonneg_of_pos (mul_nonneg (Finset.sum_nonneg fun e _ => mul_self_nonneg _) (by norm_num)) hε
  rw [div_64, lit_inv64, hs, he, ← EReal.coe_mul, ← EReal.coe_add]
  exact ⟨_, rsqrt_pos _ hp⟩

/-- The kernel's normed row: the sum of squares taken in two parts, the second of which is zero, times 1/64. -/
theorem headNorm_split (x w : Fin 64 → EReal) (d : Fin 64) (z : EReal) (hz : z = 0) :
    x d * Ideal.rsqrt (((∑ e, x e * x e) + z) * Ideal.ofBits .f32 0x3C800000#32 + Ideal.ofBits .f32 0x358637BD#32) * w d = headNorm x w d := by
  rw [hz, add_zero, ← div_64]; rfl

/-- The kernel's score: the query is scaled before the product. -/
theorem score_scaled (q k : Fin 64 → EReal) : ∑ d, q d * Ideal.ofBits .f32 0x3E000000#32 * k d = score q k := by
  rw [score, sum_mul_of_nonneg _ _ _ eighth_nonneg eighth_lt_top]
  exact Finset.sum_congr rfl fun d _ => by rw [mul_right_comm, mul_comm (q d)]

theorem score_isReal (q k : Fin 64 → EReal) (hq : ∀ d, IsReal (q d)) (hk : ∀ d, IsReal (k d)) : IsReal (score q k) :=
  (IsReal.sum _ _ fun d => (hk d).mul (hq d)).mul ⟨1 / 8, lit_eighth⟩

theorem exp_nonneg (x : EReal) : 0 ≤ Ideal.exp x := by
  induction x with
  | bot => exact le_refl _
  | top => exact le_top
  | coe r => exact EReal.coe_nonneg.mpr (Real.exp_pos r).le

/-- The largest of finitely many scores is one of them. -/
theorem top_mem {n : Nat} (s : Fin (n + 1) → EReal) : ∃ j, top s = s j := by
  have h : top s = Finset.univ.sup s := by rw [top, neg_inf_lit]; rfl
  obtain ⟨j, -, hj⟩ := Finset.exists_mem_eq_sup Finset.univ ⟨0, Finset.mem_univ _⟩ s
  exact ⟨j, h.trans hj⟩

/-- The kernel divides the weighted sum once; the softmax divides each weight. -/
theorem attend_scaled {n : Nat} (s v : Fin (n + 1) → EReal) (hs : ∀ j, IsReal (s j)) :
    (∑ j, Ideal.exp (s j - top s) * v j) * Ideal.div 1 (∑ x, Ideal.exp (s x - top s)) = attend s v := by
  obtain ⟨j, hj⟩ := top_mem s
  have h1 : Ideal.exp (s j - top s) = 1 := by
    rw [hj, (hs j).sub_self]; exact (congrArg (fun r : ℝ => (r : EReal)) Real.exp_zero)
  have hD : 0 < ∑ x, Ideal.exp (s x - top s) :=
    lt_of_lt_of_le (by rw [h1]; exact zero_lt_one) (Finset.single_le_sum (f := fun x => Ideal.exp (s x - top s)) (fun x _ => exp_nonneg _) (Finset.mem_univ j))
  unfold attend
  generalize ∑ x, Ideal.exp (s x - top s) = D at hD
  have hd : ∀ x, Ideal.div x D = x * D⁻¹ := fun x => by rw [Ideal.div, if_neg hD.ne']
  have hi : D⁻¹ < ⊤ := by
    induction D with
    | bot => exact absurd hD (by simp)
    | top => simp
    | coe r => rw [← EReal.coe_inv]; exact EReal.coe_lt_top _
  rw [hd, one_mul, sum_mul_of_nonneg _ _ _ (EReal.inv_nonneg_of_nonneg hD.le) hi]
  exact Finset.sum_congr rfl fun x _ => by rw [hd, mul_comm (Ideal.exp _), mul_assoc]

/-- A sum over lanes of which only the 64 from `a` count. -/
theorem sum_lanes {n : Nat} (p : Fin n → Prop) [DecidablePred p] (f : Fin n → EReal) (a : Nat) (ha : a + 64 ≤ n)
    (hp : ∀ x : Fin n, p x ↔ a ≤ x.val ∧ x.val < a + 64) :
    (∑ x, if p x then f x else 0) = ∑ e : Fin 64, f ⟨a + e.val, by omega⟩ := by
  rw [← Finset.sum_filter]
  refine (Finset.sum_bij (fun (e : Fin 64) _ => (⟨a + e.val, by omega⟩ : Fin n)) ?_ ?_ ?_ ?_).symm
  · intro e _
    exact Finset.mem_filter.mpr ⟨Finset.mem_univ _, (hp _).mpr ⟨Nat.le_add_right _ _, Nat.add_lt_add_left e.isLt a⟩⟩
  · intro e _ e' _ h
    have := congrArg Fin.val h
    exact Fin.ext (Nat.add_left_cancel this)
  · intro x hx
    obtain ⟨h1, h2⟩ := (hp x).mp (Finset.mem_filter.mp hx).2
    exact ⟨⟨x.val - a, by omega⟩, Finset.mem_univ _, Fin.ext (by show a + (x.val - a) = x.val; omega)⟩
  · intro e _; rfl

/-- A sum of which one term counts. -/
theorem sum_pick {n : Nat} (f c : Fin n → EReal) (a : Fin n) (h1 : c a = 1) (h0 : ∀ x, x ≠ a → c x = 0) : ∑ x, f x * c x = f a := by
  rw [Finset.sum_eq_single a (fun x _ hx => by rw [h0 x hx, mul_zero]) (fun h => absurd (Finset.mem_univ a) h), h1, mul_one]

end Cert.Spec

end
-- ==== Proof.AttentionBlock.lean ====
/-
  The attention, one block: what the body computes from one prompt's 256 rows of queries, keys and values. The four
  heads of a group share a row of 256 lanes: each masks the queries to its own 64 lanes, so the other lanes add nothing
  to its scores, and writes its result into those lanes alone.
-/
module

public import proofs.«01_k».proof.Proof.Gen.AttentionIdeal.Value
public import proofs.«01_k».proof.Proof.AttentionMath
public import Idealize.ShloMosaic.Lib.Pipeline.ReadBack

@[expose] public section

set_option maxRecDepth 16384

noncomputable section

namespace Cert.AttentionIdeal.Block

open Cert.AttentionIdeal Cert.AttentionIdeal.Gen Cert.Spec Idealize.ShloMosaic Idealize.ShloMosaic.TcCoe Idealize.ShloMosaic.Tactic

/-- Lane `d` of head `h`. -/
def lane {H : Nat} (n : Nat) (hn : H * 64 = n) (h : Fin H) (d : Fin 64) : Fin n :=
  ⟨64 * h.val + d.val, by have := h.isLt; have := d.isLt; omega⟩

abbrev lane2 (h : Fin 2) (d : Fin 64) : Fin 128 := lane 128 rfl h d
abbrev lane4 (h : Fin 4) (d : Fin 64) : Fin 256 := lane 256 rfl h d
abbrev lane8 (h : Fin 8) (d : Fin 64) : Fin 512 := lane 512 rfl h d

/-- Head `h` of group `g`. -/
def headOf (g : Fin 2) (h : Fin 4) : Fin 8 := ⟨4 * g.val + h.val, by have := g.isLt; have := h.isLt; omega⟩

/-! ## The body's values, named -/

/-- The lanes `0 … 255` of a row. -/
def lanes : IVec S256x256 32 := iota .tc S256x256 32 [1] iota_S256x256_d1_w32

/-- The lanes of head `h`: the lane over 64, rounded down, is `h`. -/
def mine (h : BitVec 32) : IVec S256x256 1 :=
  cmpi .eq (select (k0_pay37 lanes) (subi (k0_pay36 lanes) k0_pay38) (k0_pay36 lanes)) (broadcast S256x256 h)

/-- A head's scores: the rows of queries, masked to the head's lanes, by the rows of keys. -/
def scores (b : IVec S256x256 1) (q : FVec Ideal S256x256 .f32) (k : Vec Ideal S1x256x256 .bf16) : FVec Ideal S256x256 .f32 :=
  matmul dot_S256x256_S256x256_S256x256_1_1_0_0_n_n none
    (truncf .bf16 (select b q (broadcast S256x256 (Scalar.ofBits .f32 0x00000000#32))) bitsLt_bf16_f32)
    (shapeCast (α := Ideal .bf16) S256x256 k shapeCasts_S1x256x256_S256x256) (constant S256x256 .f32 0x00000000#32)

/-- A head's weights before they are divided by their sum. -/
def weights (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- One head written into its lanes of the rows `acc`. -/
def headOut (b : IVec S256x256 1) (p : FVec Ideal S256x256 .f32) (v : Vec Ideal S1x256x256 .bf16) (acc : FVec Ideal S256x256 .f32) : FVec Ideal S256x256 .f32 :=
  select b
    (mulf (matmul dot_S256x256_S256x256_S256x256_1_0_0_1_n_n none (truncf .bf16 p bitsLt_bf16_f32)
        (shapeCast (α := Ideal .bf16) S256x256 v shapeCasts_S1x256x256_S256x256) (constant S256x256 .f32 0x00000000#32))
      (broadcastTo S256x256 (divf (broadcast S256x1 (Scalar.ofBits .f32 0x3F800000#32))
        (shapeCast S256x1 (multiReduction .add [1] S256 p 0x00000000#32 reduces_S256x256_S256 (.inl rfl) rfl) shapeCasts_S256_S256x1)) broadcasts_S256x1_S256x256))
    acc

/-- Head `h` of a half: its scores, its weights, its lanes. -/
def head (h : BitVec 32) (q : FVec Ideal S256x256 .f32) (k v : Vec Ideal S1x256x256 .bf16) (acc : FVec Ideal S256x256 .f32) : FVec Ideal S256x256 .f32 :=
  headOut (mine h) (weights (scores (mine h) q k)) v acc

/-- The four heads of a half, one after another. -/
def heads (q : FVec Ideal S256x256 .f32) (k v : Vec Ideal S1x256x256 .bf16) : FVec Ideal S256x256 .f32 :=
  head 3#32 q k v (head 2#32 q k v (head 1#32 q k v (head 0#32 q k v (broadcast S256x256 (Scalar.ofBits .f32 0x00000000#32)))))

/-! The body's head steps are these: the four of the left half, then the four of the right. -/

theorem left0 (q : FVec Ideal S256x256 .f32) (k v : Vec Ideal S1x256x256 .bf16) (a : FVec Ideal S256x256 .f32) :
    k0_pay17 lanes q a 64#32 k0_pay15 k0_pay16 k v = head 0#32 q k v a := rfl
theorem left1 (q : FVec Ideal S256x256 .f32) (k v : Vec Ideal S1x256x256 .bf16) (a : FVec Ideal S256x256 .f32) :
    k0_pay24 a (k0_pay19 lanes 64#32 (k0_pay18 lanes) 0#32) (k0_pay21 lanes q 64#32 (k0_pay18 lanes) 0#32 k) (k0_pay22 lanes q 64#32 (k0_pay18 lanes) 0#32 k v) k0_pay23 = head 1#32 q k v a := rfl
theorem left2 (q : FVec Ideal S256x256 .f32) (k v : Vec Ideal S1x256x256 .bf16) (a : FVec Ideal S256x256 .f32) :
    k0_pay29 a (k0_pay25 lanes) (k0_pay27 lanes q k) (k0_pay28 lanes q k) v = head 2#32 q k v a := rfl
theorem left3 (q : FVec Ideal S256x256 .f32) (k v : Vec Ideal S1x256x256 .bf16) (a : FVec Ideal S256x256 .f32) :
    k0_pay33 a (k0_pay30 lanes) (k0_pay31 lanes q k) (k0_pay32 lanes q k) v = shapeCast S1x256x256 (head 3#32 q k v a : FVec Ideal S256x256 .bf16) shapeCasts_S256x256_S1x256x256 := rfl
theorem right0 (q : FVec Ideal S256x256 .f32) (k v : Vec Ideal S1x256x256 .bf16) (a : FVec Ideal S256x256 .f32) :
    k0_pay39 q a (k0_pay36 lanes) (k0_pay37 lanes) k0_pay38 k v = head 0#32 q k v a := rfl
theorem right1 (q : FVec Ideal S256x256 .f32) (k v : Vec Ideal S1x256x256 .bf16) (a : FVec Ideal S256x256 .f32) :
    k0_pay42 lanes q a 64#32 (k0_pay40 lanes) (k0_pay41 lanes) k v = head 1#32 q k v a := rfl
theorem right2 (q : FVec Ideal S256x256 .f32) (k v : Vec Ideal S1x256x256 .bf16) (a : FVec Ideal S256x256 .f32) :
    k0_pay45 lanes q a 64#32 (k0_pay43 lanes) (k0_pay44 lanes) 0#32 k v = head 2#32 q k v a := rfl
theorem right3 (q : FVec Ideal S256x256 .f32) (k v : Vec Ideal S1x256x256 .bf16) (a : FVec Ideal S256x256 .f32) :
    k0_pay1 a (k0_pay48 lanes 64#32 (k0_pay46 lanes) k0_pay47) (k0_pay50 lanes q 64#32 (k0_pay46 lanes) k0_pay47 k v) (k0_pay51 lanes q 64#32 (k0_pay46 lanes) k0_pay47 k)
      = shapeCast S1x256x256 (head 3#32 q k v a : FVec Ideal S256x256 .bf16) shapeCasts_S256x256_S1x256x256 := rfl

/-! ## Read at an index -/

theorem scores_apply (b : IVec S256x256 1) (q : FVec Ideal S256x256 .f32) (k : Vec Ideal S1x256x256 .bf16) (i j : Fin 256) :
    scores b q k (ix2 i j) = ∑ x, Scalar.select (b (ix2 i x)) (q (ix2 i x) * k (ix3 0 j x)) 0 := by
  unfold scores
  pointwise [dot_S256x256_S256x256_S256x256_1_1_0_0_n_n]

theorem weights_apply (s : FVec Ideal S256x256 .f32) (i j : Fin 256) :
    weights s (ix2 i j) = Ideal.exp (s (ix2 i j) - top fun x => s (ix2 i x)) := by
  unfold weights
  pointwise []
  rfl

theorem headOut_apply (b : IVec S256x256 1) (p : FVec Ideal S256x256 .f32) (v : Vec Ideal S1x256x256 .bf16) (a : FVec Ideal S256x256 .f32) (i l : Fin 256) :
    headOut b p v a (ix2 i l)
      = Scalar.select (b (ix2 i l)) ((∑ j, p (ix2 i j) * v (ix3 0 j l)) * Ideal.div 1 (∑ x, p (ix2 i x))) (a (ix2 i l)) := by
  unfold headOut
  pointwise [dot_S256x256_S256x256_S256x256_1_0_0_1_n_n]

/-- Whether lane `l` is head `h`'s. -/
theorem mine_apply (h : Fin 4) (i l : Fin 256) : mine (BitVec.ofNat 32 h.val) (ix2 i l) = if l.val / 64 = h.val then 1#1 else 0#1 :=
  (by decide +kernel : ∀ (h : Fin 4) (l : Fin 256), mine (BitVec.ofNat 32 h.val) (ix2 0 l) = if l.val / 64 = h.val then 1#1 else 0#1) h l

theorem select_flag (p : Prop) [Decidable p] (x y : EReal) : Scalar.select (if p then 1#1 else 0#1) x y = if p then x else y := by
  by_cases h : p <;> simp [h, Scalar.select]

/-- A head's score takes the products of its own lanes. -/
theorem scores_mine (h : Fin 4) (q : FVec Ideal S256x256 .f32) (k : Vec Ideal S1x256x256 .bf16) (i j : Fin 256) :
    scores (mine (BitVec.ofNat 32 h.val)) q k (ix2 i j) = ∑ d, q (ix2 i (lane4 h d)) * k (ix3 0 j (lane4 h d)) := by
  rw [scores_apply]
  simp only [mine_apply, select_flag]
  exact sum_lanes (fun x : Fin 256 => x.val / 64 = h.val) (fun x => q (ix2 i x) * k (ix3 0 j x)) (64 * h.val) (by omega) (fun x => by omega)

/-- A head's step, in its own lanes and elsewhere. -/
theorem head_apply (h h' : Fin 4) (q : FVec Ideal S256x256 .f32) (k v : Vec Ideal S1x256x256 .bf16) (a : FVec Ideal S256x256 .f32) (i : Fin 256) (d : Fin 64) :
    head (BitVec.ofNat 32 h.val) q k v a (ix2 i (lane4 h' d))
      = if h' = h then
          (∑ j, weights (scores (mine (BitVec.ofNat 32 h.val)) q k) (ix2 i j) * v (ix3 0 j (lane4 h' d)))
            * Ideal.div 1 (∑ x, weights (scores (mine (BitVec.ofNat 32 h.val)) q k) (ix2 i x))
        else a (ix2 i (lane4 h' d)) := by
  rw [head, headOut_apply, mine_apply, select_flag]
  have e : ((lane4 h' d).val / 64 = h.val) ↔ h' = h := by
    show (64 * h'.val + d.val) / 64 = h.val ↔ _
    rw [Fin.ext_iff]; omega
  simp only [e]

/-- In head `h`'s lanes the four steps leave head `h`'s. -/
theorem heads_apply (h : Fin 4) (q : FVec Ideal S256x256 .f32) (k v : Vec Ideal S1x256x256 .bf16) (i : Fin 256) (d : Fin 64) :
    heads q k v (ix2 i (lane4 h d))
      = (∑ j, weights (scores (mine (BitVec.ofNat 32 h.val)) q k) (ix2 i j) * v (ix3 0 j (lane4 h d)))
            * Ideal.div 1 (∑ x, weights (scores (mine (BitVec.ofNat 32 h.val)) q k) (ix2 i x)) := by
  unfold heads
  have e := fun (n : Fin 4) a => head_apply n h q k v a i d
  refine (e 3 _).trans ?_
  split
  · next hh => subst hh; rfl
  refine (e 2 _).trans ?_
  split
  · next hh => subst hh; rfl
  refine (e 1 _).trans ?_
  split
  · next hh => subst hh; rfl
  refine (e 0 _).trans ?_
  split
  · next hh => subst hh; rfl
  · omega

/-- So each head's lanes hold its attention, once the lanes of the queries hold scaled finite queries and those of the
    keys and values the group's keys and values. -/
theorem heads_attend (h : Fin 4) (q : FVec Ideal S256x256 .f32) (k v : Vec Ideal S1x256x256 .bf16) (i : Fin 256) (qn : Fin 64 → EReal)
    (kn vn : Fin 256 → Fin 64 → EReal) (hq : ∀ d, q (ix2 i (lane4 h d)) = qn d * Ideal.ofBits .f32 0x3E000000#32)
    (hk : ∀ j d, k (ix3 0 j (lane4 h d)) = kn j d) (hv : ∀ j d, v (ix3 0 j (lane4 h d)) = vn j d)
    (rq : ∀ d, IsReal (qn d)) (rk : ∀ j d, IsReal (kn j d)) (d : Fin 64) :
    heads q k v (ix2 i (lane4 h d)) = headAttend qn kn vn d := by
  have hs : ∀ j, scores (mine (BitVec.ofNat 32 h.val)) q k (ix2 i j) = score qn (kn j) := fun j => by
    rw [scores_mine, ← score_scaled]
    exact Finset.sum_congr rfl fun d _ => by rw [hq, hk]
  rw [heads_apply, headAttend, ← attend_scaled _ _ fun j => score_isReal _ _ rq (rk j)]
  simp only [weights_apply, hs, hv]

/-! ## The normed rows -/

/-- What the body is given besides the rows: the two weights repeated over the heads, the blocks of ones that sum a
    head's lanes, and the selections that repeat a group's lanes four times. -/
structure Tables (x3 : Vec Ideal S1x512 .f32) (x4 : Vec Ideal S1x128 .f32) (x5 : Vec Ideal S512x512 .bf16) (x6 : Vec Ideal S2x128x256 .bf16)
    (qw kw : Fin 64 → EReal) : Prop where
  qw : ∀ h d, x3 (ix2 0 (lane8 h d)) = qw d
  kw : ∀ h d, x4 (ix2 0 (lane2 h d)) = kw d
  ones : ∀ i j, x5 (ix2 i j) = if i.val / 64 = j.val / 64 then 1 else 0
  rep : ∀ g i j, x6 (ix3 g i j) = if i.val = 64 * g.val + j.val % 64 then 1 else 0

variable {x3 : Vec Ideal S1x512 .f32} {x4 : Vec Ideal S1x128 .f32} {x5 : Vec Ideal S512x512 .bf16} {x6 : Vec Ideal S2x128x256 .bf16} {qw kw : Fin 64 → EReal}

theorem sub_sum_zero {n : Nat} (x c : Fin n → EReal) (hx : ∀ i, IsReal (x i)) : ∑ i, (x i * x i - x i * x i) * c i = 0 :=
  Finset.sum_eq_zero fun i _ => by rw [((hx i).mul (hx i)).sub_self, zero_mul]

theorem queries_norm (T : Tables x3 x4 x5 x6 qw kw) (x0 : Vec Ideal S1x256x512 .f32) (i : Fin 256) (hx : ∀ l, IsReal (x0 (ix3 0 i l))) (h : Fin 8) (d : Fin 64) :
    k0_pay12 (F := Ideal) x0 x3 x5 (ix2 i (lane8 h d)) = headNorm (fun e => x0 (ix3 0 i (lane8 h e))) qw d * Ideal.ofBits .f32 0x3E000000#32 := by
  unfold_payloads
  pointwise [dot_S256x512_S512x512_S256x512_1_0_0_1_n_n]
  rw [T.qw, sub_sum_zero (fun l => x0 (ix3 0 i l)) (fun x => x5 (ix2 x (lane8 h d))) hx, ← headNorm_split (fun e => x0 (ix3 0 i (lane8 h e))) qw d 0 rfl]
  have e : ∑ x, x0 (ix3 0 i x) * x0 (ix3 0 i x) * x5 (ix2 x (lane8 h d)) = ∑ e, x0 (ix3 0 i (lane8 h e)) * x0 (ix3 0 i (lane8 h e)) := by
    simp only [T.ones, mul_ite, mul_one, mul_zero]
    exact sum_lanes (fun x : Fin 512 => x.val / 64 = (lane8 h d).val / 64) (fun x => x0 (ix3 0 i x) * x0 (ix3 0 i x)) (64 * h.val) (by omega)
      (fun x => by show x.val / 64 = (64 * h.val + d.val) / 64 ↔ _; omega)
  rw [e]

theorem keys_norm (T : Tables x3 x4 x5 x6 qw kw) (x1 : Vec Ideal S1x256x128 .f32) (i : Fin 256) (hx : ∀ l, IsReal (x1 (ix3 0 i l))) (h : Fin 2) (d : Fin 64) :
    k0_pay2 (F := Ideal) x1 x4 x5 (ix2 i (lane2 h d)) = headNorm (fun e => x1 (ix3 0 i (lane2 h e))) kw d := by
  unfold_payloads
  pointwise [dot_S256x128_S128x128_S256x128_1_0_0_1_n_n]
  rw [T.kw, sub_sum_zero (fun l => x1 (ix3 0 i l)) _ hx, ← headNorm_split (fun e => x1 (ix3 0 i (lane2 h e))) kw d 0 rfl]
  have e : ∀ (c : Fin 128 → EReal), (∀ x : Fin 128, c x = if x.val / 64 = (lane2 h d).val / 64 then 1 else 0) →
      ∑ x, x1 (ix3 0 i x) * x1 (ix3 0 i x) * c x = ∑ e, x1 (ix3 0 i (lane2 h e)) * x1 (ix3 0 i (lane2 h e)) := fun c hc => by
    simp only [hc, mul_ite, mul_one, mul_zero]
    exact sum_lanes (fun x : Fin 128 => x.val / 64 = (lane2 h d).val / 64) (fun x => x1 (ix3 0 i x) * x1 (ix3 0 i x)) (64 * h.val) (by omega)
      (fun x => by show x.val / 64 = (64 * h.val + d.val) / 64 ↔ _; omega)
  rw [e _ fun x => T.ones _ _]

/-! The rows of a group, repeated for its four heads. -/

theorem repeat_apply (y : FVec Ideal S256x128 .bf16) (z : Vec Ideal S1x128x256 .bf16) (i l : Fin 256) :
    k0_pay8 (F := Ideal) y z (ix3 0 i l) = ∑ x, y (ix2 i x) * z (ix3 0 x l) := by
  unfold_payloads
  pointwise [dot_S256x128_S128x256_S256x256_1_0_0_1_n_n]

/-- The selection of group `g`, as the body loads it. -/
theorem ld_rep0 (x : Vec Ideal S2x128x256 .bf16) (i : Fin 128) (l : Fin 256) :
    View.ld x (Rect.unit (s := S2x128x256) ![0, 0, 0] S1x128x256.size inb_S2x128x256_S1x128x256_0_0_0) (ix3 0 i l) = x (ix3 0 i l) :=
  congrArg x (funext fun a => Fin.ext (by
    match a with
    | ⟨0, _⟩ => rfl
    | ⟨1, _⟩ => show 0 + 1 * i.val = i.val; omega
    | ⟨2, _⟩ => show 0 + 1 * l.val = l.val; omega))

theorem ld_rep1 (x : Vec Ideal S2x128x256 .bf16) (i : Fin 128) (l : Fin 256) :
    View.ld x (Rect.unit (s := S2x128x256) ![1, 0, 0] S1x128x256.size inb_S2x128x256_S1x128x256_1_0_0) (ix3 0 i l) = x (ix3 1 i l) :=
  congrArg x (funext fun a => Fin.ext (by
    match a with
    | ⟨0, _⟩ => rfl
    | ⟨1, _⟩ => show 0 + 1 * i.val = i.val; omega
    | ⟨2, _⟩ => show 0 + 1 * l.val = l.val; omega))

theorem repeat_lane (T : Tables x3 x4 x5 x6 qw kw) (g : Fin 2) (y : FVec Ideal S256x128 .bf16) (z : Vec Ideal S1x128x256 .bf16)
    (hz : ∀ i l, z (ix3 0 i l) = x6 (ix3 g i l)) (i : Fin 256) (h : Fin 4) (d : Fin 64) :
    k0_pay8 (F := Ideal) y z (ix3 0 i (lane4 h d)) = y (ix2 i (lane2 g d)) := by
  rw [repeat_apply]
  have hl : (lane4 h d).val % 64 = d.val := by show (64 * h.val + d.val) % 64 = d.val; omega
  refine sum_pick (fun x => y (ix2 i x)) (fun x => z (ix3 0 x (lane4 h d))) (lane2 g d) ?_ fun x hx => ?_
  · show z _ = 1
    rw [hz, T.rep, hl]
    exact if_pos rfl
  · show z _ = 0
    rw [hz, T.rep, hl]
    exact if_neg fun e => hx (Fin.ext e)

/-! ## What a point leaves in the three results' blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem ldx0 (x : Vec Ideal S1x256x512 .f32) : View.ld x (Rect.unit ![0, 0, 0] S1x256x512.size inb_S1x256x512_S1x256x512_0_0_0) = x := View.ld_unit_zero hz3 _ x
theorem ldx1 (x : Vec Ideal S1x256x128 .f32) : View.ld x (Rect.unit ![0, 0, 0] S1x256x128.size inb_S1x256x128_S1x256x128_0_0_0) = x := View.ld_unit_zero hz3 _ x
theorem ldx3 (x : Vec Ideal S1x512 .f32) : View.ld x (Rect.unit ![0, 0] S1x512.size inb_S1x512_S1x512_0_0) = x := View.ld_unit_zero hz2 _ x
theorem ldx4 (x : Vec Ideal S1x128 .f32) : View.ld x (Rect.unit ![0, 0] S1x128.size inb_S1x128_S1x128_0_0) = x := View.ld_unit_zero hz2 _ x
theorem ldx5 (x : Vec Ideal S512x512 .bf16) : View.ld x (Rect.unit ![0, 0] S512x512.size inb_S512x512_S512x512_0_0) = x := View.ld_unit_zero hz2 _ x

/-- Rows of the two groups staged one after the other: where they stand, and what is read back. -/
abbrev row0 : Rect S2x256x256 := Rect.unit ![0, 0, 0] S1x256x256.size inb_S2x256x256_S1x256x256_0_0_0
abbrev row1 : Rect S2x256x256 := Rect.unit ![1, 0, 0] S1x256x256.size inb_S2x256x256_S1x256x256_1_0_0

theorem rows_apart : LoadRect.disj row1 row0.toLoadRect = true :=
  decide_eq_true ⟨0, Or.inr (Or.inr (Or.inr (by show 0 + 1 * (1 - 1) < 1; omega)))⟩

theorem staged0 {sp : Space} (v : View sig .tc sp S2x256x256 .bf16) (a : row1.shape.Idx → Elt Ideal .bf16) (b : row0.shape.Idx → Elt Ideal .bf16) :
    v.readCov (Val := Elt Ideal) [⟨row1, a⟩, ⟨row0, b⟩] row0.toLoadRect = b :=
  (View.readCov_skip v row1 a _ row0.toLoadRect rows_apart).trans (View.readCov_cons_toLoadRect v row0 b [])

theorem staged1 {sp : Space} (v : View sig .tc sp S2x256x256 .bf16) (a : row1.shape.Idx → Elt Ideal .bf16) (L : List (View.Piece (Elt Ideal) S2x256x256 .bf16)) :
    v.readCov (Val := Elt Ideal) (⟨row1, a⟩ :: L) row1.toLoadRect = a :=
  View.readCov_cons_toLoadRect v row1 a L

/-- Where the left half's rows and the right half's stand in the block. -/
abbrev leftRect : Rect S1x256x512 := Rect.unit ![0, 0, 0] S1x256x256.size inb_S1x256x512_S1x256x256_0_0_0
abbrev rightRect : Rect S1x256x512 := Rect.unit ![0, 0, 256] S1x256x256.size inb_S1x256x512_S1x256x256_0_0_256

/-- The two halves depend on the staged rows alone. -/
theorem canon_halves {q0 q1 : FVec Ideal S256x256 .bf16} {k0 k0' v0 v0' k1 k1' v1 v1' : Vec Ideal S1x256x256 .bf16} (hk0 : k0 = k0') (hv0 : v0 = v0') (hk1 : k1 = k1') (hv1 : v1 = v1') :
    View.canon (e := .bf16) (Val := Elt Ideal)
        [⟨rightRect, shapeCast (α := Ideal .bf16) S1x256x256 (heads q1 k1 v1 : FVec Ideal S256x256 .bf16) shapeCasts_S256x256_S1x256x256⟩,
         ⟨leftRect, shapeCast (α := Ideal .bf16) S1x256x256 (heads q0 k0 v0 : FVec Ideal S256x256 .bf16) shapeCasts_S256x256_S1x256x256⟩]
      = View.canon (e := .bf16) (Val := Elt Ideal)
        [⟨rightRect, shapeCast (α := Ideal .bf16) S1x256x256 (heads q1 k1' v1' : FVec Ideal S256x256 .bf16) shapeCasts_S256x256_S1x256x256⟩,
         ⟨leftRect, shapeCast (α := Ideal .bf16) S1x256x256 (heads q0 k0' v0' : FVec Ideal S256x256 .bf16) shapeCasts_S256x256_S1x256x256⟩] := by
  rw [hk0, hv0, hk1, hv1]

section Out

variable (c : Dev nD) (t : Fin cfg0.N)
  (x0 : Vec Ideal S1x256x512 .f32) (x1 : Vec Ideal S1x256x128 .f32) (x2 : Vec Ideal S1x256x128 .f32) (x3 : Vec Ideal S1x512 .f32) (x4 : Vec Ideal S1x128 .f32)
  (x5 : Vec Ideal S512x512 .bf16) (x6 : Vec Ideal S2x128x256 .bf16)

/-- The attention's block: the left half's heads over the first group, the right half's over the second. -/
theorem out7_eq :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (hcond0_0 t) x0 x1 x2 x3 x4 x5 x6
      = View.canon (Val := Elt Ideal)
        [⟨rightRect, shapeCast S1x256x256
            (heads (k0_pay34 (k0_pay12 x0 x3 x5))
              (k0_pay8 (k0_pay6 x1 x4 x5) (View.ld x6 (Rect.unit (s := S2x128x256) ![1, 0, 0] S1x128x256.size inb_S2x128x256_S1x128x256_1_0_0)))
              (k0_pay8 (k0_pay7 x2) (View.ld x6 (Rect.unit (s := S2x128x256) ![1, 0, 0] S1x128x256.size inb_S2x128x256_S1x128x256_1_0_0))) : FVec Ideal S256x256 .bf16)
            shapeCasts_S256x256_S1x256x256⟩,
         ⟨leftRect, shapeCast S1x256x256
            (heads (k0_pay13 x0 x3 x5)
              (k0_pay8 (k0_pay6 x1 x4 x5) (View.ld x6 (Rect.unit (s := S2x128x256) ![0, 0, 0] S1x128x256.size inb_S2x128x256_S1x128x256_0_0_0)))
              (k0_pay8 (k0_pay7 x2) (View.ld x6 (Rect.unit (s := S2x128x256) ![0, 0, 0] S1x128x256.size inb_S2x128x256_S1x128x256_0_0_0))) : FVec Ideal S256x256 .bf16)
            shapeCasts_S256x256_S1x256x256⟩] := by
  unfold out0_A_7
  rw [View.read_writes_eq_canon _ _ _ (cover0_A_7 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [← lanes, left0, left1, left2, left3, right0, right1, right2, right3, ldx0, ldx1, ldx1, ldx3, ldx4, ldx5]
  exact canon_halves (staged0 _ _ _) (staged0 _ _ _) (staged1 _ _ _) (staged1 _ _ _)

theorem out8_eq :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (hcond0_0 t) x0 x1 x2 x3 x4 x5 x6
      = k0_pay4 x1 x4 x5 := by
  unfold out0_A_8
  rw [View.read_writes_eq_canon _ _ _ (cover0_A_8 c _ _ _ _ _ _ _ _ _ _ _ _ _ _ _ _ _ _ _ _ _ _ _ _ _ _ _ _ _ _ _ _ _)]
  unfold kernelRun0_A; dsimp only; sl_unfold_words
  simp only [View.readAt_eq_ld, (hs0_1 t).read_unread, (hs0_4 t).read_unread, (hs0_5 t).read_unread]
  rw [View.canon_unit_zero hz3, ldx1, ldx4, ldx5]

theorem out9_eq :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (hcond0_0 t) x0 x1 x2 x3 x4 x5 x6
      = k0_pay5 x2 := by
  unfold out0_A_9
  rw [View.read_writes_eq_canon _ _ _ (cover0_A_9 c _ _ _ _ _ _ _ _ _ _ _ _ _ _ _ _ _ _ _ _ _ _ _ _ _ _ _ _ _ _ _ _ _)]
  unfold kernelRun0_A; dsimp only; sl_unfold_words
  simp only [View.readAt_eq_ld, (hs0_2 t).read_unread]
  rw [View.canon_unit_zero hz3, ldx1]

variable {x3 x4 x5 x6}

/-- The keys' block holds the normed keys. -/
theorem keys_out (T : Tables x3 x4 x5 x6 qw kw) (i : Fin 256) (hx : ∀ l, IsReal (x1 (ix3 0 i l))) (h : Fin 2) (d : Fin 64) :
    k0_pay4 (F := Ideal) x1 x4 x5 (ix3 0 i (lane2 h d)) = headNorm (fun e => x1 (ix3 0 i (lane2 h e))) kw d := by
  refine .trans ?_ (keys_norm T x1 i hx h d)
  unfold k0_pay4
  pointwise []

/-- The values' block holds the values. -/
theorem values_out (i : Fin 256) (l : Fin 128) : k0_pay5 (F := Ideal) x2 (ix3 0 i l) = x2 (ix3 0 i l) := by
  unfold_payloads
  pointwise []

theorem cast_apply (y : FVec Ideal S256x256 .bf16) (i l : Fin 256) : shapeCast S1x256x256 y shapeCasts_S256x256_S1x256x256 (ix3 0 i l) = y (ix2 i l) := by
  pointwise []

theorem pay34_apply (y : FVec Ideal S256x512 .f32) (i : Fin 256) (h : Fin 4) (d : Fin 64) :
    k0_pay34 (F := Ideal) y (ix2 i (lane4 h d)) = y (ix2 i (lane8 (headOf 1 h) d)) := by
  unfold_payloads
  pointwise []
  exact congrArg y (congrArg (ix2 i) (Fin.ext (by show 256 + (64 * h.val + d.val) = 64 * (4 * 1 + h.val) + d.val; omega)))

theorem pay13_apply (i : Fin 256) (h : Fin 4) (d : Fin 64) :
    k0_pay13 (F := Ideal) x0 x3 x5 (ix2 i (lane4 h d)) = k0_pay12 (F := Ideal) x0 x3 x5 (ix2 i (lane8 (headOf 0 h) d)) := by
  unfold k0_pay13
  generalize k0_pay12 (F := Ideal) x0 x3 x5 = y
  pointwise []
  exact congrArg y (congrArg (ix2 i) (Fin.ext (by show 64 * h.val + d.val = 64 * (4 * 0 + h.val) + d.val; omega)))

theorem pay7_apply (i : Fin 256) (l : Fin 128) : k0_pay7 (F := Ideal) x2 (ix2 i l) = x2 (ix3 0 i l) := by
  unfold_payloads
  pointwise []

/-- One half's heads, from any selection that is the group's. -/
theorem half_attend (T : Tables x3 x4 x5 x6 qw kw) (hx0 : ∀ i l, IsReal (x0 (ix3 0 i l))) (hx1 : ∀ i l, IsReal (x1 (ix3 0 i l)))
    (hqw : ∀ d, IsReal (qw d)) (hkw : ∀ d, IsReal (kw d)) (g : Fin 2) (z : Vec Ideal S1x128x256 .bf16) (hz : ∀ i l, z (ix3 0 i l) = x6 (ix3 g i l))
    (q : FVec Ideal S256x256 .f32) (i : Fin 256) (h : Fin 4)
    (hq : ∀ d, q (ix2 i (lane4 h d)) = k0_pay12 (F := Ideal) x0 x3 x5 (ix2 i (lane8 (headOf g h) d))) (d : Fin 64) :
    heads q (k0_pay8 (k0_pay6 x1 x4 x5) z) (k0_pay8 (k0_pay7 x2) z) (ix2 i (lane4 h d))
      = headAttend (headNorm (fun e => x0 (ix3 0 i (lane8 (headOf g h) e))) qw) (fun j => headNorm (fun e => x1 (ix3 0 j (lane2 g e))) kw)
        (fun j e => x2 (ix3 0 j (lane2 g e))) d :=
  heads_attend h q _ _ i _ _ _ (fun d => (hq d).trans (queries_norm T x0 i (hx0 i) _ d))
    (fun j d => (repeat_lane T g _ z hz j h d).trans (keys_norm T x1 j (hx1 j) g d))
    (fun j d => (repeat_lane T g _ z hz j h d).trans (pay7_apply x2 j _))
    (headNorm_isReal _ _ (fun e => hx0 i _) hqw) (fun j => headNorm_isReal _ _ (fun e => hx1 j _) hkw) d

/-- The attention's block holds each head's attention in its lanes. -/
theorem attend_out (T : Tables x3 x4 x5 x6 qw kw) (hx0 : ∀ i l, IsReal (x0 (ix3 0 i l))) (hx1 : ∀ i l, IsReal (x1 (ix3 0 i l)))
    (hqw : ∀ d, IsReal (qw d)) (hkw : ∀ d, IsReal (kw d)) (i : Fin 256) (g : Fin 2) (h : Fin 4) (d : Fin 64) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (hcond0_0 t) x0 x1 x2 x3 x4 x5 x6
        (ix3 0 i (lane8 (headOf g h) d))
      = headAttend (headNorm (fun e => x0 (ix3 0 i (lane8 (headOf g h) e))) qw) (fun j => headNorm (fun e => x1 (ix3 0 j (lane2 g e))) kw)
        (fun j e => x2 (ix3 0 j (lane2 g e))) d := by
  rw [out7_eq]
  match g with
  | ⟨0, _⟩ =>
    have e : (ix3 0 i (lane8 (headOf 0 h) d) : S1x256x512.Idx) = leftRect.emb (ix3 0 i (lane4 h d)) := funext fun a => Fin.ext (by
      match a with
      | ⟨0, _⟩ => rfl
      | ⟨1, _⟩ => show i.val = 0 + 1 * i.val; omega
      | ⟨2, _⟩ => show 64 * (4 * 0 + h.val) + d.val = 0 + 1 * (64 * h.val + d.val); omega)
    refine (View.canon_cons_of_not_mem _ _ ?_).trans ?_
    · intro hm
      obtain ⟨x, hx⟩ := rightRect.exists_idx_of_mem hm
      have h2 : 256 + 1 * (x 2).val = 64 * (4 * 0 + h.val) + d.val := congrArg (fun y : S1x256x512.Idx => (y 2).val) hx
      have := h.isLt; have := d.isLt
      omega
    · refine (congrArg _ e).trans ((View.canon_cons_emb _ _ _ _).trans ((cast_apply _ _ _).trans ?_))
      exact half_attend x0 x1 x2 T hx0 hx1 hqw hkw 0 _ (ld_rep0 x6) _ i h (fun d => pay13_apply x0 i h d) d
  | ⟨1, _⟩ =>
    have e : (ix3 0 i (lane8 (headOf 1 h) d) : S1x256x512.Idx) = rightRect.emb (ix3 0 i (lane4 h d)) := funext fun a => Fin.ext (by
      match a with
      | ⟨0, _⟩ => rfl
      | ⟨1, _⟩ => show i.val = 0 + 1 * i.val; omega
      | ⟨2, _⟩ => show 64 * (4 * 1 + h.val) + d.val = 256 + 1 * (64 * h.val + d.val); omega)
    refine (congrArg _ e).trans ((View.canon_cons_emb _ _ _ _).trans ((cast_apply _ _ _).trans ?_))
    exact half_attend x0 x1 x2 T hx0 hx1 hqw hkw 1 _ (ld_rep1 x6) _ i h (fun d => pay34_apply _ i h d) d

end Out

end Cert.AttentionIdeal.Block

end
-- ==== Proof.AttentionLanes.lean ====
/-
  The attention, the table that repeats a group's 64 lanes of keys or values four times: a list of stretches of 128
  entries, of which few are different.
-/
module

public import proofs.«01_k».proof.AttentionIdeal
public import Mathlib.Tactic.DefEqTransformations

@[expose] public section

namespace Cert.AttentionIdeal.Tables

open Cert.AttentionIdeal

/-- The word of the number one. -/
abbrev unit : BitVec 32 := 0x3F800000#32

/-! ## The repetition: a stretch has no ones, or one in each half -/

theorem empty_of (i : Nat) : lit0t0_130 i = 0#32 := by
  unfold lit0t0_130
  split <;> rfl

/-- A stretch that depends on the last digit, and whose 128 entries are known. -/
theorem stretch (f : Nat → BitVec 32) {i k : Nat} (hk : i / 128 % 128 = k) (hf : f i = f (i % 128))
    (h : ∀ j < 128, f j = if j % 64 = k / 2 then unit else 0#32) : f i = if i % 128 % 64 = i / 128 % 128 / 2 then unit else 0#32 := by
  rw [hf, h _ (Nat.mod_lt i (by decide)), hk]

set_option maxHeartbeats 8000000 in
/-- The first group's lanes. -/
theorem lanes0 (i : Nat) : lit0t1_0 i = if i % 128 % 64 = i / 128 % 128 / 2 then unit else 0#32 := by
  unfold lit0t1_0
  split <;> (next hk => first
    | exact stretch _ hk (by conv_lhs => whnf
                             conv_rhs => whnf
                             rw [Nat.mod_mod]) (by decide +kernel)
    | (simp only [imp_false] at *; omega))

theorem blank1 (i : Nat) : lit0t1_1 i = 0#32 := by
  unfold lit0t1_1
  split <;> first | rfl | exact empty_of i

theorem blank2 (i : Nat) : lit0t1_2 i = 0#32 := blank1 i

theorem lanes3 (i : Nat) : lit0t1_3 i = if i % 128 % 64 = i / 128 % 128 / 2 then unit else 0#32 := lanes0 i

/-- Entry `i` of the repetition's table. -/
theorem repetition (i : Nat) (hi : i < 65536) : lit0t i = if i / 256 % 128 = 64 * (i / 32768) + i % 256 % 64 then unit else 0#32 := by
  have e1 : i / 256 % 128 = i / 128 % 128 / 2 + 64 * (i / 16384 % 2) := by omega
  have e2 : i / 32768 = i / 16384 / 2 := by omega
  have e3 : i % 256 % 64 = i % 128 % 64 := by omega
  rw [e1, e2, e3]
  clear e1 e2 e3
  unfold lit0t
  split <;> (next h => first
    | (rw [h]; exact (lanes0 i).trans (if_congr (by omega) rfl rfl))
    | (rw [h]; exact (lanes3 i).trans (if_congr (by omega) rfl rfl))
    | (rw [h]; exact (blank1 i).trans (if_neg (by omega)).symm)
    | (rw [h]; exact (blank2 i).trans (if_neg (by omega)).symm)
    | (simp only [imp_false] at *; omega))

end Cert.AttentionIdeal.Tables
-- ==== Proof.AttentionHost.lean ====
/-
  The attention, the tables: what the host prepares before the call. The weights of the two norms, once for every head;
  the ones of each head's 64 × 64 square, with which the squares of a head's lanes are added up; and the ones that repeat
  a group's 64 lanes of keys or values four times.
-/
module

public import proofs.«01_k».proof.Proof.AttentionBlock
public import proofs.«01_k».proof.Proof.AttentionLanes
public import Idealize.ShloMosaic.Lib.StableHlo.ReadAt

@[expose] public section

set_option maxRecDepth 16384

noncomputable section

namespace Cert.AttentionIdeal.Host

open Cert.AttentionIdeal Cert.AttentionIdeal.Gen Cert.AttentionIdeal.Block Cert.Spec Idealize.ShloMosaic Idealize.ShloMosaic.TcCoe

variable (m : (ℓ : Loc nD τ sig) → Buf (Elt Ideal) ℓ)

/-! ## Words -/

theorem div64 (x : BitVec 32) : IntOp.divui .host x (64#32) = x / 64#32 := if_neg (by decide)

/-- One where two words are equal, zero elsewhere. -/
theorem one_of_eq (x y : BitVec 32) : FloatOps.uitofp (F := Ideal) .f32 (IntOp.cmpi .eq x y) = (if x = y then 1 else 0 : EReal) := by
  by_cases h : x = y
  · subst h
    have : IntOp.cmpi .eq x x = 1#1 := by simp [IntOp.cmpi]
    rw [this, if_pos rfl]
    show ((((1#1 : BitVec 1).toNat : ℝ)) : EReal) = 1
    norm_num
  · have : IntOp.cmpi .eq x y = 0#1 := congrArg BitVec.ofBool (beq_eq_false_iff_ne.mpr h)
    rw [this, if_neg h]
    show ((((0#1 : BitVec 1).toNat : ℝ)) : EReal) = 0
    norm_num

theorem word_eq_iff {a b : ℕ} (ha : a < 2 ^ 32) (hb : b < 2 ^ 32) (x y : BitVec 32) (hx : x.toNat = a) (hy : y.toNat = b) : x = y ↔ a = b := by
  rw [← hx, ← hy]
  exact BitVec.toNat_inj.symm

/-- The number of a word that is one or zero. -/
theorem number (p : Prop) [Decidable p] : Ideal.ofBits .f32 (if p then 0x3F800000#32 else 0#32) = (if p then 1 else 0 : EReal) := by
  split
  · simp [Ideal.ofBits, Ideal.ieee, -EReal.coe_mul]; norm_num
  · simp [Ideal.ofBits, Ideal.ieee, -EReal.coe_mul]

/-- The repetition's table by its group, row and column. -/
theorem repeated (k : Fin 65536) {g a b : ℕ} (hk : k.val = (g * 128 + a) * 256 + b) (ha : a < 128) (hb : b < 256) :
    Ideal.ofBits .f32 (lit0 k) = (if a = 64 * g + b % 64 then 1 else 0 : EReal) := by
  obtain ⟨k, h⟩ := k
  have hk : k = (g * 128 + a) * 256 + b := hk
  have e0 : k / 256 = g * 128 + a := by omega
  have e1 : k / 256 % 128 = a := by rw [e0]; omega
  have e2 : k / 32768 = g := by omega
  have e3 : k % 256 = b := by omega
  refine (congrArg (Ideal.ofBits .f32) (Tables.repetition k h)).trans ((number _).trans ?_)
  rw [e1, e2, e3]

/-! ## The tables -/

theorem qw_at (c : Dev nD) (h : Fin 8) (d : Fin 64) : V m c main_v14 (ix2 0 (lane8 h d)) = m ((c : Thread nD τ).loc main_arg1) (ix1 d) := by
  unfold V
  simp only [hostOps0, hostOps0_1, hostOps0_2, hostOps0_3, hostOps0_4, List.flatten_cons, List.flatten_nil, List.append_nil, List.cons_append, List.nil_append]
  after_reads_at
  exact congrArg (fun e => m ((c : Thread nD τ).loc main_arg1) (ix1 e)) (Fin.ext (by show (64 * h.val + d.val) % 64 = d.val; omega))

theorem kw_at (c : Dev nD) (h : Fin 2) (d : Fin 64) : V m c main_v18 (ix2 0 (lane2 h d)) = m ((c : Thread nD τ).loc main_arg2) (ix1 d) := by
  unfold V
  simp only [hostOps0, hostOps0_1, hostOps0_2, hostOps0_3, hostOps0_4, List.flatten_cons, List.flatten_nil, List.append_nil, List.cons_append, List.nil_append]
  after_reads_at
  exact congrArg (fun e => m ((c : Thread nD τ).loc main_arg2) (ix1 e)) (Fin.ext (by show (64 * h.val + d.val) % 64 = d.val; omega))

theorem ones_at (c : Dev nD) (i j : Fin 512) : V m c main_v9 (ix2 i j) = (if i.val / 64 = j.val / 64 then 1 else 0 : EReal) := by
  unfold V
  simp only [hostOps0, hostOps0_1, hostOps0_2, hostOps0_3, hostOps0_4, List.flatten_cons, List.flatten_nil, List.append_nil, List.cons_append, List.nil_append]
  after_reads_at
  refine (one_of_eq _ _).trans ?_
  refine if_congr (word_eq_iff (a := i.val / 64) (b := j.val / 64) (by omega) (by omega) _ _ ?_ ?_) rfl rfl
  · rw [show id (constantI S_ 32 64#32) ix0 = 64#32 from rfl, div64, BitVec.toNat_udiv, BitVec.toNat_ofNat, BitVec.toNat_ofNat, show 64 % 2 ^ 32 = 64 from rfl]
    omega
  · rw [show id (constantI S_ 32 64#32) ix0 = 64#32 from rfl, div64, BitVec.toNat_udiv, BitVec.toNat_ofNat, BitVec.toNat_ofNat, show 64 % 2 ^ 32 = 64 from rfl]
    omega

theorem rep_at (c : Dev nD) (g : Fin 2) (i : Fin 128) (j : Fin 256) : V m c main_v10 (ix3 g i j) = (if i.val = 64 * g.val + j.val % 64 then 1 else 0 : EReal) := by
  unfold V
  simp only [hostOps0, hostOps0_1, hostOps0_2, hostOps0_3, hostOps0_4, List.flatten_cons, List.flatten_nil, List.append_nil, List.cons_append, List.nil_append]
  after_reads_at
  exact repeated _ (Shape.rowMajor_val_three (ix3 g i j)) i.isLt j.isLt

end Cert.AttentionIdeal.Host
-- ==== Proof.Windows.lean ====
/-
  Facts about blocks that the calls share: where an element of a block sits in its array, what is carried along the tiles of
  a row block, and how the sample's 8192 rows fall into 16 row blocks and 8 requests.
-/
module

public import proofs.«01_k».proof.Proof.Spec
public import Idealize.ShloMosaic.Lib.Pointwise

@[expose] public section

namespace Cert.Windows

open Idealize.ShloMosaic

/-- An element of a block of two axes: it sits at the block's index times the block's size, plus its place in the block. -/
theorem place2 {n0 n1 p0 p1 : Nat} {x : (⟨2, ![n0, n1]⟩ : Shape).Idx} {index size y : Fin 2 → Nat}
    (hx : ∀ a, (x a).val = index a * size a + y a) (hi : index = ![p0, p1]) {a : Fin n0} {b : Fin n1}
    (ha : p0 * size 0 + y 0 = a.val) (hb : p1 * size 1 + y 1 = b.val) : x = ix2 a b := by
  subst hi
  refine funext fun i => Fin.ext ((hx i).trans ?_)
  match i with
  | ⟨0, _⟩ => exact ha
  | ⟨1, _⟩ => exact hb

/-- The same for three axes. -/
theorem place3 {n0 n1 n2 p0 p1 p2 : Nat} {x : (⟨3, ![n0, n1, n2]⟩ : Shape).Idx} {index size y : Fin 3 → Nat}
    (hx : ∀ a, (x a).val = index a * size a + y a) (hi : index = ![p0, p1, p2]) {a : Fin n0} {b : Fin n1} {c : Fin n2}
    (ha : p0 * size 0 + y 0 = a.val) (hb : p1 * size 1 + y 1 = b.val) (hc : p2 * size 2 + y 2 = c.val) : x = ix3 a b c := by
  subst hi
  refine funext fun i => Fin.ext ((hx i).trans ?_)
  match i with
  | ⟨0, _⟩ => exact ha
  | ⟨1, _⟩ => exact hb
  | ⟨2, _⟩ => exact hc

/-- The same for four axes. -/
theorem place4 {n0 n1 n2 n3 p0 p1 p2 p3 : Nat} {x : (⟨4, ![n0, n1, n2, n3]⟩ : Shape).Idx} {index size y : Fin 4 → Nat}
    (hx : ∀ a, (x a).val = index a * size a + y a) (hi : index = ![p0, p1, p2, p3]) {a : Fin n0} {b : Fin n1} {c : Fin n2} {d : Fin n3}
    (ha : p0 * size 0 + y 0 = a.val) (hb : p1 * size 1 + y 1 = b.val) (hc : p2 * size 2 + y 2 = c.val) (hd : p3 * size 3 + y 3 = d.val) :
    x = ix4 a b c d := by
  subst hi
  refine funext fun i => Fin.ext ((hx i).trans ?_)
  match i with
  | ⟨0, _⟩ => exact ha
  | ⟨1, _⟩ => exact hb
  | ⟨2, _⟩ => exact hc
  | ⟨3, _⟩ => exact hd

/-- Two arrays of two axes with the same elements. -/
theorem ext2 {n0 n1 : Nat} {α : Type} {f g : (⟨2, ![n0, n1]⟩ : Shape).Idx → α} (h : ∀ a b, f (ix2 a b) = g (ix2 a b)) : f = g :=
  funext fun i => by rw [eq_ix2 i]; exact h _ _

/-- The same for three axes. -/
theorem ext3 {n0 n1 n2 : Nat} {α : Type} {f g : (⟨3, ![n0, n1, n2]⟩ : Shape).Idx → α} (h : ∀ a b c, f (ix3 a b c) = g (ix3 a b c)) : f = g :=
  funext fun i => by rw [eq_ix3 i]; exact h _ _ _

/-- On an axis with one block an element keeps its place. -/
theorem first (s k : Nat) : 0 * s + k = k := by omega

/-- What holds at the first of every eight points and is handed from a point to the next one holds at every point. -/
theorem carried_from {N : Nat} (P : ∀ n, n < N → Prop) (hA : ∀ n hn, n % 8 = 0 → P n hn)
    (hB : ∀ n hn, ¬(n + 1) % 8 = 0 → P n (Nat.lt_of_succ_lt hn) → P (n + 1) hn) : ∀ n hn, P n hn
  | 0, hn => hA 0 hn rfl
  | n + 1, hn => if h : (n + 1) % 8 = 0 then hA (n + 1) hn h else hB n hn h (carried_from P hA hB n _)

end Cert.Windows

namespace Cert.Sample

/-- Row `r` of row block `q`, among the sample's rows. -/
def row (q : Nat) (hq : q < 16) (r : Fin 512) : Fin 8192 := ⟨q * 512 + r.val, by omega⟩

/-- The request of row block `q`. -/
def request (q : Nat) (hq : q < 16) : Fin 8 := ⟨q / 2, by omega⟩

/-- The request a row belongs to. -/
def req (i : Fin 8192) : Fin 8 := ⟨i.val / 1024, by omega⟩

theorem req_row (q : Nat) (hq : q < 16) (r : Fin 512) : req (row q hq r) = request q hq :=
  Fin.ext (show (q * 512 + r.val) / 1024 = q / 2 by omega)

/-- Every row is a row of some row block. -/
theorem exists_row (i : Fin 8192) : ∃ (q : Nat) (hq : q < 16) (r : Fin 512), row q hq r = i :=
  ⟨i.val / 512, by omega, ⟨i.val % 512, by omega⟩, Fin.ext (show i.val / 512 * 512 + i.val % 512 = i.val by omega)⟩

end Cert.Sample
-- ==== Proof.AttentionArray.lean ====
/-
  The attention, the arrays: the three results after the run, element by element, as functions of the arguments. The
  grid point `b` computes prompt `b`: its blocks are the 256 rows of that prompt's queries, keys and values.
-/
module

public import proofs.«01_k».proof.Proof.AttentionHost
public import proofs.«01_k».proof.Proof.Windows

@[expose] public section

set_option maxRecDepth 16384

noncomputable section

namespace Cert.AttentionIdeal.Arr

open Cert.AttentionIdeal Cert.AttentionIdeal.Gen Cert.AttentionIdeal.Block Cert.AttentionIdeal.Host Cert.Spec Cert.Windows Idealize.ShloMosaic Idealize.ShloMosaic.TcCoe

variable (m : (ℓ : Loc nD τ sig) → Buf (Elt Ideal) ℓ)

/-- Where the windows stand at point `t`. -/
theorem idx : ∀ t : Fin cfg0.N,
    (win0_0.index t = ![t.val, 0, 0] ∧ win0_1.index t = ![t.val, 0, 4] ∧ win0_2.index t = ![t.val, 0, 5])
      ∧ (win0_3.index t = ![0, 0] ∧ win0_4.index t = ![0, 0] ∧ win0_5.index t = ![0, 0] ∧ win0_6.index t = ![0, 0, 0])
      ∧ (win0_7.index t = ![t.val, 0, 0] ∧ win0_8.index t = ![t.val, 0, 0] ∧ win0_9.index t = ![t.val, 0, 0]) :=
  (by decide +kernel : ∀ t : Fin grid0.N,
    (win0_0.index t = ![t.val, 0, 0] ∧ win0_1.index t = ![t.val, 0, 4] ∧ win0_2.index t = ![t.val, 0, 5])
      ∧ (win0_3.index t = ![0, 0] ∧ win0_4.index t = ![0, 0] ∧ win0_5.index t = ![0, 0] ∧ win0_6.index t = ![0, 0, 0])
      ∧ (win0_7.index t = ![t.val, 0, 0] ∧ win0_8.index t = ![t.val, 0, 0] ∧ win0_9.index t = ![t.val, 0, 0]))

theorem lt_N (t : Fin cfg0.N) : t.val < 16 := lt_of_lt_of_eq t.isLt N_0

/-- The prompt of point `t`. -/
def prompt (t : Fin cfg0.N) : Fin 16 := ⟨t.val, lt_N t⟩

/-- Lane `l` of the queries, of the keys, of the values, in a row of the argument. -/
def qcol (l : Fin 512) : Fin 768 := ⟨l.val, by omega⟩
def kcol (l : Fin 128) : Fin 768 := ⟨512 + l.val, by omega⟩
def vcol (l : Fin 128) : Fin 768 := ⟨640 + l.val, by omega⟩

/-- Lane `l` of the queries and the keys together. -/
def qkcol (l : Fin 640) : Fin 768 := ⟨l.val, by omega⟩

theorem emb7 (t : Fin cfg0.N) (i : Fin 256) (l : Fin 512) : (win0_7.rect t).emb (ix3 0 i l) = ix3 (prompt t) i l :=
  place3 (win0_7.rect_emb_val t _) (idx t).2.2.1 (Nat.mul_one _) (first _ _) (first _ _)

theorem emb8 (t : Fin cfg0.N) (i : Fin 256) (l : Fin 128) : (win0_8.rect t).emb (ix3 0 i l) = ix3 (prompt t) i l :=
  place3 (win0_8.rect_emb_val t _) (idx t).2.2.2.1 (Nat.mul_one _) (first _ _) (first _ _)

theorem emb9 (t : Fin cfg0.N) (i : Fin 256) (l : Fin 128) : (win0_9.rect t).emb (ix3 0 i l) = ix3 (prompt t) i l :=
  place3 (win0_9.rect_emb_val t _) (idx t).2.2.2.2 (Nat.mul_one _) (first _ _) (first _ _)

/-! The input blocks. -/

theorem blk0 (c : Dev nD) (t : Fin cfg0.N) (i : Fin 256) (l : Fin 512) :
    X0_0 m c t (ix3 0 i l) = m ((c : Thread nD τ).loc main_arg0) (ix3 (prompt t) i (qcol l)) := by
  unfold X0_0 Pipeline.Window.fill
  rw [dif_pos (moved0_0 t _)]
  show V m c main_arg0 ((win0_0.rect t).emb _) = _
  rw [V_main_arg0]
  exact congrArg _ (place3 (win0_0.rect_emb_val t _) (idx t).1.1 (Nat.mul_one _) (first _ _) (first _ _))

theorem blk1 (c : Dev nD) (t : Fin cfg0.N) (i : Fin 256) (l : Fin 128) :
    iblk m c 1 t (ix3 0 i l) = m ((c : Thread nD τ).loc main_arg0) (ix3 (prompt t) i (kcol l)) := by
  show V m c main_arg0 ((win0_1.rect t).emb (ix3 0 i l)) = _
  rw [V_main_arg0]
  exact congrArg _ (place3 (win0_1.rect_emb_val t _) (idx t).1.2.1 (Nat.mul_one _) (first _ _) rfl)

theorem blk2 (c : Dev nD) (t : Fin cfg0.N) (i : Fin 256) (l : Fin 128) :
    iblk m c 2 t (ix3 0 i l) = m ((c : Thread nD τ).loc main_arg0) (ix3 (prompt t) i (vcol l)) := by
  show V m c main_arg0 ((win0_2.rect t).emb (ix3 0 i l)) = _
  rw [V_main_arg0]
  exact congrArg _ (place3 (win0_2.rect_emb_val t _) (idx t).1.2.2 (Nat.mul_one _) (first _ _) rfl)

theorem blk3 (c : Dev nD) (t : Fin cfg0.N) (l : Fin 512) : iblk m c 3 t (ix2 0 l) = V m c main_v14 (ix2 0 l) :=
  congrArg (V m c main_v14) (place2 (win0_3.rect_emb_val t _) (idx t).2.1.1 rfl (first _ _))

theorem blk4 (c : Dev nD) (t : Fin cfg0.N) (l : Fin 128) : iblk m c 4 t (ix2 0 l) = V m c main_v18 (ix2 0 l) :=
  congrArg (V m c main_v18) (place2 (win0_4.rect_emb_val t _) (idx t).2.1.2.1 rfl (first _ _))

theorem blk5 (c : Dev nD) (t : Fin cfg0.N) (i j : Fin 512) : iblk m c 5 t (ix2 i j) = V m c main_v9 (ix2 i j) :=
  congrArg (V m c main_v9) (place2 (win0_5.rect_emb_val t _) (idx t).2.1.2.2.1 (first _ _) (first _ _))

theorem blk6 (c : Dev nD) (t : Fin cfg0.N) (g : Fin 2) (i : Fin 128) (j : Fin 256) : iblk m c 6 t (ix3 g i j) = V m c main_v10 (ix3 g i j) :=
  congrArg (V m c main_v10) (place3 (win0_6.rect_emb_val t _) (idx t).2.1.2.2.2 (first _ _) (first _ _) (first _ _))

/-- The weights of the queries' norm and of the keys'. -/
def qw (c : Dev nD) (d : Fin 64) : EReal := m ((c : Thread nD τ).loc main_arg1) (ix1 d)
def kw (c : Dev nD) (d : Fin 64) : EReal := m ((c : Thread nD τ).loc main_arg2) (ix1 d)

theorem tables (c : Dev nD) (t : Fin cfg0.N) :
    Tables (iblk m c 3 t) (iblk m c 4 t) (iblk m c 5 t) (iblk m c 6 t) (qw m c) (kw m c) where
  qw h d := (blk3 m c t _).trans (qw_at m c h d)
  kw h d := (blk4 m c t _).trans (kw_at m c h d)
  ones i j := (blk5 m c t i j).trans (ones_at m c i j)
  rep g i j := (blk6 m c t g i j).trans (rep_at m c g i j)

/-! The results. -/

theorem flush7 : ∀ t : Fin cfg0.N, (cfg0.win 7).flush t = true :=
  (by decide +kernel : ∀ t : Fin grid0.N, win0_7.flush t = true)
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)

theorem block7 (c : Dev nD) (t : Fin cfg0.N) (y : S1x256x512.Idx) :
    (dats m 0 c).arrAt 7 cfg0.N ((win0_7.rect t).emb y) = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (hcond0_0 t) (X0_0 m c t) (iblk m c 1 t) (iblk m c 2 t) (iblk m c 3 t) (iblk m c 4 t) (iblk m c 5 t) (iblk m c 6 t) y :=
  congrFun ((Value.blocks7 m c t (flush7 t)).trans (Value.flushed7_A m c t)) y

theorem block8 (c : Dev nD) (t : Fin cfg0.N) (y : S1x256x128.Idx) :
    (dats m 0 c).arrAt 8 cfg0.N ((win0_8.rect t).emb y) = k0_pay4 (F := Ideal) (iblk m c 1 t) (iblk m c 4 t) (iblk m c 5 t) y :=
  (congrFun ((Value.blocks8 m c t (flush8 t)).trans (Value.flushed8_A m c t)) y).trans (congrFun (out8_eq c t _ _ _ _ _ _ _) y)

theorem block9 (c : Dev nD) (t : Fin cfg0.N) (y : S1x256x128.Idx) :
    (dats m 0 c).arrAt 9 cfg0.N ((win0_9.rect t).emb y) = k0_pay5 (F := Ideal) (iblk m c 2 t) y :=
  (congrFun ((Value.blocks9 m c t (flush9 t)).trans (Value.flushed9_A m c t)) y).trans (congrFun (out9_eq c t _ _ _ _ _ _ _) y)

theorem exists_prompt (b : Fin 16) : ∃ t : Fin cfg0.N, prompt t = b :=
  ⟨⟨b.val, by have h : cfg0.N = 16 := N_0; omega⟩, rfl⟩

section Finals

variable (c : Dev nD)
  (hx : ∀ b i (l : Fin 640), IsReal (m ((c : Thread nD τ).loc main_arg0) (ix3 b i (qkcol l))))
  (hq : ∀ d, IsReal (qw m c d)) (hk : ∀ d, IsReal (kw m c d))

include hx in
/-- The keys after the run. -/
theorem keys_final (b : Fin 16) (i : Fin 256) (h : Fin 2) (d : Fin 64) :
    (dats m 0 c).arrAt 8 cfg0.N (ix3 b i (lane2 h d))
      = headNorm (fun e => m ((c : Thread nD τ).loc main_arg0) (ix3 b i (kcol (lane2 h e)))) (kw m c) d := by
  obtain ⟨t, rfl⟩ := exists_prompt b
  rw [← emb8, block8]
  refine (keys_out (iblk m c 1 t) (tables m c t) i (fun l => ?_) h d).trans ?_
  · rw [blk1]
    exact hx _ i ⟨512 + l.val, by omega⟩
  · simp only [blk1]

/-- The values after the run. -/
theorem values_final (b : Fin 16) (i : Fin 256) (l : Fin 128) :
    (dats m 0 c).arrAt 9 cfg0.N (ix3 b i l) = m ((c : Thread nD τ).loc main_arg0) (ix3 b i (vcol l)) := by
  obtain ⟨t, rfl⟩ := exists_prompt b
  rw [← emb9, block9]
  exact (values_out (iblk m c 2 t) i l).trans (blk2 m c t i l)

include hx hq hk in
/-- The attention's result after the run. -/
theorem attend_final (b : Fin 16) (i : Fin 256) (g : Fin 2) (h : Fin 4) (d : Fin 64) :
    (dats m 0 c).arrAt 7 cfg0.N (ix3 b i (lane8 (headOf g h) d))
      = headAttend (headNorm (fun e => m ((c : Thread nD τ).loc main_arg0) (ix3 b i (qcol (lane8 (headOf g h) e)))) (qw m c))
          (fun j => headNorm (fun e => m ((c : Thread nD τ).loc main_arg0) (ix3 b j (kcol (lane2 g e)))) (kw m c))
          (fun j e => m ((c : Thread nD τ).loc main_arg0) (ix3 b j (vcol (lane2 g e)))) d := by
  obtain ⟨t, rfl⟩ := exists_prompt b
  rw [← emb7, block7]
  refine (attend_out c t (X0_0 m c t) (iblk m c 1 t) (iblk m c 2 t) (tables m c t) (fun i l => ?_) (fun i l => ?_) hq hk i g h d).trans ?_
  · rw [blk0]
    exact hx _ i ⟨l.val, by omega⟩
  · rw [blk1]
    exact hx _ i ⟨512 + l.val, by omega⟩
  · simp only [blk0, blk1, blk2]

end Finals

end Cert.AttentionIdeal.Arr

end
-- ==== Proof.AttentionRef.lean ====
/-
  The attention's reference, read at an index: each head's queries and keys normed, their scores over the square root of
  64, the exponentials under the largest score over their sum, and the values weighed by them.
-/
module

public import proofs.«01_k».proof.Proof.AttentionMath
public import proofs.«01_k».proof.Proof.Gen.AttentionRefIdeal.Run
public import proofs.«01_k».proof.Proof.Gen.AttentionRefIdeal.Read

@[expose] public section

set_option maxRecDepth 16384

noncomputable section

namespace Cert.AttentionRefIdeal.Refv

open Cert.AttentionRefIdeal Cert.AttentionRefIdeal.Read Cert.Spec Idealize.ShloMosaic

variable (x0 : FVec Ideal S16x256x768 .f32) (x1 x2 : FVec Ideal S64 .f32)

/-- Lane `d` of a query's head, of a key's, of a value's, in a row of the argument. -/
def qlane (h : Fin 8) (d : Fin 64) : Fin 768 := ⟨h.val * 64 + d.val, by omega⟩
def klane (h : Fin 2) (d : Fin 64) : Fin 768 := ⟨512 + (h.val * 64 + d.val), by omega⟩
def vlane (h : Fin 2) (d : Fin 64) : Fin 768 := ⟨640 + (h.val * 64 + d.val), by omega⟩

/-- Head `h` of group `g`. -/
def headOf (g : Fin 2) (h : Fin 4) : Fin 8 := ⟨g.val * 4 + h.val, by omega⟩

/-- Lane `l` of the values together. -/
def vcol (l : Fin 128) : Fin 768 := ⟨640 + l.val, by omega⟩

theorem queries_apply (b : Fin 16) (i : Fin 256) (h : Fin 8) (d : Fin 64) :
    val_main_v16 (F := Ideal) x0 x1 (ix4 b i h d) = headNorm (fun e => x0 (ix3 b i (qlane h e))) (fun e => x1 (ix1 e)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  rfl

theorem keys_apply (b : Fin 16) (i : Fin 256) (h : Fin 2) (d : Fin 64) :
    val_main_v30 (F := Ideal) x0 x2 (ix4 b i h d) = headNorm (fun e => x0 (ix3 b i (klane h e))) (fun e => x2 (ix1 e)) d := by
  pointwise [val_main_v0, val_main_v1, val_main_v2, val_main_v3, val_main_v17, val_main_v18, val_main_v19, val_main_v20, val_main_v21, val_main_v22, val_main_v23, val_main_v24, val_main_v25, val_main_v26, val_main_v27, val_main_v28, val_main_v29, val_main_v30, val_main_cst_2, val_main_cst_3, val_main_cst_4]
  rfl

theorem values_apply (b : Fin 16) (i : Fin 256) (h : Fin 2) (d : Fin 64) :
    val_main_v31 (F := Ideal) x0 (ix4 b i h d) = x0 (ix3 b i (vlane h d)) := by
  pointwise [val_main_v0, val_main_v1, val_main_v2, val_main_v3, val_main_v31]
  rfl

theorem scores_apply (b : Fin 16) (g : Fin 2) (h : Fin 4) (i j : Fin 256) :
    val_main_v36 (F := Ideal) x0 x1 x2 (ix5 b g h i j)
      = score (fun d => val_main_v16 (F := Ideal) x0 x1 (ix4 b i (headOf g h) d))
          (fun d => val_main_v30 (F := Ideal) x0 x2 (ix4 b j g d)) := by
  pointwise [val_main_v36, val_main_v35, val_main_v34, val_main_v33, val_main_cst_5, val_main_v32]
  rfl

set_option maxHeartbeats 2000000 in
theorem top_apply (b : Fin 16) (g : Fin 2) (h : Fin 4) (i : Fin 256) :
    val_main_v37 (F := Ideal) x0 x1 x2 (ix4 b g h i) = top fun j => val_main_v36 (F := Ideal) x0 x1 x2 (ix5 b g h i j) := by
  unfold val_main_v37
  generalize val_main_v36 (F := Ideal) x0 x1 x2 = s
  pointwise [val_main_cst_6]
  rfl

theorem top_again (b : Fin 16) (g : Fin 2) (h : Fin 4) (i : Fin 256) :
    val_main_v39 (F := Ideal) x0 x1 x2 (ix4 b g h i) = val_main_v37 (F := Ideal) x0 x1 x2 (ix4 b g h i) := by
  rw [val_main_v39_apply, val_main_v38_apply, val_main_cst_7_apply]
  generalize val_main_v37 (F := Ideal) x0 x1 x2 (ix4 b g h i) = M
  simp only [Ideal.maximumf_def]
  exact (congrArg (max · M) neg_inf_lit).trans (bot_sup_eq M)

theorem top_spread (b : Fin 16) (g : Fin 2) (h : Fin 4) (i j : Fin 256) :
    val_main_v41 (F := Ideal) x0 x1 x2 (ix5 b g h i j) = val_main_v39 (F := Ideal) x0 x1 x2 (ix4 b g h i) := by
  rw [val_main_v41_apply, val_main_v40_apply]
  generalize val_main_v39 (F := Ideal) x0 x1 x2 = M
  refine congrArg M (funext fun a => Fin.ext ?_)
  match a with
  | ⟨0, _⟩ => rfl
  | ⟨1, _⟩ => rfl
  | ⟨2, _⟩ => rfl
  | ⟨3, _⟩ => rfl

theorem exp_apply (b : Fin 16) (g : Fin 2) (h : Fin 4) (i j : Fin 256) :
    val_main_v43 (F := Ideal) x0 x1 x2 (ix5 b g h i j)
      = Ideal.exp (val_main_v36 (F := Ideal) x0 x1 x2 (ix5 b g h i j) - val_main_v37 (F := Ideal) x0 x1 x2 (ix4 b g h i)) := by
  rw [val_main_v43_apply, val_main_v42_apply, top_spread, top_again]
  rfl

theorem weights_apply (b : Fin 16) (g : Fin 2) (h : Fin 4) (i j : Fin 256) :
    val_main_v47 (F := Ideal) x0 x1 x2 (ix5 b g h i j)
      = Ideal.div (val_main_v43 (F := Ideal) x0 x1 x2 (ix5 b g h i j)) (∑ x, val_main_v43 (F := Ideal) x0 x1 x2 (ix5 b g h i x)) := by
  unfold val_main_v47 val_main_v46 val_main_v45 val_main_v44
  generalize val_main_v43 (F := Ideal) x0 x1 x2 = p
  pointwise [val_main_cst_8]

theorem mix_apply (b : Fin 16) (i : Fin 256) (l : Fin 512) (g : Fin 2) (h : Fin 4) (d : Fin 64) (hl : l.val = 64 * (4 * g.val + h.val) + d.val) :
    val_main_v51 (F := Ideal) x0 x1 x2 (ix3 b i l)
      = ∑ x, val_main_v31 (F := Ideal) x0 (ix4 b x g d) * val_main_v47 (F := Ideal) x0 x1 x2 (ix5 b g h i x) := by
  obtain ⟨l, hl'⟩ := l
  have hl : l = 64 * (4 * g.val + h.val) + d.val := hl
  subst hl
  pointwise [val_main_v51, val_main_v50, val_main_v49, val_main_v48]

/-- The reference's attention. -/
theorem attend_apply (b : Fin 16) (i : Fin 256) (l : Fin 512) (g : Fin 2) (h : Fin 4) (d : Fin 64) (hl : l.val = 64 * (4 * g.val + h.val) + d.val) :
    val_main_v51 (F := Ideal) x0 x1 x2 (ix3 b i l)
      = headAttend (headNorm (fun e => x0 (ix3 b i (qlane (headOf g h) e))) (fun e => x1 (ix1 e)))
          (fun j => headNorm (fun e => x0 (ix3 b j (klane g e))) (fun e => x2 (ix1 e))) (fun j e => x0 (ix3 b j (vlane g e))) d := by
  rw [mix_apply x0 x1 x2 b i l g h d hl]
  simp only [weights_apply, exp_apply, top_apply, scores_apply, values_apply]
  have eq : (fun d => val_main_v16 (F := Ideal) x0 x1 (ix4 b i (headOf g h) d))
      = headNorm (fun e => x0 (ix3 b i (qlane (headOf g h) e))) (fun e => x1 (ix1 e)) := funext fun e => queries_apply x0 x1 b i _ e
  have ek : ∀ j, (fun d => val_main_v30 (F := Ideal) x0 x2 (ix4 b j g d)) = headNorm (fun e => x0 (ix3 b j (klane g e))) (fun e => x2 (ix1 e)) :=
    fun j => funext fun e => keys_apply x0 x2 b j g e
  simp only [eq, ek]
  rfl

/-- The reference's keys. -/
theorem keys_flat (b : Fin 16) (i : Fin 256) (h : Fin 2) (d : Fin 64) (l : Fin 128) (hl : l.val = 64 * h.val + d.val) :
    val_main_v52 (F := Ideal) x0 x2 (ix3 b i l) = headNorm (fun e => x0 (ix3 b i (klane h e))) (fun e => x2 (ix1 e)) d := by
  obtain ⟨l, hl'⟩ := l
  have hl : l = 64 * h.val + d.val := hl
  subst hl
  refine .trans ?_ (keys_apply x0 x2 b i h d)
  generalize hk : val_main_v30 (F := Ideal) x0 x2 = k
  unfold val_main_v52
  rw [hk]
  pointwise []

/-- The reference's values. -/
theorem values_flat (b : Fin 16) (i : Fin 256) (l : Fin 128) :
    val_main_v53 (F := Ideal) x0 (ix3 b i l) = x0 (ix3 b i (vcol l)) := by
  pointwise [val_main_v0, val_main_v1, val_main_v2, val_main_v3, val_main_v31, val_main_v53]
  rfl

end Cert.AttentionRefIdeal.Refv

end
-- ==== Proof.AttentionClaim.lean ====
/-
  The attention's claims: the kernel's arrays are the reference's. The kernel adds up squares in two parts, a rounded one
  and what the rounding left out, and divides the weighted sum of the values once where the softmax divides every weight;
  both are the plain ones where queries, keys and the two norms' weights are finite.
-/
module

public import proofs.«01_k».proof.Defs
public import proofs.«01_k».proof.Proof.AttentionArray
public import proofs.«01_k».proof.Proof.AttentionRef
public import proofs.«01_k».proof.Proof.Bits
public import proofs.«01_k».proof.Proof.Gen.Attention.Frame
public import proofs.«01_k».proof.Proof.Gen.Pre_finite_qk
public import Idealize.ShloMosaic.Lib.Quiescent

@[expose] public section

set_option maxRecDepth 16384

noncomputable section

namespace Cert.Pre_finite_qk

open Idealize.ShloMosaic Cert.Spec

variable (x0 : FVec Ideal S16x256x768 .f32) (x1 x2 : FVec Ideal S64 .f32)

/-- What `finite_qk` says of the queries and the keys. -/
theorem rows_real (h : (fn (F := Ideal) x0 x1 x2).1 = fun _ => 1#1) (b : Fin 16) (i : Fin 256) (l : Fin 640) :
    IsReal (x0 (ix3 b i (AttentionIdeal.Arr.qkcol l))) := by
  have h1 := congrFun h (ix3 b i l)
  revert h1
  unfold fn
  pointwise [inf_lit, andi_one, flag_one]
  exact fun h1 => isReal_of_abs_lt h1

/-- What `finite_qk` says of the queries' weights. -/
theorem qw_real (h : (fn (F := Ideal) x0 x1 x2).2.1 = fun _ => 1#1) (d : Fin 64) : IsReal (x1 (ix1 d)) := by
  have h1 := congrFun h (ix1 d)
  revert h1
  unfold fn
  pointwise [inf_lit, andi_one, flag_one]
  exact fun h1 => isReal_of_abs_lt h1

/-- What `finite_qk` says of the keys' weights. -/
theorem kw_real (h : (fn (F := Ideal) x0 x1 x2).2.2 = fun _ => 1#1) (d : Fin 64) : IsReal (x2 (ix1 d)) := by
  have h1 := congrFun h (ix1 d)
  revert h1
  unfold fn
  pointwise [inf_lit, andi_one, flag_one]
  exact fun h1 => isReal_of_abs_lt h1

end Cert.Pre_finite_qk

namespace Cert.Proof.AttentionClaims

open Idealize.ShloMosaic Idealize.ShloMosaic.TcCoe Idealize.SL.Sem Cert.Spec

/-- Every lane of a row of eight heads is a lane of a head of a group. -/
theorem exists_lane8 (l : Fin 512) : ∃ g h d, AttentionIdeal.Block.lane8 (AttentionIdeal.Block.headOf g h) d = l :=
  ⟨⟨l.val / 256, by omega⟩, ⟨l.val / 64 % 4, by omega⟩, ⟨l.val % 64, by omega⟩,
    Fin.ext (show 64 * (4 * (l.val / 256) + l.val / 64 % 4) + l.val % 64 = l.val by omega)⟩

theorem exists_lane2 (l : Fin 128) : ∃ h d, AttentionIdeal.Block.lane2 h d = l :=
  ⟨⟨l.val / 64, by omega⟩, ⟨l.val % 64, by omega⟩, Fin.ext (show 64 * (l.val / 64) + l.val % 64 = l.val by omega)⟩

theorem qcol_eq (g : Fin 2) (h : Fin 4) (e : Fin 64) :
    AttentionRefIdeal.Refv.qlane (AttentionRefIdeal.Refv.headOf g h) e
      = AttentionIdeal.Arr.qcol (AttentionIdeal.Block.lane8 (AttentionIdeal.Block.headOf g h) e) :=
  Fin.ext (show (g.val * 4 + h.val) * 64 + e.val = 64 * (4 * g.val + h.val) + e.val by omega)

theorem kcol_eq (g : Fin 2) (e : Fin 64) : AttentionRefIdeal.Refv.klane g e = AttentionIdeal.Arr.kcol (AttentionIdeal.Block.lane2 g e) :=
  Fin.ext (show 512 + (g.val * 64 + e.val) = 512 + (64 * g.val + e.val) by omega)

theorem vcol_eq (g : Fin 2) (e : Fin 64) : AttentionRefIdeal.Refv.vlane g e = AttentionIdeal.Arr.vcol (AttentionIdeal.Block.lane2 g e) :=
  Fin.ext (show 640 + (g.val * 64 + e.val) = 640 + (64 * g.val + e.val) by omega)

theorem frame_p : Cert.quiescent_Attention := fun m ρ _ => Cert.Attention.Gen.frame m ρ
theorem frame_pi : Cert.quiescent_AttentionIdeal := fun m ρ _ => Cert.AttentionIdeal.Gen.frame m ρ
theorem frame_pi_pre : Cert.quiescent_AttentionIdeal_pre_finite_qk := fun m ρ _ => Cert.AttentionIdeal.Gen.frame m ρ
theorem frame_ri : Cert.quiescent_AttentionRefIdeal := fun m ρ _ =>
  (θ_run Cert.AttentionRefIdeal.defs _ _).mono (fun r h => ⟨fun c => (h c).2.2.2, Idealize.ShloMosaic.sem_eq_zero_of_no_sems (by decide) r.2⟩)
    (Cert.AttentionRefIdeal.Value.run (F := Ideal) m ρ)
theorem frame_ri_pre : Cert.quiescent_AttentionRefIdeal_pre_finite_qk := fun m ρ _ => frame_ri m ρ trivial

theorem algebraic : Cert.algebraic_AttentionIdeal_AttentionRefIdeal_pre_finite_qk := fun m ρ m' ρ' hpre hag =>
  ⟨fun c => (Cert.AttentionIdeal.Gen.dats m 0 c).arrAt 7 Cert.AttentionIdeal.cfg0.N, fun c => (Cert.AttentionIdeal.Gen.dats m 0 c).arrAt 8 Cert.AttentionIdeal.cfg0.N,
    fun c => (Cert.AttentionIdeal.Gen.dats m 0 c).arrAt 9 Cert.AttentionIdeal.cfg0.N,
    Cert.AttentionIdeal.Value.run_blocks m ρ,
    (θ_run Cert.AttentionRefIdeal.defs _ _).mono (fun r h c => by
      obtain ⟨e0, e1, e2⟩ := hag c
      have hx := Cert.Pre_finite_qk.rows_real _ _ _ (hpre c).1
      have hq := Cert.Pre_finite_qk.qw_real _ _ _ (hpre c).2.1
      have hk := Cert.Pre_finite_qk.kw_real _ _ _ (hpre c).2.2
      refine ⟨((h c).1.trans (Cert.AttentionRefIdeal.Read.val_main_v51_eq ..)).trans ?_, ((h c).2.1.trans (Cert.AttentionRefIdeal.Read.val_main_v52_eq ..)).trans ?_,
        ((h c).2.2.1.trans (Cert.AttentionRefIdeal.Read.val_main_v53_eq ..)).trans ?_, (h c).2.2.2⟩
      · rw [e0, e1, e2]
        funext y
        obtain ⟨b, i, l, rfl⟩ : ∃ b i l, y = ix3 b i l := ⟨_, _, _, eq_ix3 y⟩
        obtain ⟨g, h, d, rfl⟩ := exists_lane8 l
        refine (Cert.AttentionRefIdeal.Refv.attend_apply _ _ _ b i _ g h d rfl).trans ?_
        refine .trans ?_ (Cert.AttentionIdeal.Arr.attend_final m c hx hq hk b i g h d).symm
        simp only [qcol_eq, kcol_eq, vcol_eq]
        rfl
      · rw [e0, e2]
        funext y
        obtain ⟨b, i, l, rfl⟩ : ∃ b i l, y = ix3 b i l := ⟨_, _, _, eq_ix3 y⟩
        obtain ⟨h, d, rfl⟩ := exists_lane2 l
        refine (Cert.AttentionRefIdeal.Refv.keys_flat _ _ b i h d _ rfl).trans ?_
        refine .trans ?_ (Cert.AttentionIdeal.Arr.keys_final m c hx b i h d).symm
        simp only [kcol_eq]
        rfl
      · rw [e0]
        funext y
        obtain ⟨b, i, l, rfl⟩ : ∃ b i l, y = ix3 b i l := ⟨_, _, _, eq_ix3 y⟩
        exact (Cert.AttentionRefIdeal.Refv.values_flat _ b i l).trans (Cert.AttentionIdeal.Arr.values_final m c b i l).symm)
      (Cert.AttentionRefIdeal.Value.run m' ρ')⟩

end Cert.Proof.AttentionClaims

end
-- ==== Proof.InprojMainBlock.lean ====
/-
  The main projection, one block: what the body computes from 512 token rows, the modulation rows, the norm weights and 768
  columns of the weight matrix, and what a grid point leaves in the result's block and in the carried hidden rows.
-/
module

public import proofs.«01_k».proof.Proof.Gen.InprojMainIdeal.Value
public import proofs.«01_k».proof.Proof.Spec
public import Idealize.ShloMosaic.Lib.Pointwise
public import Idealize.ShloMosaic.Lib.Pointwise.Tactic

@[expose] public section

set_option maxRecDepth 16384

noncomputable section

namespace Cert.InprojMainIdeal.Block

open Cert.InprojMainIdeal Cert.InprojMainIdeal.Gen Cert.Spec Idealize.ShloMosaic Idealize.ShloMosaic.TcCoe Idealize.ShloMosaic.Tactic

theorem hz2 : (![0, 0] : Fin 2 → Nat) = fun _ => 0 := funext fun a => by fin_cases a <;> rfl

/-- The hidden rows of a block. -/
theorem hidden_apply (x : Vec Ideal S512x1024 .f32) (w : Vec Ideal S1x1024 .f32) (u v : Vec Ideal S1x1x1024 .f32) (r : Fin 512) (k : Fin 1024) :
    k0_pay1 (F := Ideal) x w u v (ix2 r k)
      = modRow (fun k => x (ix2 r k)) (fun k => u (ix3 0 0 k)) (fun k => v (ix3 0 0 k)) (fun k => w (ix2 0 k)) k := by
  unfold_payloads
  pointwise []
  rfl

/-- The projection of a block of hidden rows. -/
theorem proj_apply (h : Vec Ideal S512x1024 .bf16) (w : Vec Ideal S1024x768 .bf16) (r : Fin 512) (n : Fin 768) :
    k0_pay2 (F := Ideal) h w (ix2 r n) = ∑ k, h (ix2 r k) * w (ix2 k n) := by
  unfold_payloads
  pointwise [dot_S512x1024_S1024x768_S512x768_1_0_0_1_n_n]

/-- Row 0 of the modulation, as the body loads it. -/
theorem row0 (x : Vec Ideal S1x6x1024 .f32) (k : Fin 1024) :
    View.ld x (Rect.unit ![0, 0, 0] ![1, 1, 1024] inb_S1x6x1024_S1x1x1024_0_0_0) (ix3 0 0 k) = x (ix3 0 0 k) :=
  congrArg x (funext fun a => Fin.ext (by
    match a with
    | ⟨0, _⟩ => rfl
    | ⟨1, _⟩ => rfl
    | ⟨2, _⟩ => show 0 + 1 * k.val = k.val; omega))

/-- Row 1 of the modulation, as the body loads it. -/
theorem row1 (x : Vec Ideal S1x6x1024 .f32) (k : Fin 1024) :
    View.ld x (Rect.unit ![0, 1, 0] ![1, 1, 1024] inb_S1x6x1024_S1x1x1024_0_1_0) (ix3 0 0 k) = x (ix3 0 1 k) :=
  congrArg x (funext fun a => Fin.ext (by
    match a with
    | ⟨0, _⟩ => rfl
    | ⟨1, _⟩ => rfl
    | ⟨2, _⟩ => show 0 + 1 * k.val = k.val; omega))

/-- The hidden rows a grid point computes from its blocks. -/
def hid (x0 : Vec Ideal S512x1024 .f32) (x1 : Vec Ideal S1x6x1024 .f32) (x2 : Vec Ideal S1x1024 .f32) : FVec Ideal S512x1024 .bf16 :=
  k0_pay1 (F := Ideal) x0 x2 (View.ld x1 (Rect.unit ![0, 0, 0] ![1, 1, 1024] inb_S1x6x1024_S1x1x1024_0_0_0))
    (View.ld x1 (Rect.unit ![0, 1, 0] ![1, 1, 1024] inb_S1x6x1024_S1x1x1024_0_1_0))

theorem hid_apply (x0 : Vec Ideal S512x1024 .f32) (x1 : Vec Ideal S1x6x1024 .f32) (x2 : Vec Ideal S1x1024 .f32) (r : Fin 512) (k : Fin 1024) :
    hid x0 x1 x2 (ix2 r k)
      = modRow (fun k => x0 (ix2 r k)) (fun k => x1 (ix3 0 0 k)) (fun k => x1 (ix3 0 1 k)) (fun k => x2 (ix2 0 k)) k := by
  exact (hidden_apply _ _ _ _ r k).trans
    (congrArg₂ (fun u v => modRow (fun k => x0 (ix2 r k)) u v (fun k => x2 (ix2 0 k)) k) (funext (row0 x1)) (funext (row1 x1)))

/-- The hidden rows' store, from whole loads of the rows and of the norm weights. -/
theorem kept (x0 : Vec Ideal S512x1024 .f32) (x1 : Vec Ideal S1x6x1024 .f32) (x2 : Vec Ideal S1x1024 .f32) :
    k0_pay1 (F := Ideal) (View.ld x0 (Rect.unit ![0, 0] ![512, 1024] inb_S512x1024_S512x1024_0_0))
        (View.ld x2 (Rect.unit ![0, 0] ![1, 1024] inb_S1x1024_S1x1024_0_0))
        (View.ld x1 (Rect.unit ![0, 0, 0] ![1, 1, 1024] inb_S1x6x1024_S1x1x1024_0_0_0))
        (View.ld x1 (Rect.unit ![0, 1, 0] ![1, 1, 1024] inb_S1x6x1024_S1x1x1024_0_1_0))
      = hid x0 x1 x2 := by
  rw [View.ld_unit_zero hz2, View.ld_unit_zero hz2]
  rfl

/-- The result's block after one store over all of it, the weights loaded whole: for any hidden rows `h`. -/
theorem stored {h h' : Vec Ideal S512x1024 .bf16} (e : h' = h) (x3 : Vec Ideal S1024x768 .bf16) :
    View.canon [(⟨Rect.unit ![0, 0] ![512, 768] inb_S512x768_S512x768_0_0,
        k0_pay2 (F := Ideal) h' (View.ld x3 (Rect.unit ![0, 0] ![1024, 768] inb_S1024x768_S1024x768_0_0))⟩ : View.Piece (Elt Ideal) S512x768 .bf16)]
      = k0_pay2 (F := Ideal) h x3 := by
  rw [View.canon_unit_zero hz2, View.ld_unit_zero hz2, e]

/-- What a point that computes its hidden rows leaves in the result's block. -/
theorem out_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = k0_pay2 (F := Ideal) (hid x0 x1 x2) x3 := by
  unfold out0_A_4
  rw [View.read_writes_eq_canon _ _ _ (cover0_A_4 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact stored ((View.readCov_unit_zero _ hz2 _ _).trans (kept x0 x1 x2)) x3

/-- … and in the carried hidden rows. -/
theorem carry_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = hid x0 x1 x2 := by
  unfold sout0_A_0
  rw [View.read_writes_eq_canon _ _ _ (scover0_A_0 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact (View.canon_unit_zero hz2 _ _).trans (kept x0 x1 x2)

/-- What a point that finds the hidden rows `h` carried leaves in the result's block. -/
theorem out_carried (c : Dev nD) (t : Fin cfg0.N) (hc : ¬cond0_0 (grid0.coords t)) (x0 : Vec Ideal S512x1024 .f32) (x1 : Vec Ideal S1x6x1024 .f32)
    (x2 : Vec Ideal S1x1024 .f32) (x3 : Vec Ideal S1024x768 .bf16) (h : Vec Ideal S512x1024 .bf16) :
    out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3 h
      = k0_pay2 (F := Ideal) h x3 := by
  unfold out0_B_4
  rw [View.read_writes_eq_canon _ _ _ (cover0_B_4 c _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread]
  exact stored ((View.ld_unit_zero hz2 _ _).trans ((Memref.isWhole_whole cc0_scratch0).read_unread h)) x3

end Cert.InprojMainIdeal.Block

end
-- ==== Proof.InprojMainArray.lean ====
/-
  The main projection, the array: the result after the run, element by element, as a function of the arguments. The grid
  point `8 i + j` computes rows `512 i …` and columns `768 j …`, and the hidden rows are carried from `j = 0`.
-/
module

public import proofs.«01_k».proof.Proof.InprojMainBlock
public import proofs.«01_k».proof.Proof.Windows

@[expose] public section

set_option maxRecDepth 16384

noncomputable section

namespace Cert.InprojMainIdeal.Arr

open Cert.InprojMainIdeal Cert.InprojMainIdeal.Gen Cert.InprojMainIdeal.Block Cert.Spec Idealize.ShloMosaic Idealize.ShloMosaic.TcCoe
open Cert.Windows

variable (m : (ℓ : Loc nD τ sig) → Buf (Elt Ideal) ℓ)

/-- Where the windows stand at point `t`. -/
theorem idx : ∀ t : Fin cfg0.N,
    (win0_0.index t = ![t.val / 8, 0] ∧ win0_1.index t = ![0, 0, 0] ∧ win0_2.index t = ![0, 0])
      ∧ (win0_3.index t = ![0, t.val % 8] ∧ win0_4.index t = ![t.val / 8, t.val % 8]) :=
  (by decide +kernel : ∀ t : Fin grid0.N,
    (win0_0.index t = ![t.val / 8, 0] ∧ win0_1.index t = ![0, 0, 0] ∧ win0_2.index t = ![0, 0])
      ∧ (win0_3.index t = ![0, t.val % 8] ∧ win0_4.index t = ![t.val / 8, t.val % 8]))

theorem lt_N (t : Fin cfg0.N) : t.val < 64 := lt_of_lt_of_eq t.isLt N_0

/-- Row `r` of the block of point `t`, in the array. -/
def row (t : Fin cfg0.N) (r : Fin 512) : Fin 4096 := ⟨t.val / 8 * 512 + r.val, by have := lt_N t; omega⟩

/-- Column `n` of the block of point `t`, in the array. -/
def col (t : Fin cfg0.N) (n : Fin 768) : Fin 6144 := ⟨t.val % 8 * 768 + n.val, by omega⟩

theorem emb4 (t : Fin cfg0.N) (r : Fin 512) (n : Fin 768) : (win0_4.rect t).emb (ix2 r n) = ix2 (row t r) (col t n) :=
  place2 (win0_4.rect_emb_val t _) (idx t).2.2 rfl rfl

/-! The input blocks. -/

theorem blk0 (c : Dev nD) (t : Fin cfg0.N) (r : Fin 512) (k : Fin 1024) :
    iblk m c 0 t (ix2 r k) = m ((c : Thread nD τ).loc main_arg0) (ix2 (row t r) k) :=
  congrArg (m ((c : Thread nD τ).loc main_arg0)) (place2 (win0_0.rect_emb_val t _) (idx t).1.1 rfl (first _ _))

theorem blk1 (c : Dev nD) (t : Fin cfg0.N) (s : Fin 6) (k : Fin 1024) :
    iblk m c 1 t (ix3 0 s k) = m ((c : Thread nD τ).loc main_arg1) (ix3 0 s k) :=
  congrArg (m ((c : Thread nD τ).loc main_arg1)) (place3 (win0_1.rect_emb_val t _) (idx t).1.2.1 rfl (first _ _) (first _ _))

theorem blk2 (c : Dev nD) (t : Fin cfg0.N) (k : Fin 1024) :
    iblk m c 2 t (ix2 0 k) = m ((c : Thread nD τ).loc main_arg2) (ix2 0 k) :=
  congrArg (m ((c : Thread nD τ).loc main_arg2)) (place2 (win0_2.rect_emb_val t _) (idx t).1.2.2 rfl (first _ _))

theorem blk3 (c : Dev nD) (t : Fin cfg0.N) (k : Fin 1024) (n : Fin 768) :
    iblk m c 3 t (ix2 k n) = m ((c : Thread nD τ).loc main_arg3) (ix2 k (col t n)) :=
  congrArg (m ((c : Thread nD τ).loc main_arg3)) (place2 (win0_3.rect_emb_val t _) (idx t).2.1 (first _ _) rfl)

/-- Token `i`'s hidden row, from the arguments. -/
def hidden (c : Dev nD) (i : Fin 4096) : Fin 1024 → EReal :=
  modRow (fun k => m ((c : Thread nD τ).loc main_arg0) (ix2 i k)) (fun k => m ((c : Thread nD τ).loc main_arg1) (ix3 0 0 k))
    (fun k => m ((c : Thread nD τ).loc main_arg1) (ix3 0 1 k)) (fun k => m ((c : Thread nD τ).loc main_arg2) (ix2 0 k))

theorem hid_blk (c : Dev nD) (t : Fin cfg0.N) (r : Fin 512) (k : Fin 1024) :
    hid (iblk m c 0 t) (iblk m c 1 t) (iblk m c 2 t) (ix2 r k) = hidden m c (row t r) k := by
  rw [hid_apply]
  simp only [blk0, blk1, blk2]
  rfl

theorem flush4 : ∀ t : Fin cfg0.N, (cfg0.win 4).flush t = true :=
  (by decide +kernel : ∀ t : Fin grid0.N, win0_4.flush t = true)

/-- The hidden rows carried after point `t` are those of its row block. -/
theorem carried (c : Dev nD) : ∀ (n : ℕ) (hn : n < cfg0.N) (r : Fin 512) (k : Fin 1024),
    (outsAt0 m c n hn).2 (ix2 r k) = hidden m c (row ⟨n, hn⟩ r) k := by
  refine carried_from _ (fun n hn h0 r k => ?_) (fun n hn h0 ih r k => ?_)
  · rw [show outsAt0 m c n hn = _ from outsAt0_A m c ⟨n, hn⟩ h0]
    dsimp only
    rw [carry_eq]
    exact hid_blk m c ⟨n, hn⟩ r k
  · rw [show outsAt0 m c (n + 1) hn = _ from outsAt0_B m c ⟨n + 1, hn⟩ h0]
    refine (ih r k).trans (congrArg (fun i => hidden m c i k) (Fin.ext ?_))
    show n / 8 * 512 + r.val = (n + 1) / 8 * 512 + r.val
    omega

/-- The block a point writes back. -/
theorem written (c : Dev nD) (t : Fin cfg0.N) (r : Fin 512) (n : Fin 768) :
    (outsAt0 m c t.val t.isLt).1 (ix2 r n)
      = ∑ k, hidden m c (row t r) k * m ((c : Thread nD τ).loc main_arg3) (ix2 k (col t n)) := by
  by_cases h0 : t.val % 8 = 0
  · rw [outsAt0_A m c t h0]
    dsimp only
    rw [out_eq, proj_apply]
    simp only [hid_blk, blk3]
  · rw [outsAt0_B m c t h0]
    dsimp only
    rw [out_carried, proj_apply]
    have e : row ⟨t.val - 1, Nat.lt_of_le_of_lt (Nat.sub_le _ _) t.isLt⟩ r = row t r :=
      Fin.ext (show (t.val - 1) / 8 * 512 + r.val = t.val / 8 * 512 + r.val by omega)
    simp only [carried, blk3, e]

theorem block4 (c : Dev nD) (t : Fin cfg0.N) (y : S512x768.Idx) :
    (dats m 0 c).arrAt 4 cfg0.N ((win0_4.rect t).emb y) = (outsAt0 m c t.val t.isLt).1 y :=
  congrFun ((Value.blocks4 m c t (flush4 t)).trans (Value.flushed4 m c t)) y

/-- The result after the run. -/
theorem final (c : Dev nD) (i : Fin 4096) (n : Fin 6144) :
    (dats m 0 c).arrAt 4 cfg0.N (ix2 i n) = ∑ k, hidden m c i k * m ((c : Thread nD τ).loc main_arg3) (ix2 k n) := by
  obtain ⟨t, r, j, hr, hj⟩ : ∃ (t : Fin cfg0.N) (r : Fin 512) (j : Fin 768), row t r = i ∧ col t j = n :=
    ⟨⟨i.val / 512 * 8 + n.val / 768, by have h : cfg0.N = 64 := N_0; omega⟩, ⟨i.val % 512, by omega⟩, ⟨n.val % 768, by omega⟩,
      Fin.ext (show (i.val / 512 * 8 + n.val / 768) / 8 * 512 + i.val % 512 = i.val by omega),
      Fin.ext (show (i.val / 512 * 8 + n.val / 768) % 8 * 768 + n.val % 768 = n.val by omega)⟩
  subst hr hj
  rw [← emb4, block4, written]

end Cert.InprojMainIdeal.Arr

end
-- ==== Proof.InprojMainClaim.lean ====
/-
  The main projection's claims: what the reference computes, read at an index, and the kernel's array equal to it. Both take
  the same sums of the same products, so nothing is asked of the arguments.
-/
module

public import proofs.«01_k».proof.Defs
public import proofs.«01_k».proof.Proof.InprojMainArray
public import proofs.«01_k».proof.Proof.Gen.InprojMain.Frame
public import proofs.«01_k».proof.Proof.Gen.InprojMainRefIdeal.Run
public import proofs.«01_k».proof.Proof.Gen.InprojMainRefIdeal.Read
public import Idealize.ShloMosaic.Lib.Quiescent

@[expose] public section

set_option maxRecDepth 16384

noncomputable section

namespace Cert.InprojMainRefIdeal.Refv

open Cert.InprojMainRefIdeal Cert.InprojMainRefIdeal.Read Cert.Spec Idealize.ShloMosaic

/-- The reference's hidden rows. -/
theorem hidden_apply (x0 : FVec Ideal S4096x1024 .f32) (x1 : FVec Ideal S1x6x1024 .f32) (x2 : FVec Ideal S1x1024 .f32) (i : Fin 4096) (k : Fin 1024) :
    val_main_v21 (F := Ideal) x0 x1 x2 (ix2 i k)
      = modRow (fun k => x0 (ix2 i k)) (fun k => x1 (ix3 0 0 k)) (fun k => x1 (ix3 0 1 k)) (fun k => x2 (ix2 0 k)) k := by
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_cst_2, val_main_v16, val_main_v17, val_main_v18, val_main_v19, val_main_v20, val_main_v21]
  rfl

/-- The reference's result. -/
theorem ref_apply (x0 : FVec Ideal S4096x1024 .f32) (x1 : FVec Ideal S1x6x1024 .f32) (x2 : FVec Ideal S1x1024 .f32)
    (x3 : FVec Ideal S1024x6144 .bf16) (i : Fin 4096) (n : Fin 6144) :
    val_main_v24 (F := Ideal) x0 x1 x2 x3 (ix2 i n)
      = ∑ k, modRow (fun k => x0 (ix2 i k)) (fun k => x1 (ix3 0 0 k)) (fun k => x1 (ix3 0 1 k)) (fun k => x2 (ix2 0 k)) k * x3 (ix2 k n) := by
  pointwise [val_main_v22, val_main_v23, val_main_v24, dot_S4096x1024_S1024x6144_S4096x6144_1_0_0_1_n_n]
  simp only [hidden_apply]

end Cert.InprojMainRefIdeal.Refv

namespace Cert.Proof.InprojMainClaims

open Idealize.ShloMosaic Idealize.ShloMosaic.TcCoe Idealize.SL.Sem Cert.Spec

theorem frame_p : Cert.quiescent_InprojMain := fun m ρ _ => Cert.InprojMain.Gen.frame m ρ
theorem frame_pi : Cert.quiescent_InprojMainIdeal := fun m ρ _ => Cert.InprojMainIdeal.Gen.frame m ρ
theorem frame_ri : Cert.quiescent_InprojMainRefIdeal := fun m ρ _ =>
  (θ_run Cert.InprojMainRefIdeal.defs _ _).mono (fun r h => ⟨fun c => (h c).2, Idealize.ShloMosaic.sem_eq_zero_of_no_sems (by decide) r.2⟩)
    (Cert.InprojMainRefIdeal.Value.run (F := Ideal) m ρ)

theorem algebraic : Cert.algebraic_InprojMainIdeal_InprojMainRefIdeal := fun m ρ m' ρ' _ hag =>
  ⟨fun c => (Cert.InprojMainIdeal.Gen.dats m 0 c).arrAt 4 Cert.InprojMainIdeal.cfg0.N, Cert.InprojMainIdeal.Value.run_blocks m ρ,
    (θ_run Cert.InprojMainRefIdeal.defs _ _).mono (fun r h c => by
      obtain ⟨e0, e1, e2, e3⟩ := hag c
      refine ⟨((h c).1.trans (Cert.InprojMainRefIdeal.Read.val_main_v24_eq ..)).trans ?_, (h c).2⟩
      rw [e0, e1, e2, e3]
      exact Cert.Windows.ext2 fun a n => (Cert.InprojMainRefIdeal.Refv.ref_apply _ _ _ _ a n).trans (Cert.InprojMainIdeal.Arr.final m c a n).symm)
      (Cert.InprojMainRefIdeal.Value.run m' ρ')⟩

end Cert.Proof.InprojMainClaims

end
-- ==== Proof.InprojQkvBlock.lean ====
/-
  The q, k, v projection, one block: what a grid point leaves in the result's block. The body computes the same as the main
  projection's, from blocks of the same shapes.
-/
module

public import proofs.«01_k».proof.Proof.Gen.InprojQkvIdeal.Value
public import proofs.«01_k».proof.Proof.InprojMainBlock
public import Idealize.ShloMosaic.Lib.Pointwise
public import Idealize.ShloMosaic.Lib.Pointwise.Tactic

@[expose] public section

set_option maxRecDepth 16384

noncomputable section

namespace Cert.InprojQkvIdeal.Block

open Cert.InprojQkvIdeal Cert.InprojQkvIdeal.Gen Cert.Spec Idealize.ShloMosaic Idealize.ShloMosaic.TcCoe Idealize.ShloMosaic.Tactic
open Cert.InprojMainIdeal.Block (hz2 hid kept stored)

/-- What a point that computes its hidden rows leaves in the result's block. -/
theorem out_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = Cert.InprojMainIdeal.Gen.k0_pay2 (F := Ideal) (hid x0 x1 x2) x3 := by
  unfold out0_A_4
  rw [View.read_writes_eq_canon _ _ _ (cover0_A_4 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact stored ((View.readCov_unit_zero _ hz2 _ _).trans (kept x0 x1 x2)) x3

end Cert.InprojQkvIdeal.Block

end
-- ==== Proof.InprojQkvArray.lean ====
/-
  The q, k, v projection, the array: the result after the run, element by element, as a function of the arguments. The grid
  point `1 i + j` computes rows `512 i …` and columns `768 j …`.
-/
module

public import proofs.«01_k».proof.Proof.InprojQkvBlock
public import proofs.«01_k».proof.Proof.Windows

@[expose] public section

set_option maxRecDepth 16384

noncomputable section

namespace Cert.InprojQkvIdeal.Arr

open Cert.InprojQkvIdeal Cert.InprojQkvIdeal.Gen Cert.InprojQkvIdeal.Block Cert.Spec Idealize.ShloMosaic Idealize.ShloMosaic.TcCoe
open Cert.InprojMainIdeal.Block (hid_apply proj_apply)
open Cert.Windows

variable (m : (ℓ : Loc nD τ sig) → Buf (Elt Ideal) ℓ)

/-- Where the windows stand at point `t`: at the point's rows; everything else is one block. -/
theorem idx : ∀ t : Fin cfg0.N,
    (win0_0.index t = ![t.val, 0] ∧ win0_1.index t = ![0, 0, 0] ∧ win0_2.index t = ![0, 0])
      ∧ (win0_3.index t = ![0, 0] ∧ win0_4.index t = ![t.val, 0]) :=
  (by decide +kernel : ∀ t : Fin grid0.N,
    (win0_0.index t = ![t.val, 0] ∧ win0_1.index t = ![0, 0, 0] ∧ win0_2.index t = ![0, 0])
      ∧ (win0_3.index t = ![0, 0] ∧ win0_4.index t = ![t.val, 0]))

/-- Row `r` of the block of point `t`, in the array. -/
def row (t : Fin cfg0.N) (r : Fin 512) : Fin 4096 := ⟨t.val * 512 + r.val, by have h : t.val < 8 := lt_of_lt_of_eq t.isLt N_0; omega⟩

theorem rows (c : Dev nD) (t : Fin cfg0.N) (r : Fin 512) (k : Fin 1024) :
    iblk m c 0 t (ix2 r k) = m ((c : Thread nD τ).loc main_arg0) (ix2 (row t r) k) :=
  congrArg (m ((c : Thread nD τ).loc main_arg0)) (place2 (win0_0.rect_emb_val t _) (idx t).1.1 rfl (first _ _))

theorem modulation (c : Dev nD) (t : Fin cfg0.N) (s : Fin 6) (k : Fin 1024) :
    iblk m c 1 t (ix3 0 s k) = m ((c : Thread nD τ).loc main_arg1) (ix3 0 s k) :=
  congrArg (m ((c : Thread nD τ).loc main_arg1)) (place3 (win0_1.rect_emb_val t _) (idx t).1.2.1 rfl (first _ _) (first _ _))

theorem norm (c : Dev nD) (t : Fin cfg0.N) (k : Fin 1024) :
    iblk m c 2 t (ix2 0 k) = m ((c : Thread nD τ).loc main_arg2) (ix2 0 k) :=
  congrArg (m ((c : Thread nD τ).loc main_arg2)) (place2 (win0_2.rect_emb_val t _) (idx t).1.2.2 rfl (first _ _))

theorem weights (c : Dev nD) (t : Fin cfg0.N) (k : Fin 1024) (n : Fin 768) :
    iblk m c 3 t (ix2 k n) = m ((c : Thread nD τ).loc main_arg3) (ix2 k n) :=
  congrArg (m ((c : Thread nD τ).loc main_arg3)) (place2 (win0_3.rect_emb_val t _) (idx t).2.1 (first _ _) (first _ _))

/-- Token `i`'s hidden row, from the arguments. -/
def hidden (c : Dev nD) (i : Fin 4096) : Fin 1024 → EReal :=
  modRow (fun k => m ((c : Thread nD τ).loc main_arg0) (ix2 i k)) (fun k => m ((c : Thread nD τ).loc main_arg1) (ix3 0 0 k))
    (fun k => m ((c : Thread nD τ).loc main_arg1) (ix3 0 1 k)) (fun k => m ((c : Thread nD τ).loc main_arg2) (ix2 0 k))

/-- The block a point writes back. -/
theorem written (c : Dev nD) (t : Fin cfg0.N) (r : Fin 512) (n : Fin 768) :
    outsAt0 m c t (ix2 r n) = ∑ k, hidden m c (row t r) k * m ((c : Thread nD τ).loc main_arg3) (ix2 k n) := by
  unfold outsAt0
  rw [out_eq, proj_apply]
  simp only [hid_apply, rows, modulation, norm, weights, hidden]

theorem flush4 : ∀ t : Fin cfg0.N, (cfg0.win 4).flush t = true :=
  (by decide +kernel : ∀ t : Fin grid0.N, win0_4.flush t = true)

/-- The result after the run. -/
theorem final (c : Dev nD) (i : Fin 4096) (n : Fin 768) :
    (dats m 0 c).arrAt 4 cfg0.N (ix2 i n) = ∑ k, hidden m c i k * m ((c : Thread nD τ).loc main_arg3) (ix2 k n) := by
  obtain ⟨t, r, rfl⟩ : ∃ (t : Fin cfg0.N) (r : Fin 512), row t r = i :=
    ⟨⟨i.val / 512, by have h : cfg0.N = 8 := N_0; omega⟩, ⟨i.val % 512, by omega⟩, Fin.ext (show i.val / 512 * 512 + i.val % 512 = i.val by omega)⟩
  have e : (win0_4.rect t).emb (ix2 r n) = ix2 (row t r) n := place2 (win0_4.rect_emb_val t _) (idx t).2.2 rfl (first _ _)
  rw [← e]
  exact (congrFun ((Value.blocks4 m c t (flush4 t)).trans (Value.flushed4 m c t)) (ix2 r n)).trans (written m c t r n)

end Cert.InprojQkvIdeal.Arr

end
-- ==== Proof.InprojQkvClaim.lean ====
/-
  The q, k, v projection's claims: what the reference computes, read at an index, and the kernel's array equal to it. Both take
  the same sums of the same products, so nothing is asked of the arguments.
-/
module

public import proofs.«01_k».proof.Defs
public import proofs.«01_k».proof.Proof.InprojMainClaim
public import proofs.«01_k».proof.Proof.InprojQkvArray
public import proofs.«01_k».proof.Proof.Gen.InprojQkv.Frame
public import proofs.«01_k».proof.Proof.Gen.InprojQkvRefIdeal.Run
public import proofs.«01_k».proof.Proof.Gen.InprojQkvRefIdeal.Read
public import Idealize.ShloMosaic.Lib.Quiescent

@[expose] public section

set_option maxRecDepth 16384

noncomputable section

namespace Cert.InprojQkvRefIdeal.Refv

open Cert.InprojQkvRefIdeal Cert.InprojQkvRefIdeal.Read Cert.Spec Idealize.ShloMosaic

/-- The reference's result. Its hidden rows are the main projection's. -/
theorem ref_apply (x0 : FVec Ideal S4096x1024 .f32) (x1 : FVec Ideal S1x6x1024 .f32) (x2 : FVec Ideal S1x1024 .f32)
    (x3 : FVec Ideal S1024x768 .bf16) (i : Fin 4096) (n : Fin 768) :
    val_main_v23 (F := Ideal) x0 x1 x2 x3 (ix2 i n)
      = ∑ k, modRow (fun k => x0 (ix2 i k)) (fun k => x1 (ix3 0 0 k)) (fun k => x1 (ix3 0 1 k)) (fun k => x2 (ix2 0 k)) k * x3 (ix2 k n) := by
  pointwise [val_main_v22, val_main_v23, dot_S4096x1024_S1024x768_S4096x768_1_0_0_1_n_n]
  exact Finset.sum_congr rfl fun k _ => congrArg (· * x3 (ix2 k n)) (Cert.InprojMainRefIdeal.Refv.hidden_apply x0 x1 x2 i k)

end Cert.InprojQkvRefIdeal.Refv

namespace Cert.Proof.InprojQkvClaims

open Idealize.ShloMosaic Idealize.ShloMosaic.TcCoe Idealize.SL.Sem Cert.Spec

theorem frame_p : Cert.quiescent_InprojQkv := fun m ρ _ => Cert.InprojQkv.Gen.frame m ρ
theorem frame_pi : Cert.quiescent_InprojQkvIdeal := fun m ρ _ => Cert.InprojQkvIdeal.Gen.frame m ρ
theorem frame_ri : Cert.quiescent_InprojQkvRefIdeal := fun m ρ _ =>
  (θ_run Cert.InprojQkvRefIdeal.defs _ _).mono (fun r h => ⟨fun c => (h c).2, Idealize.ShloMosaic.sem_eq_zero_of_no_sems (by decide) r.2⟩)
    (Cert.InprojQkvRefIdeal.Value.run (F := Ideal) m ρ)

theorem algebraic : Cert.algebraic_InprojQkvIdeal_InprojQkvRefIdeal := fun m ρ m' ρ' _ hag =>
  ⟨fun c => (Cert.InprojQkvIdeal.Gen.dats m 0 c).arrAt 4 Cert.InprojQkvIdeal.cfg0.N, Cert.InprojQkvIdeal.Value.run_blocks m ρ,
    (θ_run Cert.InprojQkvRefIdeal.defs _ _).mono (fun r h c => by
      obtain ⟨e0, e1, e2, e3⟩ := hag c
      refine ⟨((h c).1.trans (Cert.InprojQkvRefIdeal.Read.val_main_v23_eq ..)).trans ?_, (h c).2⟩
      rw [e0, e1, e2, e3]
      exact Cert.Windows.ext2 fun a n => (Cert.InprojQkvRefIdeal.Refv.ref_apply _ _ _ _ a n).trans (Cert.InprojQkvIdeal.Arr.final m c a n).symm)
      (Cert.InprojQkvRefIdeal.Value.run m' ρ')⟩

end Cert.Proof.InprojQkvClaims

end
-- ==== Proof.MergeBlock.lean ====
/-
  The merge, one block: what the body computes from 512 rows of the three branches, their gates and the tokens.
-/
module

public import proofs.«01_k».proof.Proof.Gen.MergeIdeal.Value
public import proofs.«01_k».proof.Proof.Spec
public import Idealize.ShloMosaic.Lib.Pointwise
public import Idealize.ShloMosaic.Lib.Pointwise.Tactic

@[expose] public section

set_option maxRecDepth 16384

noncomputable section

namespace Cert.MergeIdeal.Block

open Cert.MergeIdeal Cert.MergeIdeal.Gen Cert.Spec Idealize.ShloMosaic Idealize.ShloMosaic.TcCoe

theorem hz2 : (![0, 0] : Fin 2 → Nat) = fun _ => 0 := funext fun a => by fin_cases a <;> rfl

/-- The block's residual rows. -/
theorem residual_pay (a b c : Vec Ideal S512x512 .bf16) (ga gb gc : Vec Ideal S512x1024 .bf16) (x : Vec Ideal S512x1024 .f32)
    (wa wb wc : Vec Ideal S512x1024 .bf16) (wo : Vec Ideal S1024x1024 .bf16) (g : Vec Ideal S1x1x1024 .f32) (r : Fin 512) (n : Fin 1024) :
    k0_pay4 (F := Ideal) (k0_pay2 ga a wa gb b wb) (k0_pay3 gc) (Scalar.ofBits .f32 0x3F800000#32) c wc x g wo (ix2 r n)
      = residual (fun k => x (ix2 r k)) (fun k => g (ix3 0 0 k)) (gateMix (fun j => a (ix2 r j)) (fun j => b (ix2 r j)) (fun j => c (ix2 r j))
          (fun j => ga (ix2 r j)) (fun j => gb (ix2 r j)) (fun j => gc (ix2 r j)) (fun j k => wa (ix2 j k)) (fun j k => wb (ix2 j k)) (fun j k => wc (ix2 j k)))
        (fun j k => wo (ix2 j k)) n := by
  unfold_payloads
  pointwise [dot_S512x512_S512x1024_S512x1024_1_0_0_1_n_n, dot_S512x1024_S1024x1024_S512x1024_1_0_0_1_n_n, zero_sub]
  rfl

/-- The block's hidden rows, from its residual rows `x`. -/
theorem hidden_pay (x : FVec Ideal S512x1024 .f32) (u v : Vec Ideal S1x1x1024 .f32) (w : Vec Ideal S1x1024 .f32) (v26 v33 c v36 v37 v41 v42 v45)
    (h : k0_pay4 (F := Ideal) v26 v33 c v36 v37 v41 v42 v45 = x) (r : Fin 512) (k : Fin 1024) :
    k0_pay1 (F := Ideal) (k0_pay5 u) (k0_pay6 v) (k0_pay7 v26 v33 c v36 v37 v41 v42 v45) (k0_pay8 w) (ix2 r k)
      = modRow (fun k => x (ix2 r k)) (fun k => u (ix3 0 0 k)) (fun k => v (ix3 0 0 k)) (fun k => w (ix2 0 k)) k := by
  unfold k0_pay1 k0_pay5 k0_pay6 k0_pay7 k0_pay8
  rw [h]
  pointwise []
  rfl

/-! The modulation's rows, as the body loads them. -/

theorem row2 (x : Vec Ideal S1x6x1024 .f32) (k : Fin 1024) :
    View.ld x (Rect.unit (s := S1x6x1024) ![0, 2, 0] S1x1x1024.size inb_S1x6x1024_S1x1x1024_0_2_0) (ix3 0 0 k) = x (ix3 0 2 k) :=
  congrArg x (funext fun a => Fin.ext (by
    match a with
    | ⟨0, _⟩ => rfl
    | ⟨1, _⟩ => rfl
    | ⟨2, _⟩ => show 0 + 1 * k.val = k.val; omega))

theorem row3 (x : Vec Ideal S1x6x1024 .f32) (k : Fin 1024) :
    View.ld x (Rect.unit (s := S1x6x1024) ![0, 3, 0] S1x1x1024.size inb_S1x6x1024_S1x1x1024_0_3_0) (ix3 0 0 k) = x (ix3 0 3 k) :=
  congrArg x (funext fun a => Fin.ext (by
    match a with
    | ⟨0, _⟩ => rfl
    | ⟨1, _⟩ => rfl
    | ⟨2, _⟩ => show 0 + 1 * k.val = k.val; omega))

theorem row4 (x : Vec Ideal S1x6x1024 .f32) (k : Fin 1024) :
    View.ld x (Rect.unit (s := S1x6x1024) ![0, 4, 0] S1x1x1024.size inb_S1x6x1024_S1x1x1024_0_4_0) (ix3 0 0 k) = x (ix3 0 4 k) :=
  congrArg x (funext fun a => Fin.ext (by
    match a with
    | ⟨0, _⟩ => rfl
    | ⟨1, _⟩ => rfl
    | ⟨2, _⟩ => show 0 + 1 * k.val = k.val; omega))

/-! The loads of whole windows. -/

theorem ld0 (x : Vec Ideal S512x1024 .bf16) : View.ld x r0_0 = x := View.ld_unit_zero hz2 _ x
theorem ld0' (x : Vec Ideal S512x1024 .f32) : View.ld x r0_0 = x := View.ld_unit_zero hz2 _ x
theorem ld1 (x : Vec Ideal S512x512 .bf16) : View.ld x r0_1 = x := View.ld_unit_zero hz2 _ x
theorem ld3 (x : Vec Ideal S1024x1024 .bf16) : View.ld x r0_3 = x := View.ld_unit_zero hz2 _ x
theorem ld4 (x : Vec Ideal S1x1024 .f32) : View.ld x r0_4 = x := View.ld_unit_zero hz2 _ x

/-- What a point leaves in the first result's block. -/
theorem residual_out (a b c : Vec Ideal S512x512 .bf16) (ga gb gc : Vec Ideal S512x1024 .bf16) (x : Vec Ideal S512x1024 .f32)
    (wa wb wc : Vec Ideal S512x1024 .bf16) (wo : Vec Ideal S1024x1024 .bf16) (md : Vec Ideal S1x6x1024 .f32) (w : Vec Ideal S1x1024 .f32) (r : Fin 512) (n : Fin 1024) :
    out0_13 (F := Ideal) a b c ga gb gc x md w wa wb wc wo (ix2 r n)
      = residual (fun k => x (ix2 r k)) (fun k => md (ix3 0 2 k)) (gateMix (fun j => a (ix2 r j)) (fun j => b (ix2 r j)) (fun j => c (ix2 r j))
          (fun j => ga (ix2 r j)) (fun j => gb (ix2 r j)) (fun j => gc (ix2 r j)) (fun j k => wa (ix2 j k)) (fun j k => wb (ix2 j k)) (fun j k => wc (ix2 j k)))
        (fun j k => wo (ix2 j k)) n := by
  unfold_out out0_13
  rw [View.canon_unit_zero hz2]
  simp only [ld0, ld0', ld1, ld3, ld4]
  refine (residual_pay a b c ga gb gc x wa wb wc wo _ r n).trans ?_
  exact congrArg (fun g => residual (fun k => x (ix2 r k)) g (gateMix (fun j => a (ix2 r j)) (fun j => b (ix2 r j)) (fun j => c (ix2 r j))
          (fun j => ga (ix2 r j)) (fun j => gb (ix2 r j)) (fun j => gc (ix2 r j)) (fun j k => wa (ix2 j k)) (fun j k => wb (ix2 j k)) (fun j k => wc (ix2 j k)))
        (fun j k => wo (ix2 j k)) n) (funext (row2 md))

/-- What a point leaves in the second result's block: its first result's rows, normed and modulated. -/
theorem hidden_out (a b c : Vec Ideal S512x512 .bf16) (ga gb gc : Vec Ideal S512x1024 .bf16) (x : Vec Ideal S512x1024 .f32)
    (wa wb wc : Vec Ideal S512x1024 .bf16) (wo : Vec Ideal S1024x1024 .bf16) (md : Vec Ideal S1x6x1024 .f32) (w : Vec Ideal S1x1024 .f32) (r : Fin 512) (n : Fin 1024) :
    out0_14 (F := Ideal) a b c ga gb gc x md w wa wb wc wo (ix2 r n)
      = modRow (fun k => out0_13 (F := Ideal) a b c ga gb gc x md w wa wb wc wo (ix2 r k)) (fun k => md (ix3 0 3 k)) (fun k => md (ix3 0 4 k))
        (fun k => w (ix2 0 k)) n := by
  unfold_out out0_14
  unfold_out out0_13
  rw [View.canon_unit_zero hz2, View.canon_unit_zero hz2]
  simp only [ld0, ld0', ld1, ld3, ld4]
  refine (hidden_pay _ _ _ w _ _ _ _ _ _ _ _ rfl r n).trans ?_
  exact congrArg₂ (fun u v => modRow _ u v (fun k => w (ix2 0 k)) n) (funext (row3 md)) (funext (row4 md))

end Cert.MergeIdeal.Block

end
-- ==== Proof.MergeArray.lean ====
/-
  The merge, the arrays: a block's rows of the two results, for any number of rows in the array, and the prompt's results
  after the run, element by element, as functions of the arguments. The grid point `t` computes rows `512 t …`.
-/
module

public import proofs.«01_k».proof.Proof.MergeBlock
public import proofs.«01_k».proof.Proof.Windows

@[expose] public section

set_option maxRecDepth 16384

noncomputable section

namespace Cert.MergeIdeal.Rows

open Cert.MergeIdeal Cert.MergeIdeal.Gen Cert.MergeIdeal.Block Cert.Spec Idealize.ShloMosaic

/-- Column `k` of the gate that fills the columns from `1024 g`. -/
def gcol (g : Nat) (k : Fin 1024) (hg : g < 6 := by decide) : Fin 6144 := ⟨g * 1024 + k.val, by omega⟩

/-- The gates' columns as slices of the last three gates give them. -/
theorem gcol3 (k : Fin 1024) (h : 3072 + k.val < 6144) : (⟨3072 + k.val, h⟩ : Fin 6144) = gcol 3 k := rfl

theorem gcol4 (k : Fin 1024) (h : 3072 + (1024 + k.val) < 6144) : (⟨3072 + (1024 + k.val), h⟩ : Fin 6144) = gcol 4 k :=
  Fin.ext (show 3072 + (1024 + k.val) = 4 * 1024 + k.val by omega)

theorem gcol5 (k : Fin 1024) (h : 3072 + (2048 + k.val) < 6144) : (⟨3072 + (2048 + k.val), h⟩ : Fin 6144) = gcol 5 k :=
  Fin.ext (show 3072 + (2048 + k.val) = 5 * 1024 + k.val by omega)

variable {R : Nat} (x0 x1 x2 : FVec Ideal ⟨2, ![R, 512]⟩ .bf16) (x3 : FVec Ideal ⟨2, ![R, 6144]⟩ .bf16) (x4 : FVec Ideal ⟨2, ![R, 1024]⟩ .f32)
  (d : Fin 6 → Fin 1024 → EReal) (x6 : FVec Ideal ⟨2, ![1, 1024]⟩ .f32) (x7 x8 x9 : FVec Ideal ⟨2, ![512, 1024]⟩ .bf16)
  (x10 : FVec Ideal ⟨2, ![1024, 1024]⟩ .bf16)

/-- Token `i`'s residual row under the modulation rows `d`. -/
def resid (i : Fin R) : Fin 1024 → EReal :=
  residual (fun k => x4 (ix2 i k)) (d 2)
    (gateMix (fun j => x0 (ix2 i j)) (fun j => x1 (ix2 i j)) (fun j => x2 (ix2 i j))
      (fun k => x3 (ix2 i (gcol 3 k))) (fun k => x3 (ix2 i (gcol 4 k))) (fun k => x3 (ix2 i (gcol 5 k)))
      (fun j k => x7 (ix2 j k)) (fun j k => x8 (ix2 j k)) (fun j k => x9 (ix2 j k)))
    (fun k n => x10 (ix2 k n))

/-- Row `r` of the blocks is row `i` of the arrays, with the modulation rows `d` and the whole weights. -/
structure Holds (i : Fin R) (r : Fin 512) (y0 y1 y2 : Vec Ideal S512x512 .bf16) (y3 y4 y5 : Vec Ideal S512x1024 .bf16)
    (y6 : Vec Ideal S512x1024 .f32) (y7 : Vec Ideal S1x6x1024 .f32) (y8 : Vec Ideal S1x1024 .f32) (y9 y10 y11 : Vec Ideal S512x1024 .bf16)
    (y12 : Vec Ideal S1024x1024 .bf16) : Prop where
  b0 : ∀ k, y0 (ix2 r k) = x0 (ix2 i k)
  b1 : ∀ k, y1 (ix2 r k) = x1 (ix2 i k)
  b2 : ∀ k, y2 (ix2 r k) = x2 (ix2 i k)
  b3 : ∀ k, y3 (ix2 r k) = x3 (ix2 i (gcol 3 k))
  b4 : ∀ k, y4 (ix2 r k) = x3 (ix2 i (gcol 4 k))
  b5 : ∀ k, y5 (ix2 r k) = x3 (ix2 i (gcol 5 k))
  b6 : ∀ k, y6 (ix2 r k) = x4 (ix2 i k)
  b7 : ∀ s k, y7 (ix3 0 s k) = d s k
  b8 : ∀ k, y8 (ix2 0 k) = x6 (ix2 0 k)
  b9 : ∀ j k, y9 (ix2 j k) = x7 (ix2 j k)
  b10 : ∀ j k, y10 (ix2 j k) = x8 (ix2 j k)
  b11 : ∀ j k, y11 (ix2 j k) = x9 (ix2 j k)
  b12 : ∀ j k, y12 (ix2 j k) = x10 (ix2 j k)

variable {x0 x1 x2 x3 x4 d x6 x7 x8 x9 x10} {i : Fin R} {r : Fin 512} {y0 y1 y2 : Vec Ideal S512x512 .bf16} {y3 y4 y5 : Vec Ideal S512x1024 .bf16}
  {y6 : Vec Ideal S512x1024 .f32} {y7 : Vec Ideal S1x6x1024 .f32} {y8 : Vec Ideal S1x1024 .f32} {y9 y10 y11 : Vec Ideal S512x1024 .bf16}
  {y12 : Vec Ideal S1024x1024 .bf16}

theorem Holds.resid_eq (h : Holds x0 x1 x2 x3 x4 d x6 x7 x8 x9 x10 i r y0 y1 y2 y3 y4 y5 y6 y7 y8 y9 y10 y11 y12) (n : Fin 1024) :
    out0_13 (F := Ideal) y0 y1 y2 y3 y4 y5 y6 y7 y8 y9 y10 y11 y12 (ix2 r n) = resid x0 x1 x2 x3 x4 d x7 x8 x9 x10 i n := by
  refine (residual_out y0 y1 y2 y3 y4 y5 y6 y9 y10 y11 y12 y7 y8 r n).trans ?_
  simp only [h.b0, h.b1, h.b2, h.b3, h.b4, h.b5, h.b6, h.b7, h.b9, h.b10, h.b11, h.b12]
  rfl

theorem Holds.hidden_eq (h : Holds x0 x1 x2 x3 x4 d x6 x7 x8 x9 x10 i r y0 y1 y2 y3 y4 y5 y6 y7 y8 y9 y10 y11 y12) (n : Fin 1024) :
    out0_14 (F := Ideal) y0 y1 y2 y3 y4 y5 y6 y7 y8 y9 y10 y11 y12 (ix2 r n)
      = modRow (resid x0 x1 x2 x3 x4 d x7 x8 x9 x10 i) (d 3) (d 4) (fun k => x6 (ix2 0 k)) n := by
  refine (hidden_out y0 y1 y2 y3 y4 y5 y6 y9 y10 y11 y12 y7 y8 r n).trans ?_
  simp only [h.resid_eq, h.b7, h.b8]

end Cert.MergeIdeal.Rows

namespace Cert.MergeIdeal.Arr

open Cert.MergeIdeal Cert.MergeIdeal.Gen Cert.MergeIdeal.Rows Cert.Windows Cert.Spec Idealize.ShloMosaic Idealize.ShloMosaic.TcCoe

variable (m : (ℓ : Loc nD τ sig) → Buf (Elt Ideal) ℓ)

/-- Where the windows stand at point `t`. -/
theorem idx : ∀ t : Fin cfg0.N,
    (((win0_0.index t = ![t.val, 0] ∧ win0_1.index t = ![t.val, 0]) ∧ (win0_2.index t = ![t.val, 0] ∧ win0_3.index t = ![t.val, 3]))
      ∧ ((win0_4.index t = ![t.val, 4] ∧ win0_5.index t = ![t.val, 5]) ∧ win0_6.index t = ![t.val, 0]))
      ∧ ((win0_7.index t = ![0, 0, 0] ∧ (win0_8.index t = ![0, 0] ∧ (win0_9.index t = ![0, 0] ∧ win0_10.index t = ![0, 0])))
      ∧ ((win0_11.index t = ![0, 0] ∧ win0_12.index t = ![0, 0]) ∧ (win0_13.index t = ![t.val, 0] ∧ win0_14.index t = ![t.val, 0]))) :=
  (by decide +kernel : ∀ t : Fin grid0.N,
    (((win0_0.index t = ![t.val, 0] ∧ win0_1.index t = ![t.val, 0]) ∧ (win0_2.index t = ![t.val, 0] ∧ win0_3.index t = ![t.val, 3]))
      ∧ ((win0_4.index t = ![t.val, 4] ∧ win0_5.index t = ![t.val, 5]) ∧ win0_6.index t = ![t.val, 0]))
      ∧ ((win0_7.index t = ![0, 0, 0] ∧ (win0_8.index t = ![0, 0] ∧ (win0_9.index t = ![0, 0] ∧ win0_10.index t = ![0, 0])))
      ∧ ((win0_11.index t = ![0, 0] ∧ win0_12.index t = ![0, 0]) ∧ (win0_13.index t = ![t.val, 0] ∧ win0_14.index t = ![t.val, 0]))))

/-- Row `r` of the block of point `t`, in the array. -/
def row (t : Fin cfg0.N) (r : Fin 512) : Fin 4096 := ⟨t.val * 512 + r.val, by have h : t.val < 8 := lt_of_lt_of_eq t.isLt N_0; omega⟩

theorem holds (c : Dev nD) (t : Fin cfg0.N) (r : Fin 512) :
    Holds (m ((c : Thread nD τ).loc main_arg0)) (m ((c : Thread nD τ).loc main_arg1)) (m ((c : Thread nD τ).loc main_arg2)) (m ((c : Thread nD τ).loc main_arg3)) (m ((c : Thread nD τ).loc main_arg4))
      (fun s k => m ((c : Thread nD τ).loc main_arg5) (ix3 0 s k)) (m ((c : Thread nD τ).loc main_arg6)) (m ((c : Thread nD τ).loc main_arg7)) (m ((c : Thread nD τ).loc main_arg8)) (m ((c : Thread nD τ).loc main_arg9)) (m ((c : Thread nD τ).loc main_arg10))
      (row t r) r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  b0 k := congrArg (m ((c : Thread nD τ).loc main_arg0)) (place2 (win0_0.rect_emb_val t _) (idx t).1.1.1.1 rfl (first _ _))
  b1 k := congrArg (m ((c : Thread nD τ).loc main_arg1)) (place2 (win0_1.rect_emb_val t _) (idx t).1.1.1.2 rfl (first _ _))
  b2 k := congrArg (m ((c : Thread nD τ).loc main_arg2)) (place2 (win0_2.rect_emb_val t _) (idx t).1.1.2.1 rfl (first _ _))
  b3 k := congrArg (m ((c : Thread nD τ).loc main_arg3)) (place2 (win0_3.rect_emb_val t _) (idx t).1.1.2.2 rfl rfl)
  b4 k := congrArg (m ((c : Thread nD τ).loc main_arg3)) (place2 (win0_4.rect_emb_val t _) (idx t).1.2.1.1 rfl rfl)
  b5 k := congrArg (m ((c : Thread nD τ).loc main_arg3)) (place2 (win0_5.rect_emb_val t _) (idx t).1.2.1.2 rfl rfl)
  b6 k := congrArg (m ((c : Thread nD τ).loc main_arg4)) (place2 (win0_6.rect_emb_val t _) (idx t).1.2.2 rfl (first _ _))
  b7 s k := congrArg (m ((c : Thread nD τ).loc main_arg5)) (place3 (win0_7.rect_emb_val t _) (idx t).2.1.1 rfl (first _ _) (first _ _))
  b8 k := congrArg (m ((c : Thread nD τ).loc main_arg6)) (place2 (win0_8.rect_emb_val t _) (idx t).2.1.2.1 (first _ _) (first _ _))
  b9 j k := congrArg (m ((c : Thread nD τ).loc main_arg7)) (place2 (win0_9.rect_emb_val t _) (idx t).2.1.2.2.1 (first _ _) (first _ _))
  b10 j k := congrArg (m ((c : Thread nD τ).loc main_arg8)) (place2 (win0_10.rect_emb_val t _) (idx t).2.1.2.2.2 (first _ _) (first _ _))
  b11 j k := congrArg (m ((c : Thread nD τ).loc main_arg9)) (place2 (win0_11.rect_emb_val t _) (idx t).2.2.1.1 (first _ _) (first _ _))
  b12 j k := congrArg (m ((c : Thread nD τ).loc main_arg10)) (place2 (win0_12.rect_emb_val t _) (idx t).2.2.1.2 (first _ _) (first _ _))

theorem flush13 : ∀ t : Fin cfg0.N, (cfg0.win 13).flush t = true :=
  (by decide +kernel : ∀ t : Fin grid0.N, win0_13.flush t = true)

theorem flush14 : ∀ t : Fin cfg0.N, (cfg0.win 14).flush t = true :=
  (by decide +kernel : ∀ t : Fin grid0.N, win0_14.flush t = true)

/-- Token `i`'s residual row, from the arguments. -/
abbrev resid (c : Dev nD) : Fin 4096 → Fin 1024 → EReal :=
  Rows.resid (m ((c : Thread nD τ).loc main_arg0)) (m ((c : Thread nD τ).loc main_arg1)) (m ((c : Thread nD τ).loc main_arg2)) (m ((c : Thread nD τ).loc main_arg3)) (m ((c : Thread nD τ).loc main_arg4))
    (fun s k => m ((c : Thread nD τ).loc main_arg5) (ix3 0 s k)) (m ((c : Thread nD τ).loc main_arg7)) (m ((c : Thread nD τ).loc main_arg8)) (m ((c : Thread nD τ).loc main_arg9)) (m ((c : Thread nD τ).loc main_arg10))

/-- Every row is a row of some point's block. -/
theorem exists_row (i : Fin 4096) : ∃ (t : Fin cfg0.N) (r : Fin 512), row t r = i :=
  ⟨⟨i.val / 512, by have h : cfg0.N = 8 := N_0; omega⟩, ⟨i.val % 512, by omega⟩,
    Fin.ext (show i.val / 512 * 512 + i.val % 512 = i.val by omega)⟩

/-- The first result after the run. -/
theorem resid_final (c : Dev nD) (i : Fin 4096) (n : Fin 1024) : (dats m 0 c).arrAt 13 cfg0.N (ix2 i n) = resid m c i n := by
  obtain ⟨t, r, rfl⟩ := exists_row i
  have e : (win0_13.rect t).emb (ix2 r n) = ix2 (row t r) n := place2 (win0_13.rect_emb_val t _) (idx t).2.2.2.1 rfl (first _ _)
  rw [← e]
  exact (congrFun ((Value.blocks13 m c t (flush13 t)).trans (Value.flushed13 m c t)) (ix2 r n)).trans ((holds m c t r).resid_eq n)

/-- The second result after the run. -/
theorem hidden_final (c : Dev nD) (i : Fin 4096) (n : Fin 1024) :
    (dats m 0 c).arrAt 14 cfg0.N (ix2 i n)
      = modRow (resid m c i) (fun k => m ((c : Thread nD τ).loc main_arg5) (ix3 0 3 k)) (fun k => m ((c : Thread nD τ).loc main_arg5) (ix3 0 4 k)) (fun k => m ((c : Thread nD τ).loc main_arg6) (ix2 0 k)) n := by
  obtain ⟨t, r, rfl⟩ := exists_row i
  have e : (win0_14.rect t).emb (ix2 r n) = ix2 (row t r) n := place2 (win0_14.rect_emb_val t _) (idx t).2.2.2.2 rfl (first _ _)
  rw [← e]
  exact (congrFun ((Value.blocks14 m c t (flush14 t)).trans (Value.flushed14 m c t)) (ix2 r n)).trans ((holds m c t r).hidden_eq n)

end Cert.MergeIdeal.Arr

end
-- ==== Proof.MergeClaim.lean ====
/-
  The merge's claims: what the reference computes, read at an index, and the kernel's arrays equal to it. Both take the
  same sums of the same products, so nothing is asked of the arguments.
-/
module

public import proofs.«01_k».proof.Defs
public import proofs.«01_k».proof.Proof.MergeArray
public import proofs.«01_k».proof.Proof.Gen.Merge.Frame
public import proofs.«01_k».proof.Proof.Gen.MergeRefIdeal.Run
public import proofs.«01_k».proof.Proof.Gen.MergeRefIdeal.Read
public import Idealize.ShloMosaic.Lib.Quiescent

@[expose] public section

set_option maxRecDepth 16384

noncomputable section

namespace Cert.MergeRefIdeal.Refv

open Cert.MergeRefIdeal Cert.MergeRefIdeal.Read Cert.Spec Cert.MergeIdeal.Rows Idealize.ShloMosaic

variable (x0 x1 x2 : FVec Ideal S4096x512 .bf16) (x3 : FVec Ideal S4096x6144 .bf16) (x4 : FVec Ideal S4096x1024 .f32) (x5 : FVec Ideal S1x6x1024 .f32)
  (x6 : FVec Ideal S1x1024 .f32) (x7 x8 x9 : FVec Ideal S512x1024 .bf16) (x10 : FVec Ideal S1024x1024 .bf16)

/-- The reference's residual rows. -/
theorem residual_apply (i : Fin 4096) (n : Fin 1024) :
    val_main_v47 (F := Ideal) x0 x1 x2 x3 x4 x5 x7 x8 x9 x10 (ix2 i n)
      = residual (fun k => x4 (ix2 i k)) (fun k => x5 (ix3 0 2 k))
        (gateMix (fun j => x0 (ix2 i j)) (fun j => x1 (ix2 i j)) (fun j => x2 (ix2 i j))
          (fun k => x3 (ix2 i (gcol 3 k))) (fun k => x3 (ix2 i (gcol 4 k))) (fun k => x3 (ix2 i (gcol 5 k)))
          (fun j k => x7 (ix2 j k)) (fun j k => x8 (ix2 j k)) (fun j k => x9 (ix2 j k)))
        (fun k n => x10 (ix2 k n)) n := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_v23, val_main_v24, val_main_cst_1, val_main_v25, val_main_v26, val_main_cst_2, val_main_v27, val_main_v28, val_main_v29, val_main_v30, val_main_v31, val_main_v32, val_main_v33, val_main_v34, val_main_cst_3, val_main_v35, val_main_v36, val_main_cst_4, val_main_v37, val_main_v38, val_main_v39, val_main_v40, val_main_v41, val_main_v42, val_main_v43, val_main_v44, val_main_v45, val_main_v46, val_main_v47, val_main_v48, val_main_cst_5, val_main_v49, val_main_v50, val_main_cst_6, val_main_v51, val_main_v52, val_main_cst_7, val_main_v53, val_main_v54, val_main_v55, val_main_v56, val_main_v57, val_main_v58, val_main_v59, val_main_cst_8, val_main_v60, val_main_v61, val_main_v62, val_main_v63, val_main_v64, val_main_v65, val_main_v66,
    dot_S4096x1024_S1024x1024_S4096x1024_1_0_0_1_n_n, dot_S4096x512_S512x1024_S4096x1024_1_0_0_1_n_n]
  simp only [gcol3, gcol4, gcol5]
  rfl

/-- The reference's hidden rows. -/
theorem hidden_apply (i : Fin 4096) (n : Fin 1024) :
    val_main_v66 (F := Ideal) x0 x1 x2 x3 x4 x5 x6 x7 x8 x9 x10 (ix2 i n)
      = modRow (fun k => val_main_v47 (F := Ideal) x0 x1 x2 x3 x4 x5 x7 x8 x9 x10 (ix2 i k)) (fun k => x5 (ix3 0 3 k)) (fun k => x5 (ix3 0 4 k))
        (fun k => x6 (ix2 0 k)) n := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, val_main_cst_2, val_main_cst_3, val_main_cst_4, val_main_v48, val_main_cst_5, val_main_v49, val_main_v50, val_main_cst_6, val_main_v51, val_main_v52, val_main_cst_7, val_main_v53, val_main_v54, val_main_v55, val_main_v56, val_main_v57, val_main_v58, val_main_v59, val_main_cst_8, val_main_v60, val_main_v61, val_main_v62, val_main_v63, val_main_v64, val_main_v65, val_main_v66,
    dot_S4096x1024_S1024x1024_S4096x1024_1_0_0_1_n_n, dot_S4096x512_S512x1024_S4096x1024_1_0_0_1_n_n]
  rfl

end Cert.MergeRefIdeal.Refv

namespace Cert.Proof.MergeClaims

open Idealize.ShloMosaic Idealize.ShloMosaic.TcCoe Idealize.SL.Sem Cert.Spec

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run (F := Ideal) m ρ)

theorem algebraic : Cert.algebraic_MergeIdeal_MergeRefIdeal := fun m ρ m' ρ' _ hag =>
  ⟨fun c => (Cert.MergeIdeal.Gen.dats m 0 c).arrAt 13 Cert.MergeIdeal.cfg0.N, fun c => (Cert.MergeIdeal.Gen.dats m 0 c).arrAt 14 Cert.MergeIdeal.cfg0.N,
    Cert.MergeIdeal.Value.run_blocks m ρ,
    (θ_run Cert.MergeRefIdeal.defs _ _).mono (fun r h c => by
      obtain ⟨e0, e1, e2, e3, e4, e5, e6, e7, e8, e9, e10⟩ := hag c
      refine ⟨((h c).1.trans (Cert.MergeRefIdeal.Read.val_main_v47_eq ..)).trans ?_, ((h c).2.1.trans (Cert.MergeRefIdeal.Read.val_main_v66_eq ..)).trans ?_, (h c).2.2⟩
      · rw [e0, e1, e2, e3, e4, e5, e7, e8, e9, e10]
        exact Cert.Windows.ext2 fun a n => (Cert.MergeRefIdeal.Refv.residual_apply _ _ _ _ _ _ _ _ _ _ a n).trans (Cert.MergeIdeal.Arr.resid_final m c a n).symm
      · rw [e0, e1, e2, e3, e4, e5, e6, e7, e8, e9, e10]
        refine Cert.Windows.ext2 fun a n => ?_
        refine (Cert.MergeRefIdeal.Refv.hidden_apply _ _ _ _ _ _ _ _ _ _ _ a n).trans ?_
        refine .trans ?_ (Cert.MergeIdeal.Arr.hidden_final m c a n).symm
        exact congrArg (fun x => modRow x _ _ _ n) (funext fun k => Cert.MergeRefIdeal.Refv.residual_apply _ _ _ _ _ _ _ _ _ _ a k))
      (Cert.MergeRefIdeal.Value.run m' ρ')⟩

end Cert.Proof.MergeClaims

end
-- ==== Proof.FfnBlock.lean ====
/-
  The expert call, one block: what the body stores for one expert, read at a slot and a channel.
-/
module

public import proofs.«01_k».proof.Proof.Gen.FfnIdeal.Skeleton
public import proofs.«01_k».proof.Proof.Spec

@[expose] public section

set_option maxRecDepth 16384

noncomputable section

namespace Cert.FfnIdeal.Block

open Cert.FfnIdeal Cert.FfnIdeal.Gen Cert.Spec Idealize.ShloMosaic

/-- Lane `f` of the 512 finds its gate in lane `f mod 128`: the gate block is laid four times side by side. -/
def lane (f : Fin 512) : Fin 128 := ⟨f.val % 128, Nat.mod_lt _ (by decide)⟩

/-- Reading four copies of one 128-lane row laid side by side is reading the row at the lane modulo 128. -/
theorem four_copies (g : Fin 128 → EReal) (f : Fin 512) :
    (if h : f.val < 128 then g ⟨f.val, h⟩ else
      if h : f.val - 128 < 128 then g ⟨f.val - 128, h⟩ else
        if h : f.val - 128 - 128 < 128 then g ⟨f.val - 128 - 128, h⟩ else
          g ⟨f.val - 128 - 128 - 128, by have := f.isLt; omega⟩) = g (lane f) := by
  have := f.isLt
  split_ifs <;> exact congrArg g (Fin.ext (by simp only [lane]; omega))

/-- The sample's block: each slot's gated pair, times its gate, through the down projection. -/
theorem sample_apply (w1 w2 : FVec Ideal S1x1024x512 .f32) (w3 : FVec Ideal S1x512x1024 .f32)
    (x : Vec Ideal S8x1x128x1024 .bf16) (g : Vec Ideal S8x1x128x128 .f32) (b : Fin 8) (c : Fin 128) (n : Fin 1024) :
    k0_pay2 (k0_pay3 w1) (k0_pay4 w2) (k0_pay5 w3) x g (ix4 b 0 c n)
      = ∑ f : Fin 512, gatedUp (fun k => x (ix4 b 0 c k)) (fun k => w1 (ix3 0 k f)) (fun k => w2 (ix3 0 k f))
          * g (ix4 b 0 c (lane f)) * w3 (ix3 0 f n) := by
  unfold_payloads
  pointwise [dot_S1024x1024_S1024x512_S1024x512_1_0_0_1_n_n, dot_S1024x512_S512x1024_S1024x1024_1_0_0_1_n_n]
  refine Finset.sum_congr rfl fun f _ => ?_
  rw [← four_copies (fun l => g (ix4 b 0 c l)) f]
  simp only [gatedUp, sigmoid, zero_sub]

/-- The prompt's block: the same. -/
theorem prompt_apply (w1 w2 : FVec Ideal S1x1024x512 .f32) (w3 : FVec Ideal S1x512x1024 .f32)
    (x : Vec Ideal S16x1x32x1024 .bf16) (g : Vec Ideal S16x1x32x128 .f32) (b : Fin 16) (c : Fin 32) (n : Fin 1024) :
    k0_pay1 (k0_pay6 w1 w2 w3 x g) (ix4 b 0 c n)
      = ∑ f : Fin 512, gatedUp (fun k => x (ix4 b 0 c k)) (fun k => w1 (ix3 0 k f)) (fun k => w2 (ix3 0 k f))
          * g (ix4 b 0 c (lane f)) * w3 (ix3 0 f n) := by
  unfold_payloads
  pointwise [dot_S512x1024_S1024x512_S512x512_1_0_0_1_n_n, dot_S512x512_S512x1024_S512x1024_1_0_0_1_n_n]
  refine Finset.sum_congr rfl fun f _ => ?_
  rw [← four_copies (fun l => g (ix4 b 0 c l)) f]
  simp only [gatedUp, sigmoid, zero_sub]

end Cert.FfnIdeal.Block

end
-- ==== Proof.FfnArray.lean ====
/-
  The expert call, the arrays: the two results after the run, element by element, as functions of the arguments.
  Expert `e` runs at grid point `e`, and its blocks are the expert axis cut at `e`.
-/
module

public import proofs.«01_k».proof.Proof.Gen.FfnIdeal.Value
public import proofs.«01_k».proof.Proof.FfnBlock
public import proofs.«01_k».proof.Proof.Windows

@[expose] public section

set_option maxRecDepth 16384

noncomputable section

namespace Cert.FfnIdeal.Arr

open Cert.FfnIdeal Cert.FfnIdeal.Gen Cert.FfnIdeal.Block Cert.Spec Cert.Windows Idealize.ShloMosaic Idealize.ShloMosaic.TcCoe
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The grid point at which expert `e` runs. -/
def pt (e : Fin 16) : Fin cfg0.N := ⟨e.val, by have h : cfg0.N = 16 := N_0; omega⟩

/-- Where the windows stand at point `t`: the token windows at expert `t`, … -/
theorem idx4 : ∀ t : Fin cfg0.N,
    (win0_0.index t = ![0, t.val, 0, 0] ∧ win0_1.index t = ![0, t.val, 0, 0] ∧ win0_2.index t = ![0, t.val, 0, 0])
      ∧ (win0_3.index t = ![0, t.val, 0, 0] ∧ win0_7.index t = ![0, t.val, 0, 0] ∧ win0_8.index t = ![0, t.val, 0, 0]) :=
  (by decide +kernel : ∀ t : Fin grid0.N,
    (win0_0.index t = ![0, t.val, 0, 0] ∧ win0_1.index t = ![0, t.val, 0, 0] ∧ win0_2.index t = ![0, t.val, 0, 0])
      ∧ (win0_3.index t = ![0, t.val, 0, 0] ∧ win0_7.index t = ![0, t.val, 0, 0] ∧ win0_8.index t = ![0, t.val, 0, 0]))

/-- … and the weight windows at expert `t`. -/
theorem idx3 : ∀ t : Fin cfg0.N,
    win0_4.index t = ![t.val, 0, 0] ∧ win0_5.index t = ![t.val, 0, 0] ∧ win0_6.index t = ![t.val, 0, 0] :=
  (by decide +kernel : ∀ t : Fin grid0.N,
    win0_4.index t = ![t.val, 0, 0] ∧ win0_5.index t = ![t.val, 0, 0] ∧ win0_6.index t = ![t.val, 0, 0])

/-- Element `(b, 0, s, n)` of result window 7's block at expert `e` is element `(b, e, s, n)` of the array. -/
theorem emb7 (e : Fin 16) (b : Fin 16) (s : Fin 32) (n : Fin 1024) : (win0_7.rect (pt e)).emb (ix4 b 0 s n) = ix4 b e s n :=
  place4 (win0_7.rect_emb_val (pt e) _) (idx4 (pt e)).2.2.1 (first _ _) (Nat.mul_one _) (first _ _) (first _ _)

/-- Element `(b, 0, s, n)` of result window 8's block at expert `e` is element `(b, e, s, n)` of the array. -/
theorem emb8 (e : Fin 16) (b : Fin 8) (s : Fin 128) (n : Fin 1024) : (win0_8.rect (pt e)).emb (ix4 b 0 s n) = ix4 b e s n :=
  place4 (win0_8.rect_emb_val (pt e) _) (idx4 (pt e)).2.2.2 (first _ _) (Nat.mul_one _) (first _ _) (first _ _)

/-! The input blocks: the arguments cut at expert `e`. -/

theorem blk0 (c : Dev nD) (e : Fin 16) (b : Fin 16) (s : Fin 32) (n : Fin 1024) :
    iblk m c 0 (pt e) (ix4 b 0 s n) = m ((c : Thread nD τ).loc main_arg0) (ix4 b e s n) :=
  congrArg (m ((c : Thread nD τ).loc main_arg0)) (place4 (win0_0.rect_emb_val (pt e) _) (idx4 (pt e)).1.1 (first _ _) (Nat.mul_one _) (first _ _) (first _ _))

theorem blk1 (c : Dev nD) (e : Fin 16) (b : Fin 16) (s : Fin 32) (n : Fin 128) :
    iblk m c 1 (pt e) (ix4 b 0 s n) = m ((c : Thread nD τ).loc main_arg1) (ix4 b e s n) :=
  congrArg (m ((c : Thread nD τ).loc main_arg1)) (place4 (win0_1.rect_emb_val (pt e) _) (idx4 (pt e)).1.2.1 (first _ _) (Nat.mul_one _) (first _ _) (first _ _))

theorem blk2 (c : Dev nD) (e : Fin 16) (b : Fin 8) (s : Fin 128) (n : Fin 1024) :
    iblk m c 2 (pt e) (ix4 b 0 s n) = m ((c : Thread nD τ).loc main_arg2) (ix4 b e s n) :=
  congrArg (m ((c : Thread nD τ).loc main_arg2)) (place4 (win0_2.rect_emb_val (pt e) _) (idx4 (pt e)).1.2.2 (first _ _) (Nat.mul_one _) (first _ _) (first _ _))

theorem blk3 (c : Dev nD) (e : Fin 16) (b : Fin 8) (s : Fin 128) (n : Fin 128) :
    iblk m c 3 (pt e) (ix4 b 0 s n) = m ((c : Thread nD τ).loc main_arg3) (ix4 b e s n) :=
  congrArg (m ((c : Thread nD τ).loc main_arg3)) (place4 (win0_3.rect_emb_val (pt e) _) (idx4 (pt e)).2.1 (first _ _) (Nat.mul_one _) (first _ _) (first _ _))

theorem blk4 (c : Dev nD) (e : Fin 16) (s : Fin 1024) (n : Fin 512) :
    iblk m c 4 (pt e) (ix3 0 s n) = m ((c : Thread nD τ).loc main_arg4) (ix3 e s n) :=
  congrArg (m ((c : Thread nD τ).loc main_arg4)) (place3 (win0_4.rect_emb_val (pt e) _) (idx3 (pt e)).1 (Nat.mul_one _) (first _ _) (first _ _))

theorem blk5 (c : Dev nD) (e : Fin 16) (s : Fin 1024) (n : Fin 512) :
    iblk m c 5 (pt e) (ix3 0 s n) = m ((c : Thread nD τ).loc main_arg5) (ix3 e s n) :=
  congrArg (m ((c : Thread nD τ).loc main_arg5)) (place3 (win0_5.rect_emb_val (pt e) _) (idx3 (pt e)).2.1 (Nat.mul_one _) (first _ _) (first _ _))

theorem blk6 (c : Dev nD) (e : Fin 16) (s : Fin 512) (n : Fin 1024) :
    iblk m c 6 (pt e) (ix3 0 s n) = m ((c : Thread nD τ).loc main_arg6) (ix3 e s n) :=
  congrArg (m ((c : Thread nD τ).loc main_arg6)) (place3 (win0_6.rect_emb_val (pt e) _) (idx3 (pt e)).2.2 (Nat.mul_one _) (first _ _) (first _ _))

/-- The block of result 0 written at point `t` is what the array holds there after the run. -/
theorem block7 (c : Dev nD) (t : Fin cfg0.N) (y : S16x1x32x1024.Idx) :
    (dats m 0 c).arrAt 7 cfg0.N ((win0_7.rect t).emb y)
      = out0_7 (iblk m c 0 t) (iblk m c 1 t) (iblk m c 2 t) (iblk m c 3 t) (iblk m c 4 t) (iblk m c 5 t) (iblk m c 6 t) y :=
  congrFun ((Value.blocks7 m c t (flush0_7 _)).trans (Value.flushed7 m c t)) y

/-- The prompt's result at batch entry `b`, expert `e`, slot `s`, channel `n`. -/
theorem prompt_final (c : Dev nD) (e : Fin 16) (b : Fin 16) (s : Fin 32) (n : Fin 1024) :
    (dats m 0 c).arrAt 7 cfg0.N (ix4 b e s n)
      = ∑ f : Fin 512, gatedUp (fun k => m ((c : Thread nD τ).loc main_arg0) (ix4 b e s k))
            (fun k => m ((c : Thread nD τ).loc main_arg4) (ix3 e k f)) (fun k => m ((c : Thread nD τ).loc main_arg5) (ix3 e k f))
          * m ((c : Thread nD τ).loc main_arg1) (ix4 b e s (lane f)) * m ((c : Thread nD τ).loc main_arg6) (ix3 e f n) := by
  rw [← emb7 e b s n, block7]
  unfold out0_7
  rw [View.canon_unit_zero hz4, View.ld_unit_zero hz3, View.ld_unit_zero hz3, View.ld_unit_zero hz3, View.ld_unit_zero hz4,
    View.ld_unit_zero hz4]
  refine (prompt_apply _ _ _ _ _ b s n).trans ?_
  simp only [blk0, blk1, blk4, blk5, blk6]

/-- The block of result 1 written at point `t` is what the array holds there after the run. -/
theorem block8 (c : Dev nD) (t : Fin cfg0.N) (y : S8x1x128x1024.Idx) :
    (dats m 0 c).arrAt 8 cfg0.N ((win0_8.rect t).emb y)
      = out0_8 (iblk m c 0 t) (iblk m c 1 t) (iblk m c 2 t) (iblk m c 3 t) (iblk m c 4 t) (iblk m c 5 t) (iblk m c 6 t) y :=
  congrFun ((Value.blocks8 m c t (flush0_8 _)).trans (Value.flushed8 m c t)) y

/-- The sample's result at batch entry `b`, expert `e`, slot `s`, channel `n`. -/
theorem sample_final (c : Dev nD) (e : Fin 16) (b : Fin 8) (s : Fin 128) (n : Fin 1024) :
    (dats m 0 c).arrAt 8 cfg0.N (ix4 b e s n)
      = ∑ f : Fin 512, gatedUp (fun k => m ((c : Thread nD τ).loc main_arg2) (ix4 b e s k))
            (fun k => m ((c : Thread nD τ).loc main_arg4) (ix3 e k f)) (fun k => m ((c : Thread nD τ).loc main_arg5) (ix3 e k f))
          * m ((c : Thread nD τ).loc main_arg3) (ix4 b e s (lane f)) * m ((c : Thread nD τ).loc main_arg6) (ix3 e f n) := by
  rw [← emb8 e b s n, block8]
  unfold out0_8
  rw [View.canon_unit_zero hz4, View.ld_unit_zero hz3, View.ld_unit_zero hz3, View.ld_unit_zero hz3, View.ld_unit_zero hz4,
    View.ld_unit_zero hz4]
  refine (sample_apply _ _ _ _ _ b s n).trans ?_
  simp only [blk2, blk3, blk4, blk5, blk6]

end Cert.FfnIdeal.Arr

end
-- ==== Proof.FfnRef.lean ====
/-
  The expert call's reference, read at an index, and what the precondition says of the gates: the gate of a slot is one
  finite number, not negative, in all its lanes.
-/
module

public import proofs.«01_k».proof.Proof.Gen.FfnRefIdeal.Read
public import proofs.«01_k».proof.Proof.Gen.Pre_gates_spread
public import proofs.«01_k».proof.Proof.Spec
public import proofs.«01_k».proof.Proof.Bits

@[expose] public section

set_option maxRecDepth 16384

noncomputable section

namespace Cert.FfnRefIdeal.Refv

open Cert.FfnRefIdeal Cert.FfnRefIdeal.Read Cert.Spec Idealize.ShloMosaic

theorem prompt_apply (x0 : (⟨S16x16x32x1024, .bf16⟩ : BufTy).Contents (Elt Ideal)) (x1 : (⟨S16x16x32x128, .f32⟩ : BufTy).Contents (Elt Ideal))
    (x4 x5 : (⟨S16x1024x512, .f32⟩ : BufTy).Contents (Elt Ideal)) (x6 : (⟨S16x512x1024, .f32⟩ : BufTy).Contents (Elt Ideal))
    (b : Fin 16) (e : Fin 16) (s : Fin 32) (n : Fin 1024) :
    val_main_v14 (F := Ideal) x0 x1 x4 x5 x6 (ix4 b e s n)
      = (∑ f : Fin 512, gatedUp (fun k => x0 (ix4 b e s k)) (fun k => x4 (ix3 e k f)) (fun k => x5 (ix3 e k f)) * x6 (ix3 e f n))
          * x1 (ix4 b e s 0) := by
  pointwise [val_main_v0, val_main_v1, val_main_v2, val_main_v3, val_main_v4, val_main_v5, val_main_v6, val_main_call0_v0, val_main_call0_v1, val_main_call0_cst, val_main_call0_v2, val_main_call0_v3, val_main_call0_cst_0, val_main_call0_v4, val_main_call0_v5, val_main_v7, val_main_v8, val_main_v9, val_main_v10, val_main_v11, val_main_v12, val_main_v13, val_main_v14, val_main_v15, val_main_v16, val_main_v17, val_main_v18, val_main_v19, val_main_v20, val_main_v21, val_main_call1_v0, val_main_call1_v1, val_main_call1_cst, val_main_call1_v2, val_main_call1_v3, val_main_call1_cst_0, val_main_call1_v4, val_main_call1_v5, val_main_v22, val_main_v23, val_main_v24, val_main_v25, val_main_v26, val_main_v27, val_main_v28, val_main_v29, dot_S16x1024x512_S16x16x32x1024_S16x512x16x32_1_3_2_02_0_1, dot_S16x512x1024_S16x16x32x512_S16x1024x16x32_1_3_2_02_0_1, dot_S16x1024x512_S8x16x128x1024_S16x512x8x128_1_3_2_02_0_1, dot_S16x512x1024_S8x16x128x512_S16x1024x8x128_1_3_2_02_0_1]
  refine congrArg (· * _) (Finset.sum_congr rfl fun f _ => ?_)
  rw [mul_comm]
  simp only [gatedUp, sigmoid, mul_comm (x4 _), mul_comm (x5 _)]

theorem sample_apply (x2 : (⟨S8x16x128x1024, .bf16⟩ : BufTy).Contents (Elt Ideal)) (x3 : (⟨S8x16x128x128, .f32⟩ : BufTy).Contents (Elt Ideal))
    (x4 x5 : (⟨S16x1024x512, .f32⟩ : BufTy).Contents (Elt Ideal)) (x6 : (⟨S16x512x1024, .f32⟩ : BufTy).Contents (Elt Ideal))
    (b : Fin 8) (e : Fin 16) (s : Fin 128) (n : Fin 1024) :
    val_main_v29 (F := Ideal) x2 x3 x4 x5 x6 (ix4 b e s n)
      = (∑ f : Fin 512, gatedUp (fun k => x2 (ix4 b e s k)) (fun k => x4 (ix3 e k f)) (fun k => x5 (ix3 e k f)) * x6 (ix3 e f n))
          * x3 (ix4 b e s 0) := by
  pointwise [val_main_v0, val_main_v1, val_main_v2, val_main_v3, val_main_v4, val_main_v5, val_main_v6, val_main_call0_v0, val_main_call0_v1, val_main_call0_cst, val_main_call0_v2, val_main_call0_v3, val_main_call0_cst_0, val_main_call0_v4, val_main_call0_v5, val_main_v7, val_main_v8, val_main_v9, val_main_v10, val_main_v11, val_main_v12, val_main_v13, val_main_v14, val_main_v15, val_main_v16, val_main_v17, val_main_v18, val_main_v19, val_main_v20, val_main_v21, val_main_call1_v0, val_main_call1_v1, val_main_call1_cst, val_main_call1_v2, val_main_call1_v3, val_main_call1_cst_0, val_main_call1_v4, val_main_call1_v5, val_main_v22, val_main_v23, val_main_v24, val_main_v25, val_main_v26, val_main_v27, val_main_v28, val_main_v29, dot_S16x1024x512_S16x16x32x1024_S16x512x16x32_1_3_2_02_0_1, dot_S16x512x1024_S16x16x32x512_S16x1024x16x32_1_3_2_02_0_1, dot_S16x1024x512_S8x16x128x1024_S16x512x8x128_1_3_2_02_0_1, dot_S16x512x1024_S8x16x128x512_S16x1024x8x128_1_3_2_02_0_1]
  refine congrArg (· * _) (Finset.sum_congr rfl fun f _ => ?_)
  rw [mul_comm]
  simp only [gatedUp, sigmoid, mul_comm (x4 _), mul_comm (x5 _)]

end Cert.FfnRefIdeal.Refv

namespace Cert.Pre_gates_spread

open Idealize.ShloMosaic Cert.Spec

variable (x0 : FVec Ideal S16x16x32x1024 .bf16) (x1 : FVec Ideal S16x16x32x128 .f32) (x2 : FVec Ideal S8x16x128x1024 .bf16)
  (x3 : FVec Ideal S8x16x128x128 .f32) (x4 x5 : FVec Ideal S16x1024x512 .f32) (x6 : FVec Ideal S16x512x1024 .f32)

/-- What `gates_spread` says of the prompt's gates. -/
theorem prompt_gates (h : (fn (F := Ideal) x0 x1 x2 x3 x4 x5 x6).1 = fun _ => 1#1) (b : Fin 16) (e : Fin 16) (s : Fin 32) (l : Fin 128) :
    x1 (ix4 b e s l) = x1 (ix4 b e s 0) ∧ 0 ≤ x1 (ix4 b e s l) ∧ x1 (ix4 b e s l) < ⊤ := by
  have h1 := congrFun h (ix4 b e s l)
  revert h1
  unfold fn
  pointwise [inf_lit, andi_one, flag_one]
  exact fun h1 => ⟨h1.1.1, h1.1.2, h1.2⟩

/-- What `gates_spread` says of the sample's gates. -/
theorem sample_gates (h : (fn (F := Ideal) x0 x1 x2 x3 x4 x5 x6).2 = fun _ => 1#1) (b : Fin 8) (e : Fin 16) (s : Fin 128) (l : Fin 128) :
    x3 (ix4 b e s l) = x3 (ix4 b e s 0) ∧ 0 ≤ x3 (ix4 b e s l) ∧ x3 (ix4 b e s l) < ⊤ := by
  have h1 := congrFun h (ix4 b e s l)
  revert h1
  unfold fn
  pointwise [inf_lit, andi_one, flag_one]
  exact fun h1 => ⟨h1.1.1, h1.1.2, h1.2⟩

end Cert.Pre_gates_spread

end
-- ==== Proof.FfnClaim.lean ====
/-
  The expert call's claims: the kernel's arrays are the reference's. A slot's gate is the same finite number in every
  lane, so multiplying the hidden lanes by it is multiplying the projected sum by it.
-/
module

public import proofs.«01_k».proof.Defs
public import proofs.«01_k».proof.Proof.FfnArray
public import proofs.«01_k».proof.Proof.FfnRef
public import proofs.«01_k».proof.Proof.Gen.Ffn.Frame
public import proofs.«01_k».proof.Proof.Gen.FfnRefIdeal.Run
public import Idealize.ShloMosaic.Lib.Quiescent

@[expose] public section

set_option maxRecDepth 16384

noncomputable section

namespace Cert.Proof.FfnClaims

open Idealize.ShloMosaic Idealize.ShloMosaic.TcCoe Idealize.SL.Sem Cert.Spec

/-- Gates inside the down projection or after it: the same, where the gate is one finite number, not negative. -/
theorem gate_out (u : Fin 512 → EReal) (g : Fin 128 → EReal) (w : Fin 512 → EReal)
    (h : ∀ l, g l = g 0 ∧ 0 ≤ g l ∧ g l < ⊤) :
    (∑ f : Fin 512, u f * g (FfnIdeal.Block.lane f) * w f) = (∑ f : Fin 512, u f * w f) * g 0 := by
  rw [sum_mul_of_nonneg _ _ _ (h 0).2.1 (h 0).2.2]
  refine Finset.sum_congr rfl fun f _ => ?_
  rw [(h _).1, mul_right_comm]

theorem frame_p : Cert.quiescent_Ffn := fun m ρ _ => Cert.Ffn.Gen.frame m ρ
theorem frame_pi : Cert.quiescent_FfnIdeal := fun m ρ _ => Cert.FfnIdeal.Gen.frame m ρ
theorem frame_pi_pre : Cert.quiescent_FfnIdeal_pre_gates_spread := fun m ρ _ => Cert.FfnIdeal.Gen.frame m ρ
theorem frame_ri : Cert.quiescent_FfnRefIdeal := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)
theorem frame_ri_pre : Cert.quiescent_FfnRefIdeal_pre_gates_spread := fun m ρ _ => frame_ri m ρ trivial

theorem algebraic : Cert.algebraic_FfnIdeal_FfnRefIdeal_pre_gates_spread := fun m ρ m' ρ' hpre hag =>
  ⟨fun c => (Cert.FfnIdeal.Gen.dats m 0 c).arrAt 7 Cert.FfnIdeal.cfg0.N, fun c => (Cert.FfnIdeal.Gen.dats m 0 c).arrAt 8 Cert.FfnIdeal.cfg0.N,
    Cert.FfnIdeal.Value.run_blocks m ρ,
    (θ_run Cert.FfnRefIdeal.defs _ _).mono (fun r h c => by
      obtain ⟨e0, e1, e2, e3, e4, e5, e6⟩ := hag c
      refine ⟨((h c).1.trans (Cert.FfnRefIdeal.Read.val_main_v14_eq ..)).trans ?_, ((h c).2.1.trans (Cert.FfnRefIdeal.Read.val_main_v29_eq ..)).trans ?_, (h c).2.2⟩
      · rw [e0, e1, e4, e5, e6]
        funext i
        obtain ⟨b, e, s, n, rfl⟩ : ∃ b e s n, i = ix4 b e s n := ⟨_, _, _, _, eq_ix4 i⟩
        refine (Cert.FfnRefIdeal.Refv.prompt_apply _ _ _ _ _ b e s n).trans ?_
        refine .trans ?_ (Cert.FfnIdeal.Arr.prompt_final m c e b s n).symm
        exact (gate_out _ (fun l => m (c.tc.loc Cert.FfnIdeal.main_arg1) (ix4 b e s l)) _
          (Cert.Pre_gates_spread.prompt_gates _ _ _ _ _ _ _ (hpre c).1 b e s)).symm
      · rw [e2, e3, e4, e5, e6]
        funext i
        obtain ⟨b, e, s, n, rfl⟩ : ∃ b e s n, i = ix4 b e s n := ⟨_, _, _, _, eq_ix4 i⟩
        refine (Cert.FfnRefIdeal.Refv.sample_apply _ _ _ _ _ b e s n).trans ?_
        refine .trans ?_ (Cert.FfnIdeal.Arr.sample_final m c e b s n).symm
        exact (gate_out _ (fun l => m (c.tc.loc Cert.FfnIdeal.main_arg3) (ix4 b e s l)) _
          (Cert.Pre_gates_spread.sample_gates _ _ _ _ _ _ _ (hpre c).2 b e s)).symm)
      (Cert.FfnRefIdeal.Value.run m' ρ')⟩

end Cert.Proof.FfnClaims

end
-- ==== Proof.ModulationClaim.lean ====
/-
  The modulation's call: every layer's shifts, scales and gates, from the conditions. Grid point `6 l + j` computes columns
  `1024 j …` of layer `l`, for all conditions. Both sides take the same sums of the same products, so nothing is asked of
  the arguments.
-/
module

public import proofs.«01_k».proof.Defs
public import proofs.«01_k».proof.Proof.Windows
public import proofs.«01_k».proof.Proof.Spec
public import proofs.«01_k».proof.Proof.Gen.Modulation.Frame
public import proofs.«01_k».proof.Proof.Gen.ModulationIdeal.Value
public import proofs.«01_k».proof.Proof.Gen.ModulationRefIdeal.Run
public import proofs.«01_k».proof.Proof.Gen.ModulationRefIdeal.Read
public import Idealize.ShloMosaic.Lib.Pointwise
public import Idealize.ShloMosaic.Lib.Pointwise.Tactic
public import Idealize.ShloMosaic.Lib.Quiescent
public import Idealize.ShloMosaic.Lib.StableHlo.ReadAt

@[expose] public section

set_option maxRecDepth 16384

noncomputable section

namespace Cert.Spec

/-- One number of the modulation: the condition through `silu`, projected, and the bias. -/
def modulate (x w : Fin 1024 → EReal) (b : EReal) : EReal := (∑ k, x k * sigmoid (x k) * w k) + b

end Cert.Spec

namespace Cert.ModulationIdeal.Arr

open Cert.ModulationIdeal Cert.ModulationIdeal.Gen Cert.Windows Cert.Spec Idealize.ShloMosaic Idealize.ShloMosaic.TcCoe

/-! ## One block -/

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S16x1024 .f32) : View.ld x r0_0 = x := View.ld_unit_zero hz2 _ x
theorem ld1 (x : Vec Ideal S1x1024x1024 .f32) : View.ld x r0_1 = x := View.ld_unit_zero hz3 _ x
theorem ld2 (x : Vec Ideal S1x1x1024 .f32) : View.ld x r0_2 = x := View.ld_unit_zero hz3 _ x

theorem pay_apply (x : Vec Ideal S16x1024 .f32) (w : Vec Ideal S1x1024x1024 .f32) (b : Vec Ideal S1x1x1024 .f32) (r : Fin 16) (n : Fin 1024) :
    k0_pay1 (F := Ideal) x w b (ix3 0 r n) = modulate (fun k => x (ix2 r k)) (fun k => w (ix3 0 k n)) (b (ix3 0 0 n)) := by
  unfold_payloads
  pointwise [dot_S16x1024_S1024x1024_S16x1024_1_0_0_1_n_n, zero_sub]
  rfl

theorem out_apply (x : Vec Ideal S16x1024 .f32) (w : Vec Ideal S1x1024x1024 .f32) (b : Vec Ideal S1x1x1024 .f32) (r : Fin 16) (n : Fin 1024) :
    out0_3 (F := Ideal) x w b (ix3 0 r n) = modulate (fun k => x (ix2 r k)) (fun k => w (ix3 0 k n)) (b (ix3 0 0 n)) := by
  unfold out0_3
  rw [View.canon_unit_zero hz3]
  simp only [ld0, ld1, ld2]
  exact pay_apply x w b r n

/-! ## The array -/

variable (m : (ℓ : Loc nD τ sig) → Buf (Elt Ideal) ℓ)

/-- Where the windows stand at point `t`. -/
theorem idx : ∀ t : Fin cfg0.N,
    (win0_0.index t = ![0, 0] ∧ win0_1.index t = ![t.val / 6, 0, t.val % 6])
      ∧ (win0_2.index t = ![t.val / 6, 0, t.val % 6] ∧ win0_3.index t = ![t.val / 6, 0, t.val % 6]) :=
  (by decide +kernel : ∀ t : Fin grid0.N,
    (win0_0.index t = ![0, 0] ∧ win0_1.index t = ![t.val / 6, 0, t.val % 6])
      ∧ (win0_2.index t = ![t.val / 6, 0, t.val % 6] ∧ win0_3.index t = ![t.val / 6, 0, t.val % 6]))

theorem lt_N (t : Fin cfg0.N) : t.val < 12 := lt_of_lt_of_eq t.isLt N_0

/-- The layer of point `t`. -/
def layer (t : Fin cfg0.N) : Fin 2 := ⟨t.val / 6, by have := lt_N t; omega⟩

/-- Column `n` of the block of point `t`, in the array. -/
def col (t : Fin cfg0.N) (n : Fin 1024) : Fin 6144 := ⟨t.val % 6 * 1024 + n.val, by omega⟩

theorem emb3 (t : Fin cfg0.N) (r : Fin 16) (n : Fin 1024) : (win0_3.rect t).emb (ix3 0 r n) = ix3 (layer t) r (col t n) :=
  place3 (win0_3.rect_emb_val t _) (idx t).2.2 (Nat.mul_one _) (first _ _) rfl

theorem blk0 (c : Dev nD) (t : Fin cfg0.N) (r : Fin 16) (k : Fin 1024) :
    iblk m c 0 t (ix2 r k) = m ((c : Thread nD τ).loc main_arg0) (ix2 r k) := by
  show V m c main_arg0 ((win0_0.rect t).emb (ix2 r k)) = _
  rw [V_main_arg0]
  exact congrArg _ (place2 (win0_0.rect_emb_val t _) (idx t).1.1 (first _ _) (first _ _))

theorem blk1 (c : Dev nD) (t : Fin cfg0.N) (k n : Fin 1024) :
    iblk m c 1 t (ix3 0 k n) = m ((c : Thread nD τ).loc main_arg1) (ix3 (layer t) k (col t n)) := by
  show V m c main_arg1 ((win0_1.rect t).emb (ix3 0 k n)) = _
  rw [V_main_arg1]
  exact congrArg _ (place3 (win0_1.rect_emb_val t _) (idx t).1.2 (Nat.mul_one _) (first _ _) rfl)

/-- The bias, as the host lays it out before the call. -/
theorem bias_at (c : Dev nD) (l : Fin 2) (n : Fin 6144) : V m c main_v0 (ix3 l 0 n) = m ((c : Thread nD τ).loc main_arg2) (ix2 l n) := by
  unfold V
  simp only [hostOps0, List.flatten_cons, List.flatten_nil, List.append_nil, List.cons_append, List.nil_append]
  after_reads_at

theorem blk2 (c : Dev nD) (t : Fin cfg0.N) (n : Fin 1024) :
    iblk m c 2 t (ix3 0 0 n) = m ((c : Thread nD τ).loc main_arg2) (ix2 (layer t) (col t n)) :=
  (congrArg (V m c main_v0) (place3 (win0_2.rect_emb_val t _) (idx t).2.1 (Nat.mul_one _) rfl rfl)).trans (bias_at m c (layer t) (col t n))

theorem flush3 : ∀ t : Fin cfg0.N, (cfg0.win 3).flush t = true :=
  (by decide +kernel : ∀ t : Fin grid0.N, win0_3.flush t = true)

theorem block3 (c : Dev nD) (t : Fin cfg0.N) (y : S1x16x1024.Idx) :
    (dats m 0 c).arrAt 3 cfg0.N ((win0_3.rect t).emb y) = out0_3 (F := Ideal) (iblk m c 0 t) (iblk m c 1 t) (iblk m c 2 t) y :=
  congrFun ((Value.blocks3 m c t (flush3 t)).trans (Value.flushed3 m c t)) y

/-- The result after the run. -/
theorem final (c : Dev nD) (l : Fin 2) (r : Fin 16) (n : Fin 6144) :
    (dats m 0 c).arrAt 3 cfg0.N (ix3 l r n)
      = modulate (fun k => m ((c : Thread nD τ).loc main_arg0) (ix2 r k)) (fun k => m ((c : Thread nD τ).loc main_arg1) (ix3 l k n))
        (m ((c : Thread nD τ).loc main_arg2) (ix2 l n)) := by
  obtain ⟨t, j, hl, hj⟩ : ∃ (t : Fin cfg0.N) (j : Fin 1024), layer t = l ∧ col t j = n :=
    ⟨⟨l.val * 6 + n.val / 1024, by have h : cfg0.N = 12 := N_0; omega⟩, ⟨n.val % 1024, by omega⟩,
      Fin.ext (show (l.val * 6 + n.val / 1024) / 6 = l.val by omega),
      Fin.ext (show (l.val * 6 + n.val / 1024) % 6 * 1024 + n.val % 1024 = n.val by omega)⟩
  subst hl hj
  rw [← emb3, block3, out_apply]
  simp only [blk0, blk1, blk2]

end Cert.ModulationIdeal.Arr

namespace Cert.ModulationRefIdeal.Refv

open Cert.ModulationRefIdeal Cert.ModulationRefIdeal.Read Cert.Spec Idealize.ShloMosaic

/-- The reference's result. -/
theorem ref_apply (x0 : FVec Ideal S16x1024 .f32) (x1 : FVec Ideal S2x1024x6144 .f32) (x2 : FVec Ideal S2x6144 .f32) (l : Fin 2) (r : Fin 16) (n : Fin 6144) :
    val_main_v5 (F := Ideal) x0 x1 x2 (ix3 l r n) = modulate (fun k => x0 (ix2 r k)) (fun k => x1 (ix3 l k n)) (x2 (ix2 l n)) := by
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, dot_S2x1024x6144_S16x1024_S2x6144x16_1_1_02_0_n_n]
  exact congrArg (· + x2 (ix2 l n)) (Finset.sum_congr rfl fun k _ => mul_comm _ _)

end Cert.ModulationRefIdeal.Refv

namespace Cert.Proof.ModulationClaims

open Idealize.ShloMosaic Idealize.ShloMosaic.TcCoe Idealize.SL.Sem Cert.Spec

theorem frame_p : Cert.quiescent_Modulation := fun m ρ _ => Cert.Modulation.Gen.frame m ρ
theorem frame_pi : Cert.quiescent_ModulationIdeal := fun m ρ _ => Cert.ModulationIdeal.Gen.frame m ρ
theorem frame_ri : Cert.quiescent_ModulationRefIdeal := fun m ρ _ =>
  (θ_run Cert.ModulationRefIdeal.defs _ _).mono (fun r h => ⟨fun c => (h c).2, Idealize.ShloMosaic.sem_eq_zero_of_no_sems (by decide) r.2⟩)
    (Cert.ModulationRefIdeal.Value.run (F := Ideal) m ρ)

theorem algebraic : Cert.algebraic_ModulationIdeal_ModulationRefIdeal := fun m ρ m' ρ' _ hag =>
  ⟨fun c => (Cert.ModulationIdeal.Gen.dats m 0 c).arrAt 3 Cert.ModulationIdeal.cfg0.N, Cert.ModulationIdeal.Value.run_blocks m ρ,
    (θ_run Cert.ModulationRefIdeal.defs _ _).mono (fun r h c => by
      obtain ⟨e0, e1, e2⟩ := hag c
      refine ⟨((h c).1.trans (Cert.ModulationRefIdeal.Read.val_main_v5_eq ..)).trans ?_, (h c).2⟩
      rw [e0, e1, e2]
      exact Cert.Windows.ext3 fun l a n => (Cert.ModulationRefIdeal.Refv.ref_apply _ _ _ l a n).trans (Cert.ModulationIdeal.Arr.final m c l a n).symm)
      (Cert.ModulationRefIdeal.Value.run m' ρ')⟩

end Cert.Proof.ModulationClaims

end
-- ==== Proof.CombineClaim.lean ====
/-
  The combination's call: every token's row plus the gated sum of the experts' results that were routed from it. Grid point
  `2 b + j` computes columns `512 j …` of request `b`. Both sides take the same sums of the same products, so nothing is
  asked of the arguments.
-/
module

public import proofs.«01_k».proof.Defs
public import proofs.«01_k».proof.Proof.Windows
public import proofs.«01_k».proof.Proof.Gen.Combine.Frame
public import proofs.«01_k».proof.Proof.Gen.CombineIdeal.Value
public import proofs.«01_k».proof.Proof.Gen.CombineRefIdeal.Run
public import proofs.«01_k».proof.Proof.Gen.CombineRefIdeal.Read
public import Idealize.ShloMosaic.Lib.Pointwise
public import Idealize.ShloMosaic.Lib.Pointwise.Tactic
public import Idealize.ShloMosaic.Lib.Quiescent

@[expose] public section

set_option maxRecDepth 16384

noncomputable section

namespace Cert.Spec

/-- A token's number plus the gate times the sum of the slots' numbers, each weighed by the slot's entry for the token. -/
def gather {n : Nat} (x g : EReal) (d y : Fin n → EReal) : EReal := x + g * ∑ s, d s * y s

end Cert.Spec

namespace Cert.CombineIdeal.Arr

open Cert.CombineIdeal Cert.CombineIdeal.Gen Cert.Spec Cert.Windows Idealize.ShloMosaic Idealize.ShloMosaic.TcCoe

/-! ## One block -/

theorem hz3 : (![0, 0, 0] : Fin 3 → Nat) = fun _ => 0 := funext fun a => by fin_cases a <;> rfl

theorem ld0 (x : Vec Ideal S1x512x256 .bf16) : View.ld x r0_0 = x := View.ld_unit_zero hz3 _ x
theorem ld1 (x : Vec Ideal S1x512x512 .bf16) : View.ld x r0_1 = x := View.ld_unit_zero hz3 _ x
theorem ld2 (x : Vec Ideal S1x256x512 .f32) : View.ld x r0_2 = x := View.ld_unit_zero hz3 _ x
theorem ld3 (x : Vec Ideal S1x1x512 .f32) : View.ld x r0_3 = x := View.ld_unit_zero hz3 _ x

theorem pay_apply (d : Vec Ideal S1x512x256 .bf16) (y : Vec Ideal S1x512x512 .bf16) (x : Vec Ideal S1x256x512 .f32) (g : Vec Ideal S1x1x512 .f32)
    (i : Fin 256) (n : Fin 512) :
    k0_pay1 (F := Ideal) d y x g (ix3 0 i n) = gather (x (ix3 0 i n)) (g (ix3 0 0 n)) (fun s => d (ix3 0 s i)) (fun s => y (ix3 0 s n)) := by
  unfold_payloads
  pointwise [dot_S512x256_S512x512_S256x512_0_0_1_1_n_n]
  rfl

theorem out_apply (d : Vec Ideal S1x512x256 .bf16) (y : Vec Ideal S1x512x512 .bf16) (x : Vec Ideal S1x256x512 .f32) (g : Vec Ideal S1x1x512 .f32)
    (i : Fin 256) (n : Fin 512) :
    out0_4 (F := Ideal) d y x g (ix3 0 i n) = gather (x (ix3 0 i n)) (g (ix3 0 0 n)) (fun s => d (ix3 0 s i)) (fun s => y (ix3 0 s n)) := by
  unfold out0_4
  rw [View.canon_unit_zero hz3]
  simp only [ld0, ld1, ld2, ld3]
  exact pay_apply d y x g i n

/-! ## The array -/

variable (m : (ℓ : Loc nD τ sig) → Buf (Elt Ideal) ℓ)

/-- Where the windows stand at point `t`. -/
theorem idx : ∀ t : Fin cfg0.N,
    (win0_0.index t = ![t.val / 2, 0, 0] ∧ win0_1.index t = ![t.val / 2, 0, t.val % 2])
      ∧ (win0_2.index t = ![t.val / 2, 0, t.val % 2] ∧ win0_3.index t = ![0, 0, t.val % 2] ∧ win0_4.index t = ![t.val / 2, 0, t.val % 2]) :=
  (by decide +kernel : ∀ t : Fin grid0.N,
    (win0_0.index t = ![t.val / 2, 0, 0] ∧ win0_1.index t = ![t.val / 2, 0, t.val % 2])
      ∧ (win0_2.index t = ![t.val / 2, 0, t.val % 2] ∧ win0_3.index t = ![0, 0, t.val % 2] ∧ win0_4.index t = ![t.val / 2, 0, t.val % 2]))

theorem lt_N (t : Fin cfg0.N) : t.val < 32 := lt_of_lt_of_eq t.isLt N_0

/-- The request of point `t`. -/
def request (t : Fin cfg0.N) : Fin 16 := ⟨t.val / 2, by have := lt_N t; omega⟩

/-- Column `n` of the block of point `t`, in the array. -/
def col (t : Fin cfg0.N) (n : Fin 512) : Fin 1024 := ⟨t.val % 2 * 512 + n.val, by omega⟩

theorem emb4 (t : Fin cfg0.N) (i : Fin 256) (n : Fin 512) : (win0_4.rect t).emb (ix3 0 i n) = ix3 (request t) i (col t n) :=
  place3 (win0_4.rect_emb_val t _) (idx t).2.2.2 (Nat.mul_one _) (first _ _) rfl

theorem blk0 (c : Dev nD) (t : Fin cfg0.N) (s : Fin 512) (i : Fin 256) :
    iblk m c 0 t (ix3 0 s i) = m ((c : Thread nD τ).loc main_arg0) (ix3 (request t) s i) :=
  congrArg (m ((c : Thread nD τ).loc main_arg0)) (place3 (win0_0.rect_emb_val t _) (idx t).1.1 (Nat.mul_one _) (first _ _) (first _ _))

theorem blk1 (c : Dev nD) (t : Fin cfg0.N) (s n : Fin 512) :
    iblk m c 1 t (ix3 0 s n) = m ((c : Thread nD τ).loc main_arg1) (ix3 (request t) s (col t n)) :=
  congrArg (m ((c : Thread nD τ).loc main_arg1)) (place3 (win0_1.rect_emb_val t _) (idx t).1.2 (Nat.mul_one _) (first _ _) rfl)

theorem blk2 (c : Dev nD) (t : Fin cfg0.N) (i : Fin 256) (n : Fin 512) :
    iblk m c 2 t (ix3 0 i n) = m ((c : Thread nD τ).loc main_arg2) (ix3 (request t) i (col t n)) :=
  congrArg (m ((c : Thread nD τ).loc main_arg2)) (place3 (win0_2.rect_emb_val t _) (idx t).2.1 (Nat.mul_one _) (first _ _) rfl)

theorem blk3 (c : Dev nD) (t : Fin cfg0.N) (n : Fin 512) :
    iblk m c 3 t (ix3 0 0 n) = m ((c : Thread nD τ).loc main_arg3) (ix3 0 0 (col t n)) :=
  congrArg (m ((c : Thread nD τ).loc main_arg3)) (place3 (win0_3.rect_emb_val t _) (idx t).2.2.1 rfl rfl rfl)

theorem flush4 : ∀ t : Fin cfg0.N, (cfg0.win 4).flush t = true :=
  (by decide +kernel : ∀ t : Fin grid0.N, win0_4.flush t = true)

theorem block4 (c : Dev nD) (t : Fin cfg0.N) (y : S1x256x512.Idx) :
    (dats m 0 c).arrAt 4 cfg0.N ((win0_4.rect t).emb y)
      = out0_4 (F := Ideal) (iblk m c 0 t) (iblk m c 1 t) (iblk m c 2 t) (iblk m c 3 t) y :=
  congrFun ((Value.blocks4 m c t (flush4 t)).trans (Value.flushed4 m c t)) y

/-- The result after the run. -/
theorem final (c : Dev nD) (b : Fin 16) (i : Fin 256) (n : Fin 1024) :
    (dats m 0 c).arrAt 4 cfg0.N (ix3 b i n)
      = gather (m ((c : Thread nD τ).loc main_arg2) (ix3 b i n)) (m ((c : Thread nD τ).loc main_arg3) (ix3 0 0 n))
        (fun s => m ((c : Thread nD τ).loc main_arg0) (ix3 b s i)) (fun s => m ((c : Thread nD τ).loc main_arg1) (ix3 b s n)) := by
  obtain ⟨t, j, hb, hj⟩ : ∃ (t : Fin cfg0.N) (j : Fin 512), request t = b ∧ col t j = n :=
    ⟨⟨b.val * 2 + n.val / 512, by have h : cfg0.N = 32 := N_0; omega⟩, ⟨n.val % 512, by omega⟩,
      Fin.ext (show (b.val * 2 + n.val / 512) / 2 = b.val by omega),
      Fin.ext (show (b.val * 2 + n.val / 512) % 2 * 512 + n.val % 512 = n.val by omega)⟩
  subst hb hj
  refine (congrArg _ (emb4 t i j)).symm.trans ((block4 m c t _).trans ((out_apply ..).trans ?_))
  simp only [blk0, blk1, blk2, blk3]

end Cert.CombineIdeal.Arr

namespace Cert.CombineRefIdeal.Refv

open Cert.CombineRefIdeal Cert.CombineRefIdeal.Read Cert.Spec Idealize.ShloMosaic

/-- The reference's result. -/
theorem ref_apply (x0 : FVec Ideal S16x512x256 .bf16) (x1 : FVec Ideal S16x512x1024 .bf16) (x2 : FVec Ideal S16x256x1024 .f32) (x3 : FVec Ideal S1x1x1024 .f32)
    (b : Fin 16) (i : Fin 256) (n : Fin 1024) :
    val_main_v5 (F := Ideal) x0 x1 x2 x3 (ix3 b i n)
      = gather (x2 (ix3 b i n)) (x3 (ix3 0 0 n)) (fun s => x0 (ix3 b s i)) (fun s => x1 (ix3 b s n)) := by
  pointwise [val_main_v0, val_main_v1, val_main_v2, val_main_v3, val_main_v4, val_main_v5, dot_S16x512x256_S16x512x1024_S16x256x1024_1_1_2_2_0_0]
  rfl

end Cert.CombineRefIdeal.Refv

namespace Cert.Proof.CombineClaims

open Idealize.ShloMosaic Idealize.ShloMosaic.TcCoe Idealize.SL.Sem Cert.Spec

theorem frame_p : Cert.quiescent_Combine := fun m ρ _ => Cert.Combine.Gen.frame m ρ
theorem frame_pi : Cert.quiescent_CombineIdeal := fun m ρ _ => Cert.CombineIdeal.Gen.frame m ρ
theorem frame_ri : Cert.quiescent_CombineRefIdeal := fun m ρ _ =>
  (θ_run Cert.CombineRefIdeal.defs _ _).mono (fun r h => ⟨fun c => (h c).2, Idealize.ShloMosaic.sem_eq_zero_of_no_sems (by decide) r.2⟩)
    (Cert.CombineRefIdeal.Value.run (F := Ideal) m ρ)

theorem algebraic : Cert.algebraic_CombineIdeal_CombineRefIdeal := fun m ρ m' ρ' _ hag =>
  ⟨fun c => (Cert.CombineIdeal.Gen.dats m 0 c).arrAt 4 Cert.CombineIdeal.cfg0.N, Cert.CombineIdeal.Value.run_blocks m ρ,
    (θ_run Cert.CombineRefIdeal.defs _ _).mono (fun r h c => by
      obtain ⟨e0, e1, e2, e3⟩ := hag c
      refine ⟨((h c).1.trans (Cert.CombineRefIdeal.Read.val_main_v5_eq ..)).trans ?_, (h c).2⟩
      rw [e0, e1, e2, e3]
      exact Cert.Windows.ext3 fun b a n => (Cert.CombineRefIdeal.Refv.ref_apply _ _ _ _ b a n).trans (Cert.CombineIdeal.Arr.final m c b a n).symm)
      (Cert.CombineRefIdeal.Value.run m' ρ')⟩

end Cert.Proof.CombineClaims

end
-- ==== Proof.MainSampleClaim.lean ====
/-
  The sample's main projection: the same blocks as the prompt's, 128 of them, with the modulation of the request that the
  rows belong to. The grid point `8 i + j` computes rows `512 i …`, all of request `i / 2`, and columns `768 j …`. Both
  sides take the same sums of the same products, so nothing is asked of the arguments.
-/
module

public import proofs.«01_k».proof.Defs
public import proofs.«01_k».proof.Proof.InprojMainBlock
public import proofs.«01_k».proof.Proof.Windows
public import proofs.«01_k».proof.Proof.Gen.MainSample.Frame
public import proofs.«01_k».proof.Proof.Gen.MainSampleIdeal.Value
public import proofs.«01_k».proof.Proof.Gen.MainSampleRefIdeal.Run
public import proofs.«01_k».proof.Proof.Gen.MainSampleRefIdeal.Read
public import Idealize.ShloMosaic.Lib.Quiescent

@[expose] public section

set_option maxRecDepth 16384

noncomputable section

namespace Cert.Sample

open Cert.Spec Idealize.ShloMosaic Cert.InprojMainIdeal Cert.InprojMainIdeal.Block

/-- Token `i`'s hidden row, under the modulation of its request. -/
def hiddenRow (x : FVec Ideal ⟨2, ![8192, 1024]⟩ .f32) (d : FVec Ideal ⟨3, ![8, 6, 1024]⟩ .f32) (w : FVec Ideal ⟨2, ![1, 1024]⟩ .f32)
    (i : Fin 8192) : Fin 1024 → EReal :=
  modRow (fun k => x (ix2 i k)) (fun k => d (ix3 (req i) 0 k)) (fun k => d (ix3 (req i) 1 k)) (fun k => w (ix2 0 k))

/-- A block's hidden rows, when its rows are a row block's and its modulation is the request's. -/
theorem hid_rows {x : FVec Ideal ⟨2, ![8192, 1024]⟩ .f32} {d : FVec Ideal ⟨3, ![8, 6, 1024]⟩ .f32} {w : FVec Ideal ⟨2, ![1, 1024]⟩ .f32}
    {q : Nat} (hq : q < 16) {y0 : Vec Ideal S512x1024 .f32} {y1 : Vec Ideal S1x6x1024 .f32} {y2 : Vec Ideal S1x1024 .f32}
    (h0 : ∀ r k, y0 (ix2 r k) = x (ix2 (row q hq r) k)) (h1 : ∀ s k, y1 (ix3 0 s k) = d (ix3 (request q hq) s k))
    (h2 : ∀ k, y2 (ix2 0 k) = w (ix2 0 k)) (r : Fin 512) (k : Fin 1024) : hid y0 y1 y2 (ix2 r k) = hiddenRow x d w (row q hq r) k := by
  rw [hid_apply]
  simp only [h0, h1, h2, hiddenRow, req_row]

end Cert.Sample

namespace Cert.MainSampleIdeal.Arr

open Cert.MainSampleIdeal Cert.MainSampleIdeal.Gen Cert.Spec Idealize.ShloMosaic Idealize.ShloMosaic.TcCoe Idealize.ShloMosaic.Tactic
open Cert.InprojMainIdeal.Block (hz2 hid proj_apply kept stored)
open Cert.Sample Cert.Windows

/-! ## One block -/

/-- What a point that computes its hidden rows leaves in the result's block. -/
theorem out_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = Cert.InprojMainIdeal.Gen.k0_pay2 (F := Ideal) (hid x0 x1 x2) x3 := by
  unfold out0_A_4
  rw [View.read_writes_eq_canon _ _ _ (cover0_A_4 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact stored ((View.readCov_unit_zero _ hz2 _ _).trans (kept x0 x1 x2)) x3

/-- … and in the carried hidden rows. -/
theorem carry_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = hid x0 x1 x2 := by
  unfold sout0_A_0
  rw [View.read_writes_eq_canon _ _ _ (scover0_A_0 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact (View.canon_unit_zero hz2 _ _).trans (kept x0 x1 x2)

/-- What a point that finds the hidden rows `h` carried leaves in the result's block. -/
theorem out_carried (c : Dev nD) (t : Fin cfg0.N) (hc : ¬cond0_0 (grid0.coords t)) (x0 : Vec Ideal S512x1024 .f32) (x1 : Vec Ideal S1x6x1024 .f32)
    (x2 : Vec Ideal S1x1024 .f32) (x3 : Vec Ideal S1024x768 .bf16) (h : Vec Ideal S512x1024 .bf16) :
    out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3 h
      = Cert.InprojMainIdeal.Gen.k0_pay2 (F := Ideal) h x3 := by
  unfold out0_B_4
  rw [View.read_writes_eq_canon _ _ _ (cover0_B_4 c _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread]
  exact stored ((View.ld_unit_zero hz2 _ _).trans ((Memref.isWhole_whole cc0_scratch0).read_unread h)) x3

/-! ## The array -/

variable (m : (ℓ : Loc nD τ sig) → Buf (Elt Ideal) ℓ)

/-- Where the windows stand at point `t`. -/
theorem idx : ∀ t : Fin cfg0.N,
    (win0_0.index t = ![t.val / 8, 0] ∧ win0_1.index t = ![t.val / 16, 0, 0] ∧ win0_2.index t = ![0, 0])
      ∧ (win0_3.index t = ![0, t.val % 8] ∧ win0_4.index t = ![t.val / 8, t.val % 8]) :=
  (by decide +kernel : ∀ t : Fin grid0.N,
    (win0_0.index t = ![t.val / 8, 0] ∧ win0_1.index t = ![t.val / 16, 0, 0] ∧ win0_2.index t = ![0, 0])
      ∧ (win0_3.index t = ![0, t.val % 8] ∧ win0_4.index t = ![t.val / 8, t.val % 8]))

/-- The row block of point `t`. -/
theorem tile (t : Fin cfg0.N) : t.val / 8 < 16 := by have h : t.val < 128 := lt_of_lt_of_eq t.isLt N_0; omega

/-- Column `n` of the block of point `t`, in the array. -/
def col (t : Fin cfg0.N) (n : Fin 768) : Fin 6144 := ⟨t.val % 8 * 768 + n.val, by omega⟩

/-- The blocks at point `t` are those of its row block and its columns. -/
theorem blk0 (c : Dev nD) (t : Fin cfg0.N) (r : Fin 512) (k : Fin 1024) :
    iblk m c 0 t (ix2 r k) = m ((c : Thread nD τ).loc main_arg0) (ix2 (row _ (tile t) r) k) :=
  congrArg (m ((c : Thread nD τ).loc main_arg0)) (place2 (win0_0.rect_emb_val t _) (idx t).1.1 rfl (first _ _))

theorem blk1 (c : Dev nD) (t : Fin cfg0.N) (s : Fin 6) (k : Fin 1024) :
    iblk m c 1 t (ix3 0 s k) = m ((c : Thread nD τ).loc main_arg1) (ix3 (request _ (tile t)) s k) :=
  congrArg (m ((c : Thread nD τ).loc main_arg1)) (place3 (win0_1.rect_emb_val t _) (idx t).1.2.1
    (show t.val / 16 * 1 + 0 = t.val / 8 / 2 by omega) (first _ _) (first _ _))

theorem blk2 (c : Dev nD) (t : Fin cfg0.N) (k : Fin 1024) :
    iblk m c 2 t (ix2 0 k) = m ((c : Thread nD τ).loc main_arg2) (ix2 0 k) :=
  congrArg (m ((c : Thread nD τ).loc main_arg2)) (place2 (win0_2.rect_emb_val t _) (idx t).1.2.2 rfl (first _ _))

theorem blk3 (c : Dev nD) (t : Fin cfg0.N) (k : Fin 1024) (n : Fin 768) :
    iblk m c 3 t (ix2 k n) = m ((c : Thread nD τ).loc main_arg3) (ix2 k (col t n)) :=
  congrArg (m ((c : Thread nD τ).loc main_arg3)) (place2 (win0_3.rect_emb_val t _) (idx t).2.1 (first _ _) rfl)

/-- Token `i`'s hidden row, from the arguments. -/
abbrev hidden (c : Dev nD) : Fin 8192 → Fin 1024 → EReal :=
  hiddenRow (m ((c : Thread nD τ).loc main_arg0)) (m ((c : Thread nD τ).loc main_arg1)) (m ((c : Thread nD τ).loc main_arg2))

theorem hid_blk (c : Dev nD) (t : Fin cfg0.N) (r : Fin 512) (k : Fin 1024) :
    hid (iblk m c 0 t) (iblk m c 1 t) (iblk m c 2 t) (ix2 r k) = hidden m c (row _ (tile t) r) k :=
  hid_rows (tile t) (blk0 m c t) (blk1 m c t) (blk2 m c t) r k

/-- The hidden rows carried after point `t` are those of its row block. -/
theorem carried (c : Dev nD) : ∀ (n : ℕ) (hn : n < cfg0.N) (r : Fin 512) (k : Fin 1024),
    (outsAt0 m c n hn).2 (ix2 r k) = hidden m c (row _ (tile ⟨n, hn⟩) r) k := by
  refine carried_from _ (fun n hn h0 r k => ?_) (fun n hn h0 ih r k => ?_)
  · rw [show outsAt0 m c n hn = _ from outsAt0_A m c ⟨n, hn⟩ h0]
    dsimp only
    rw [carry_eq]
    exact hid_blk m c ⟨n, hn⟩ r k
  · rw [show outsAt0 m c (n + 1) hn = _ from outsAt0_B m c ⟨n + 1, hn⟩ h0]
    refine (ih r k).trans (congrArg (fun i => hidden m c i k) (Fin.ext ?_))
    show n / 8 * 512 + r.val = (n + 1) / 8 * 512 + r.val
    omega

/-- Whether a point computes its hidden rows or finds them carried, they are those of its row block. -/
theorem written (c : Dev nD) (t : Fin cfg0.N) (r : Fin 512) (n : Fin 768) :
    (outsAt0 m c t.val t.isLt).1 (ix2 r n)
      = ∑ k, hidden m c (row _ (tile t) r) k * m ((c : Thread nD τ).loc main_arg3) (ix2 k (col t n)) := by
  by_cases h0 : t.val % 8 = 0
  · rw [outsAt0_A m c t h0]
    dsimp only
    rw [out_eq, proj_apply]
    simp only [hid_blk, blk3]
  · have here := carried m c t.val t.isLt r
    rw [outsAt0_B m c t h0] at here ⊢
    dsimp only at here ⊢
    rw [out_carried, proj_apply]
    exact Finset.sum_congr rfl fun k _ => congrArg₂ (· * ·) (here k) (blk3 m c t k n)

theorem flush4 : ∀ t : Fin cfg0.N, (cfg0.win 4).flush t = true :=
  (by decide +kernel : ∀ t : Fin grid0.N, win0_4.flush t = true)

/-- The result after the run. -/
theorem final (c : Dev nD) (i : Fin 8192) (n : Fin 6144) :
    (dats m 0 c).arrAt 4 cfg0.N (ix2 i n) = ∑ k, hidden m c i k * m ((c : Thread nD τ).loc main_arg3) (ix2 k n) := by
  obtain ⟨t, r, j, rfl, rfl⟩ : ∃ (t : Fin cfg0.N) (r : Fin 512) (j : Fin 768), row _ (tile t) r = i ∧ col t j = n :=
    ⟨⟨i.val / 512 * 8 + n.val / 768, by have h : cfg0.N = 128 := N_0; omega⟩, ⟨i.val % 512, by omega⟩, ⟨n.val % 768, by omega⟩,
      Fin.ext (show (i.val / 512 * 8 + n.val / 768) / 8 * 512 + i.val % 512 = i.val by omega),
      Fin.ext (show (i.val / 512 * 8 + n.val / 768) % 8 * 768 + n.val % 768 = n.val by omega)⟩
  have e : (win0_4.rect t).emb (ix2 r j) = ix2 (row _ (tile t) r) (col t j) := place2 (win0_4.rect_emb_val t _) (idx t).2.2 rfl rfl
  rw [← e]
  exact (congrFun ((Value.blocks4 m c t (flush4 t)).trans (Value.flushed4 m c t)) (ix2 r j)).trans (written m c t r j)

end Cert.MainSampleIdeal.Arr

namespace Cert.MainSampleRefIdeal.Refv

open Cert.MainSampleRefIdeal Cert.MainSampleRefIdeal.Read Cert.Spec Cert.Sample Idealize.ShloMosaic

/-- The reference's hidden rows, at place `p` of request `q`. -/
theorem hidden_apply (x0 : FVec Ideal S8192x1024 .f32) (x1 : FVec Ideal S8x6x1024 .f32) (x2 : FVec Ideal S1x1024 .f32)
    (q : Fin 8) (p k : Fin 1024) :
    val_main_v21 (F := Ideal) x0 x1 x2 (ix3 q p k) = hiddenRow x0 x1 x2 ⟨q.val * 1024 + p.val, by omega⟩ k := by
  have hq : req ⟨q.val * 1024 + p.val, by omega⟩ = q := Fin.ext (show (q.val * 1024 + p.val) / 1024 = q.val by omega)
  unfold hiddenRow
  rw [hq]
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_cst_2, val_main_v16, val_main_v17, val_main_v18, val_main_v19, val_main_v20, val_main_v21]
  rfl

/-- … and at token `i`, its place in the array of requests worked out. -/
theorem hidden_token (x0 : FVec Ideal S8192x1024 .f32) (x1 : FVec Ideal S8x6x1024 .f32) (x2 : FVec Ideal S1x1024 .f32)
    (i : Fin 8192) (k : Fin 1024) :
    val_main_v21 (F := Ideal) x0 x1 x2 (ix3 (req i) ⟨i.val % 1024, by omega⟩ k) = hiddenRow x0 x1 x2 i k :=
  (hidden_apply x0 x1 x2 _ _ k).trans (congrArg (fun i => hiddenRow x0 x1 x2 i k)
    (Fin.ext (show i.val / 1024 * 1024 + i.val % 1024 = i.val by omega)))

/-- The reference's result. -/
theorem ref_apply (x0 : FVec Ideal S8192x1024 .f32) (x1 : FVec Ideal S8x6x1024 .f32) (x2 : FVec Ideal S1x1024 .f32)
    (x3 : FVec Ideal S1024x6144 .bf16) (i : Fin 8192) (n : Fin 6144) :
    val_main_v25 (F := Ideal) x0 x1 x2 x3 (ix2 i n)
      = ∑ k, hiddenRow x0 x1 x2 i k * x3 (ix2 k n) := by
  pointwise [val_main_v22, val_main_v23, val_main_v24, val_main_v25, dot_S8x1024x1024_S1024x6144_S8x1024x6144_2_0_01_1_n_n]
  exact Finset.sum_congr rfl fun k _ => congrArg (· * x3 (ix2 k n)) (hidden_token x0 x1 x2 i k)

end Cert.MainSampleRefIdeal.Refv

namespace Cert.Proof.MainSampleClaims

open Idealize.ShloMosaic Idealize.ShloMosaic.TcCoe Idealize.SL.Sem Cert.Spec

theorem frame_p : Cert.quiescent_MainSample := fun m ρ _ => Cert.MainSample.Gen.frame m ρ
theorem frame_pi : Cert.quiescent_MainSampleIdeal := fun m ρ _ => Cert.MainSampleIdeal.Gen.frame m ρ
theorem frame_ri : Cert.quiescent_MainSampleRefIdeal := fun m ρ _ =>
  (θ_run Cert.MainSampleRefIdeal.defs _ _).mono (fun r h => ⟨fun c => (h c).2, Idealize.ShloMosaic.sem_eq_zero_of_no_sems (by decide) r.2⟩)
    (Cert.MainSampleRefIdeal.Value.run (F := Ideal) m ρ)

theorem algebraic : Cert.algebraic_MainSampleIdeal_MainSampleRefIdeal := fun m ρ m' ρ' _ hag =>
  ⟨fun c => (Cert.MainSampleIdeal.Gen.dats m 0 c).arrAt 4 Cert.MainSampleIdeal.cfg0.N, Cert.MainSampleIdeal.Value.run_blocks m ρ,
    (θ_run Cert.MainSampleRefIdeal.defs _ _).mono (fun r h c => by
      obtain ⟨e0, e1, e2, e3⟩ := hag c
      refine ⟨((h c).1.trans (Cert.MainSampleRefIdeal.Read.val_main_v25_eq ..)).trans ?_, (h c).2⟩
      rw [e0, e1, e2, e3]
      exact Cert.Windows.ext2 fun a n => (Cert.MainSampleRefIdeal.Refv.ref_apply _ _ _ _ a n).trans (Cert.MainSampleIdeal.Arr.final m c a n).symm)
      (Cert.MainSampleRefIdeal.Value.run m' ρ')⟩

end Cert.Proof.MainSampleClaims

end
-- ==== Proof.QkvSampleClaim.lean ====
/-
  The sample's q, k, v projection: the same blocks as the prompt's, 16 of them, with the modulation of the request that the
  rows belong to. The grid point `i` computes rows `512 i …`, all of request `i / 2`. Both sides take the same sums of the
  same products, so nothing is asked of the arguments.
-/
module

public import proofs.«01_k».proof.Defs
public import proofs.«01_k».proof.Proof.MainSampleClaim
public import proofs.«01_k».proof.Proof.Gen.QkvSample.Frame
public import proofs.«01_k».proof.Proof.Gen.QkvSampleIdeal.Value
public import proofs.«01_k».proof.Proof.Gen.QkvSampleRefIdeal.Run
public import proofs.«01_k».proof.Proof.Gen.QkvSampleRefIdeal.Read
public import Idealize.ShloMosaic.Lib.Quiescent

@[expose] public section

set_option maxRecDepth 16384

noncomputable section

namespace Cert.QkvSampleIdeal.Arr

open Cert.QkvSampleIdeal Cert.QkvSampleIdeal.Gen Cert.Spec Idealize.ShloMosaic Idealize.ShloMosaic.TcCoe Idealize.ShloMosaic.Tactic
open Cert.InprojMainIdeal.Block (hz2 hid proj_apply kept stored)
open Cert.Sample Cert.Windows

/-! ## One block -/

/-- What a point that computes its hidden rows leaves in the result's block. -/
theorem out_eq (c : Dev nD) (t : Fin cfg0.N) (hc : cond0_0 (grid0.coords t)) (x0 : Vec Ideal S512x1024 .f32) (x1 : Vec Ideal S1x6x1024 .f32)
    (x2 : Vec Ideal S1x1024 .f32) (x3 : Vec Ideal S1024x768 .bf16) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3
      = Cert.InprojMainIdeal.Gen.k0_pay2 (F := Ideal) (hid x0 x1 x2) x3 := by
  unfold out0_A_4
  rw [View.read_writes_eq_canon _ _ _ (cover0_A_4 c _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  exact stored ((View.readCov_unit_zero _ hz2 _ _).trans (kept x0 x1 x2)) x3

/-! ## The array -/

variable (m : (ℓ : Loc nD τ sig) → Buf (Elt Ideal) ℓ)

/-- Where the windows stand at point `t`: at the point's row block and its request; the weights are one block. -/
theorem idx : ∀ t : Fin cfg0.N,
    (win0_0.index t = ![t.val, 0] ∧ win0_1.index t = ![t.val / 2, 0, 0] ∧ win0_2.index t = ![0, 0])
      ∧ (win0_3.index t = ![0, 0] ∧ win0_4.index t = ![t.val, 0]) :=
  (by decide +kernel : ∀ t : Fin grid0.N,
    (win0_0.index t = ![t.val, 0] ∧ win0_1.index t = ![t.val / 2, 0, 0] ∧ win0_2.index t = ![0, 0])
      ∧ (win0_3.index t = ![0, 0] ∧ win0_4.index t = ![t.val, 0]))

theorem tile (t : Fin cfg0.N) : t.val < 16 := lt_of_lt_of_eq t.isLt N_0

/-- Token `i`'s hidden row, from the arguments. -/
abbrev hidden (c : Dev nD) : Fin 8192 → Fin 1024 → EReal :=
  hiddenRow (m ((c : Thread nD τ).loc main_arg0)) (m ((c : Thread nD τ).loc main_arg1)) (m ((c : Thread nD τ).loc main_arg2))

theorem rows (c : Dev nD) (t : Fin cfg0.N) (r : Fin 512) (k : Fin 1024) :
    iblk m c 0 t (ix2 r k) = m ((c : Thread nD τ).loc main_arg0) (ix2 (row _ (tile t) r) k) :=
  congrArg (m ((c : Thread nD τ).loc main_arg0)) (place2 (win0_0.rect_emb_val t _) (idx t).1.1 rfl (first _ _))

theorem modulation (c : Dev nD) (t : Fin cfg0.N) (s : Fin 6) (k : Fin 1024) :
    iblk m c 1 t (ix3 0 s k) = m ((c : Thread nD τ).loc main_arg1) (ix3 (request _ (tile t)) s k) :=
  congrArg (m ((c : Thread nD τ).loc main_arg1)) (place3 (win0_1.rect_emb_val t _) (idx t).1.2.1 (Nat.mul_one _) (first _ _) (first _ _))

theorem norm (c : Dev nD) (t : Fin cfg0.N) (k : Fin 1024) :
    iblk m c 2 t (ix2 0 k) = m ((c : Thread nD τ).loc main_arg2) (ix2 0 k) :=
  congrArg (m ((c : Thread nD τ).loc main_arg2)) (place2 (win0_2.rect_emb_val t _) (idx t).1.2.2 rfl (first _ _))

theorem weights (c : Dev nD) (t : Fin cfg0.N) (k : Fin 1024) (n : Fin 768) :
    iblk m c 3 t (ix2 k n) = m ((c : Thread nD τ).loc main_arg3) (ix2 k n) :=
  congrArg (m ((c : Thread nD τ).loc main_arg3)) (place2 (win0_3.rect_emb_val t _) (idx t).2.1 (first _ _) (first _ _))

theorem written (c : Dev nD) (t : Fin cfg0.N) (r : Fin 512) (n : Fin 768) :
    outsAt0 m c t (ix2 r n) = ∑ k, hidden m c (row _ (tile t) r) k * m ((c : Thread nD τ).loc main_arg3) (ix2 k n) := by
  unfold outsAt0
  rw [out_eq, proj_apply]
  exact Finset.sum_congr rfl fun k _ =>
    congrArg₂ (· * ·) (hid_rows (tile t) (rows m c t) (modulation m c t) (norm m c t) r k) (weights m c t k n)

theorem flush4 : ∀ t : Fin cfg0.N, (cfg0.win 4).flush t = true :=
  (by decide +kernel : ∀ t : Fin grid0.N, win0_4.flush t = true)

/-- The result after the run. -/
theorem final (c : Dev nD) (i : Fin 8192) (n : Fin 768) :
    (dats m 0 c).arrAt 4 cfg0.N (ix2 i n) = ∑ k, hidden m c i k * m ((c : Thread nD τ).loc main_arg3) (ix2 k n) := by
  obtain ⟨q, hq, r, rfl⟩ := exists_row i
  have t : { t : Fin cfg0.N // t.val = q } := ⟨⟨q, hq.trans_eq N_0.symm⟩, rfl⟩
  obtain ⟨t, rfl⟩ := t
  have e : (win0_4.rect t).emb (ix2 r n) = ix2 (row _ hq r) n := place2 (win0_4.rect_emb_val t _) (idx t).2.2 rfl (first _ _)
  rw [← e]
  exact (congrFun ((Value.blocks4 m c t (flush4 t)).trans (Value.flushed4 m c t)) (ix2 r n)).trans (written m c t r n)

end Cert.QkvSampleIdeal.Arr

namespace Cert.QkvSampleRefIdeal.Refv

open Cert.QkvSampleRefIdeal Cert.QkvSampleRefIdeal.Read Cert.Spec Cert.Sample Idealize.ShloMosaic

/-- The reference's result. Its hidden rows are the main projection's. -/
theorem ref_apply (x0 : FVec Ideal S8192x1024 .f32) (x1 : FVec Ideal S8x6x1024 .f32) (x2 : FVec Ideal S1x1024 .f32)
    (x3 : FVec Ideal S1024x768 .bf16) (i : Fin 8192) (n : Fin 768) :
    val_main_v24 (F := Ideal) x0 x1 x2 x3 (ix2 i n)
      = ∑ k, hiddenRow x0 x1 x2 i k * x3 (ix2 k n) := by
  pointwise [val_main_v22, val_main_v23, val_main_v24, dot_S8x1024x1024_S1024x768_S8x1024x768_2_0_01_1_n_n]
  exact Finset.sum_congr rfl fun k _ => congrArg (· * x3 (ix2 k n)) (Cert.MainSampleRefIdeal.Refv.hidden_token x0 x1 x2 i k)

end Cert.QkvSampleRefIdeal.Refv

namespace Cert.Proof.QkvSampleClaims

open Idealize.ShloMosaic Idealize.ShloMosaic.TcCoe Idealize.SL.Sem Cert.Spec

theorem frame_p : Cert.quiescent_QkvSample := fun m ρ _ => Cert.QkvSample.Gen.frame m ρ
theorem frame_pi : Cert.quiescent_QkvSampleIdeal := fun m ρ _ => Cert.QkvSampleIdeal.Gen.frame m ρ
theorem frame_ri : Cert.quiescent_QkvSampleRefIdeal := fun m ρ _ =>
  (θ_run Cert.QkvSampleRefIdeal.defs _ _).mono (fun r h => ⟨fun c => (h c).2, Idealize.ShloMosaic.sem_eq_zero_of_no_sems (by decide) r.2⟩)
    (Cert.QkvSampleRefIdeal.Value.run (F := Ideal) m ρ)

theorem algebraic : Cert.algebraic_QkvSampleIdeal_QkvSampleRefIdeal := fun m ρ m' ρ' _ hag =>
  ⟨fun c => (Cert.QkvSampleIdeal.Gen.dats m 0 c).arrAt 4 Cert.QkvSampleIdeal.cfg0.N, Cert.QkvSampleIdeal.Value.run_blocks m ρ,
    (θ_run Cert.QkvSampleRefIdeal.defs _ _).mono (fun r h c => by
      obtain ⟨e0, e1, e2, e3⟩ := hag c
      refine ⟨((h c).1.trans (Cert.QkvSampleRefIdeal.Read.val_main_v24_eq ..)).trans ?_, (h c).2⟩
      rw [e0, e1, e2, e3]
      exact Cert.Windows.ext2 fun a n => (Cert.QkvSampleRefIdeal.Refv.ref_apply _ _ _ _ a n).trans (Cert.QkvSampleIdeal.Arr.final m c a n).symm)
      (Cert.QkvSampleRefIdeal.Value.run m' ρ')⟩

end Cert.Proof.QkvSampleClaims

end
-- ==== Proof.MergeSampleClaim.lean ====
/-
  The sample's merge: the same blocks as the prompt's, 16 of them, with the modulation of the request that the rows belong
  to. The grid point `i` computes rows `512 i …`, all of request `i / 2`.
-/
module

public import proofs.«01_k».proof.Defs
public import proofs.«01_k».proof.Proof.MergeArray
public import proofs.«01_k».proof.Proof.Gen.MergeSample.Frame
public import proofs.«01_k».proof.Proof.Gen.MergeSampleIdeal.Value
public import proofs.«01_k».proof.Proof.Gen.MergeSampleRefIdeal.Run
public import proofs.«01_k».proof.Proof.Gen.MergeSampleRefIdeal.Read
public import Idealize.ShloMosaic.Lib.Quiescent

@[expose] public section

set_option maxRecDepth 16384

noncomputable section

namespace Cert.MergeSampleIdeal.Arr

open Cert.MergeSampleIdeal Cert.MergeSampleIdeal.Gen Cert.Spec Idealize.ShloMosaic Idealize.ShloMosaic.TcCoe Idealize.ShloMosaic.Tactic
open Cert.MergeIdeal.Rows (Holds)
open Cert.Sample Cert.Windows

/-! ## The array -/

variable (m : (ℓ : Loc nD τ sig) → Buf (Elt Ideal) ℓ)

/-- Where the windows stand at point `t`. -/
theorem idx : ∀ t : Fin cfg0.N,
    (((win0_0.index t = ![t.val, 0] ∧ win0_1.index t = ![t.val, 0]) ∧ (win0_2.index t = ![t.val, 0] ∧ win0_3.index t = ![t.val, 3]))
      ∧ ((win0_4.index t = ![t.val, 4] ∧ win0_5.index t = ![t.val, 5]) ∧ win0_6.index t = ![t.val, 0]))
      ∧ ((win0_7.index t = ![t.val / 2, 0, 0] ∧ (win0_8.index t = ![0, 0] ∧ (win0_9.index t = ![0, 0] ∧ win0_10.index t = ![0, 0])))
      ∧ ((win0_11.index t = ![0, 0] ∧ win0_12.index t = ![0, 0]) ∧ (win0_13.index t = ![t.val, 0] ∧ win0_14.index t = ![t.val, 0]))) :=
  (by decide +kernel : ∀ t : Fin grid0.N,
    (((win0_0.index t = ![t.val, 0] ∧ win0_1.index t = ![t.val, 0]) ∧ (win0_2.index t = ![t.val, 0] ∧ win0_3.index t = ![t.val, 3]))
      ∧ ((win0_4.index t = ![t.val, 4] ∧ win0_5.index t = ![t.val, 5]) ∧ win0_6.index t = ![t.val, 0]))
      ∧ ((win0_7.index t = ![t.val / 2, 0, 0] ∧ (win0_8.index t = ![0, 0] ∧ (win0_9.index t = ![0, 0] ∧ win0_10.index t = ![0, 0])))
      ∧ ((win0_11.index t = ![0, 0] ∧ win0_12.index t = ![0, 0]) ∧ (win0_13.index t = ![t.val, 0] ∧ win0_14.index t = ![t.val, 0]))))

theorem tile (t : Fin cfg0.N) : t.val < 16 := lt_of_lt_of_eq t.isLt N_0

/-- Row `r` of the blocks at point `t` is row `512 t + r` of the arrays, under the modulation of request `t / 2`. -/
theorem holds (c : Dev nD) (t : Fin cfg0.N) (r : Fin 512) :
    Holds (m ((c : Thread nD τ).loc main_arg0)) (m ((c : Thread nD τ).loc main_arg1)) (m ((c : Thread nD τ).loc main_arg2))
      (m ((c : Thread nD τ).loc main_arg3)) (m ((c : Thread nD τ).loc main_arg4))
      (fun s k => m ((c : Thread nD τ).loc main_arg5) (ix3 (request _ (tile t)) s k)) (m ((c : Thread nD τ).loc main_arg6))
      (m ((c : Thread nD τ).loc main_arg7)) (m ((c : Thread nD τ).loc main_arg8)) (m ((c : Thread nD τ).loc main_arg9)) (m ((c : Thread nD τ).loc main_arg10))
      (row _ (tile t) r) r (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) := by
  obtain ⟨⟨⟨⟨i0, i1⟩, i2, i3⟩, ⟨i4, i5⟩, i6⟩, ⟨i7, i8, i9, i10⟩, ⟨i11, i12⟩, -⟩ := idx t
  exact {
    b0 := fun _ => congrArg (m ((c : Thread nD τ).loc main_arg0)) (place2 (win0_0.rect_emb_val t _) i0 rfl (first _ _))
    b1 := fun _ => congrArg (m ((c : Thread nD τ).loc main_arg1)) (place2 (win0_1.rect_emb_val t _) i1 rfl (first _ _))
    b2 := fun _ => congrArg (m ((c : Thread nD τ).loc main_arg2)) (place2 (win0_2.rect_emb_val t _) i2 rfl (first _ _))
    b3 := fun _ => congrArg (m ((c : Thread nD τ).loc main_arg3)) (place2 (win0_3.rect_emb_val t _) i3 rfl rfl)
    b4 := fun _ => congrArg (m ((c : Thread nD τ).loc main_arg3)) (place2 (win0_4.rect_emb_val t _) i4 rfl rfl)
    b5 := fun _ => congrArg (m ((c : Thread nD τ).loc main_arg3)) (place2 (win0_5.rect_emb_val t _) i5 rfl rfl)
    b6 := fun _ => congrArg (m ((c : Thread nD τ).loc main_arg4)) (place2 (win0_6.rect_emb_val t _) i6 rfl (first _ _))
    b7 := fun _ _ => congrArg (m ((c : Thread nD τ).loc main_arg5)) (place3 (win0_7.rect_emb_val t _) i7 (Nat.mul_one _) (first _ _) (first _ _))
    b8 := fun _ => congrArg (m ((c : Thread nD τ).loc main_arg6)) (place2 (win0_8.rect_emb_val t _) i8 (first _ _) (first _ _))
    b9 := fun _ _ => congrArg (m ((c : Thread nD τ).loc main_arg7)) (place2 (win0_9.rect_emb_val t _) i9 (first _ _) (first _ _))
    b10 := fun _ _ => congrArg (m ((c : Thread nD τ).loc main_arg8)) (place2 (win0_10.rect_emb_val t _) i10 (first _ _) (first _ _))
    b11 := fun _ _ => congrArg (m ((c : Thread nD τ).loc main_arg9)) (place2 (win0_11.rect_emb_val t _) i11 (first _ _) (first _ _))
    b12 := fun _ _ => congrArg (m ((c : Thread nD τ).loc main_arg10)) (place2 (win0_12.rect_emb_val t _) i12 (first _ _) (first _ _)) }

/-- Token `i`'s residual row, from the arguments. -/
abbrev resid (c : Dev nD) (i : Fin 8192) : Fin 1024 → EReal :=
  Cert.MergeIdeal.Rows.resid (m ((c : Thread nD τ).loc main_arg0)) (m ((c : Thread nD τ).loc main_arg1)) (m ((c : Thread nD τ).loc main_arg2))
    (m ((c : Thread nD τ).loc main_arg3)) (m ((c : Thread nD τ).loc main_arg4)) (fun s k => m ((c : Thread nD τ).loc main_arg5) (ix3 (req i) s k))
    (m ((c : Thread nD τ).loc main_arg7)) (m ((c : Thread nD τ).loc main_arg8)) (m ((c : Thread nD τ).loc main_arg9)) (m ((c : Thread nD τ).loc main_arg10)) i

theorem flush13 : ∀ t : Fin cfg0.N, (cfg0.win 13).flush t = true :=
  (by decide +kernel : ∀ t : Fin grid0.N, win0_13.flush t = true)

theorem flush14 : ∀ t : Fin cfg0.N, (cfg0.win 14).flush t = true :=
  (by decide +kernel : ∀ t : Fin grid0.N, win0_14.flush t = true)

/-- Every row is a row of some point's block. -/
theorem exists_point (i : Fin 8192) : ∃ (t : Fin cfg0.N) (r : Fin 512), row _ (tile t) r = i := by
  obtain ⟨q, hq, r, h⟩ := exists_row i
  exact ⟨⟨q, hq.trans_eq N_0.symm⟩, r, h⟩

/-- The first result after the run. -/
theorem resid_final (c : Dev nD) (i : Fin 8192) (n : Fin 1024) : (dats m 0 c).arrAt 13 cfg0.N (ix2 i n) = resid m c i n := by
  obtain ⟨t, r, rfl⟩ := exists_point i
  have e : (win0_13.rect t).emb (ix2 r n) = ix2 (row _ (tile t) r) n := place2 (win0_13.rect_emb_val t _) (idx t).2.2.2.1 rfl (first _ _)
  rw [← e, resid, req_row]
  exact (congrFun ((Value.blocks13 m c t (flush13 t)).trans (Value.flushed13 m c t)) (ix2 r n)).trans
    ((holds m c t r).resid_eq n)

/-- The second result after the run. -/
theorem hidden_final (c : Dev nD) (i : Fin 8192) (n : Fin 1024) :
    (dats m 0 c).arrAt 14 cfg0.N (ix2 i n)
      = modRow (resid m c i) (fun k => m ((c : Thread nD τ).loc main_arg5) (ix3 (req i) 3 k)) (fun k => m ((c : Thread nD τ).loc main_arg5) (ix3 (req i) 4 k)) (fun k => m ((c : Thread nD τ).loc main_arg6) (ix2 0 k)) n := by
  obtain ⟨t, r, rfl⟩ := exists_point i
  have e : (win0_14.rect t).emb (ix2 r n) = ix2 (row _ (tile t) r) n := place2 (win0_14.rect_emb_val t _) (idx t).2.2.2.2 rfl (first _ _)
  rw [← e, resid, req_row]
  exact (congrFun ((Value.blocks14 m c t (flush14 t)).trans (Value.flushed14 m c t)) (ix2 r n)).trans ((holds m c t r).hidden_eq n)

end Cert.MergeSampleIdeal.Arr

namespace Cert.MergeSampleRefIdeal.Refv

open Cert.MergeIdeal.Rows (gcol gcol3 gcol4 gcol5)
open Cert.MergeSampleRefIdeal Cert.MergeSampleRefIdeal.Read Cert.Spec Cert.Sample Idealize.ShloMosaic

variable (x0 x1 x2 : FVec Ideal S8192x512 .bf16) (x3 : FVec Ideal S8192x6144 .bf16) (x4 : FVec Ideal S8192x1024 .f32) (x5 : FVec Ideal S8x6x1024 .f32)
  (x6 : FVec Ideal S1x1024 .f32) (x7 x8 x9 : FVec Ideal S512x1024 .bf16) (x10 : FVec Ideal S1024x1024 .bf16)

/-- The reference's residual rows. -/
theorem residual_apply (i : Fin 8192) (n : Fin 1024) :
    val_main_v66 (F := Ideal) x0 x1 x2 x3 x4 x5 x7 x8 x9 x10 (ix2 i n)
      = residual (fun k => x4 (ix2 i k)) (fun k => x5 (ix3 (req i) 2 k))
        (gateMix (fun j => x0 (ix2 i j)) (fun j => x1 (ix2 i j)) (fun j => x2 (ix2 i j))
          (fun k => x3 (ix2 i (gcol 3 k))) (fun k => x3 (ix2 i (gcol 4 k))) (fun k => x3 (ix2 i (gcol 5 k)))
          (fun j k => x7 (ix2 j k)) (fun j k => x8 (ix2 j k)) (fun j k => x9 (ix2 j k)))
        (fun k n => x10 (ix2 k n)) n := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_v18, val_main_v19, val_main_v20, val_main_v21, val_main_cst_1, val_main_v22, val_main_v23, val_main_cst_2, val_main_v24, val_main_v25, val_main_v26, val_main_v27, val_main_v28, val_main_v29, val_main_v30, val_main_v31, val_main_cst_3, val_main_v32, val_main_v33, val_main_cst_4, val_main_v34, val_main_v35, val_main_v36, val_main_v37, val_main_v38, val_main_v39, val_main_v40, val_main_v41, val_main_v42, val_main_v43, val_main_v44, val_main_v45, val_main_v46, val_main_cst_5, val_main_cst_6, val_main_cst_7, val_main_cst_8, val_main_v66,
    dot_S8192x1024_S1024x1024_S8192x1024_1_0_0_1_n_n, dot_S8192x512_S512x1024_S8192x1024_1_0_0_1_n_n]
  simp only [gcol3, gcol4, gcol5]
  rfl

/-- The residual row that the norm reads is the first result's. -/
theorem residual_read (i : Fin 8192) (n : Fin 1024) :
    val_main_v66 (F := Ideal) x0 x1 x2 x3 x4 x5 x7 x8 x9 x10 (ix2 i n)
      = val_main_v46 (F := Ideal) x0 x1 x2 x3 x4 x5 x7 x8 x9 x10 (ix3 ⟨i.val / 1024, by omega⟩ ⟨i.val % 1024, by omega⟩ n) := by
  pointwise [val_main_v66]

/-- The reference's hidden rows. -/
theorem hidden_apply (i : Fin 8192) (n : Fin 1024) :
    val_main_v68 (F := Ideal) x0 x1 x2 x3 x4 x5 x6 x7 x8 x9 x10 (ix2 i n)
      = modRow (fun k => val_main_v66 (F := Ideal) x0 x1 x2 x3 x4 x5 x7 x8 x9 x10 (ix2 i k)) (fun k => x5 (ix3 (req i) 3 k)) (fun k => x5 (ix3 (req i) 4 k))
        (fun k => x6 (ix2 0 k)) n := by
  simp only [residual_read]
  pointwise [val_main_v0, val_main_v1, val_main_v2, val_main_v3, val_main_v4, val_main_v5, val_main_v6, val_main_v7, val_main_v8, val_main_v9, val_main_v10, val_main_cst, val_main_cst_0, val_main_cst_1, val_main_cst_2, val_main_cst_3, val_main_cst_4, val_main_v47, val_main_cst_5, val_main_v48, val_main_v49, val_main_cst_6, val_main_v50, val_main_v51, val_main_cst_7, val_main_v52, val_main_v53, val_main_v54, val_main_v55, val_main_v56, val_main_v57, val_main_v58, val_main_v59, val_main_cst_8, val_main_v60, val_main_v61, val_main_v62, val_main_v63, val_main_v64, val_main_v65, val_main_v67, val_main_v68]
  rfl

end Cert.MergeSampleRefIdeal.Refv

namespace Cert.Proof.MergeSampleClaims

open Idealize.ShloMosaic Idealize.ShloMosaic.TcCoe Idealize.SL.Sem Cert.Spec

theorem frame_p : Cert.quiescent_MergeSample := fun m ρ _ => Cert.MergeSample.Gen.frame m ρ
theorem frame_pi : Cert.quiescent_MergeSampleIdeal := fun m ρ _ => Cert.MergeSampleIdeal.Gen.frame m ρ
theorem frame_ri : Cert.quiescent_MergeSampleRefIdeal := fun m ρ _ =>
  (θ_run Cert.MergeSampleRefIdeal.defs _ _).mono (fun r h => ⟨fun c => (h c).2.2, Idealize.ShloMosaic.sem_eq_zero_of_no_sems (by decide) r.2⟩)
    (Cert.MergeSampleRefIdeal.Value.run (F := Ideal) m ρ)

theorem algebraic : Cert.algebraic_MergeSampleIdeal_MergeSampleRefIdeal := fun m ρ m' ρ' _ hag =>
  ⟨fun c => (Cert.MergeSampleIdeal.Gen.dats m 0 c).arrAt 13 Cert.MergeSampleIdeal.cfg0.N, fun c => (Cert.MergeSampleIdeal.Gen.dats m 0 c).arrAt 14 Cert.MergeSampleIdeal.cfg0.N,
    Cert.MergeSampleIdeal.Value.run_blocks m ρ,
    (θ_run Cert.MergeSampleRefIdeal.defs _ _).mono (fun r h c => by
      obtain ⟨e0, e1, e2, e3, e4, e5, e6, e7, e8, e9, e10⟩ := hag c
      refine ⟨((h c).1.trans (Cert.MergeSampleRefIdeal.Read.val_main_v66_eq ..)).trans ?_, ((h c).2.1.trans (Cert.MergeSampleRefIdeal.Read.val_main_v68_eq ..)).trans ?_, (h c).2.2⟩
      · rw [e0, e1, e2, e3, e4, e5, e7, e8, e9, e10]
        exact Cert.Windows.ext2 fun a n => (Cert.MergeSampleRefIdeal.Refv.residual_apply _ _ _ _ _ _ _ _ _ _ a n).trans (Cert.MergeSampleIdeal.Arr.resid_final m c a n).symm
      · rw [e0, e1, e2, e3, e4, e5, e6, e7, e8, e9, e10]
        refine Cert.Windows.ext2 fun a n => ?_
        refine (Cert.MergeSampleRefIdeal.Refv.hidden_apply _ _ _ _ _ _ _ _ _ _ _ a n).trans ?_
        refine .trans ?_ (Cert.MergeSampleIdeal.Arr.hidden_final m c a n).symm
        exact congrArg (fun x => modRow x _ _ _ n) (funext fun k => Cert.MergeSampleRefIdeal.Refv.residual_apply _ _ _ _ _ _ _ _ _ _ a k))
      (Cert.MergeSampleRefIdeal.Value.run m' ρ')⟩

end Cert.Proof.MergeSampleClaims

end
-- ==== Proof.CombineSampleClaim.lean ====
/-
  The sample's combination: as the prompt's, with 2048 slots and 1024 tokens to a request, and each request's own gate. Grid
  point `2 b + j` computes columns `512 j …` of request `b`.
-/
module

public import proofs.«01_k».proof.Defs
public import proofs.«01_k».proof.Proof.CombineClaim
public import proofs.«01_k».proof.Proof.Gen.CombineSample.Frame
public import proofs.«01_k».proof.Proof.Gen.CombineSampleIdeal.Value
public import proofs.«01_k».proof.Proof.Gen.CombineSampleRefIdeal.Run
public import proofs.«01_k».proof.Proof.Gen.CombineSampleRefIdeal.Read
public import Idealize.ShloMosaic.Lib.Pointwise
public import Idealize.ShloMosaic.Lib.Pointwise.Tactic
public import Idealize.ShloMosaic.Lib.Quiescent

@[expose] public section

set_option maxRecDepth 16384

noncomputable section

namespace Cert.CombineSampleIdeal.Arr

open Cert.CombineSampleIdeal Cert.CombineSampleIdeal.Gen Cert.Spec Cert.Windows Idealize.ShloMosaic Idealize.ShloMosaic.TcCoe
open Cert.CombineIdeal.Arr (hz3)

/-- One block: a request's tokens and 512 columns. -/
theorem out_apply (d : Vec Ideal S1x2048x1024 .bf16) (y : Vec Ideal S1x2048x512 .bf16) (x : Vec Ideal S1x1024x512 .f32) (g : Vec Ideal S1x1x512 .f32)
    (i : Fin 1024) (n : Fin 512) :
    out0_4 (F := Ideal) d y x g (ix3 0 i n) = gather (x (ix3 0 i n)) (g (ix3 0 0 n)) (fun s => d (ix3 0 s i)) (fun s => y (ix3 0 s n)) := by
  unfold out0_4
  rw [View.canon_unit_zero hz3, View.ld_unit_zero hz3, View.ld_unit_zero hz3, View.ld_unit_zero hz3, View.ld_unit_zero hz3]
  unfold_payloads
  pointwise [dot_S2048x1024_S2048x512_S1024x512_0_0_1_1_n_n]
  rfl

variable (m : (ℓ : Loc nD τ sig) → Buf (Elt Ideal) ℓ)

/-- Where the windows stand at point `t`: at request `t / 2` and column block `t % 2`; the dispatch matrix has all its columns. -/
theorem idx : ∀ t : Fin cfg0.N,
    win0_0.index t = ![t.val / 2, 0, 0] ∧ win0_1.index t = ![t.val / 2, 0, t.val % 2] ∧ win0_2.index t = ![t.val / 2, 0, t.val % 2]
      ∧ win0_3.index t = ![t.val / 2, 0, t.val % 2] ∧ win0_4.index t = ![t.val / 2, 0, t.val % 2] :=
  (by decide +kernel : ∀ t : Fin grid0.N,
    win0_0.index t = ![t.val / 2, 0, 0] ∧ win0_1.index t = ![t.val / 2, 0, t.val % 2] ∧ win0_2.index t = ![t.val / 2, 0, t.val % 2]
      ∧ win0_3.index t = ![t.val / 2, 0, t.val % 2] ∧ win0_4.index t = ![t.val / 2, 0, t.val % 2])

theorem flush4 : ∀ t : Fin cfg0.N, (cfg0.win 4).flush t = true :=
  (by decide +kernel : ∀ t : Fin grid0.N, win0_4.flush t = true)

/-- The block of point `t`, at the array's request `b` and column `n`. -/
theorem written (c : Dev nD) (t : Fin cfg0.N) {b : Fin 8} {n : Fin 1024} {j : Fin 512} (hb : t.val / 2 = b.val) (hn : t.val % 2 * 512 + j.val = n.val)
    (i : Fin 1024) :
    out0_4 (F := Ideal) (iblk m c 0 t) (iblk m c 1 t) (iblk m c 2 t) (iblk m c 3 t) (ix3 0 i j)
      = gather (m ((c : Thread nD τ).loc main_arg2) (ix3 b i n)) (m ((c : Thread nD τ).loc main_arg3) (ix3 b 0 n))
        (fun s => m ((c : Thread nD τ).loc main_arg0) (ix3 b s i)) (fun s => m ((c : Thread nD τ).loc main_arg1) (ix3 b s n)) := by
  obtain ⟨i0, i1, i2, i3, -⟩ := idx t
  have h : t.val / 2 * 1 + 0 = b.val := by omega
  have b0 : ∀ s, iblk m c 0 t (ix3 0 s i) = m ((c : Thread nD τ).loc main_arg0) (ix3 b s i) := fun s =>
    congrArg (m ((c : Thread nD τ).loc main_arg0)) (place3 (win0_0.rect_emb_val t _) i0 h (first _ _) (first _ _))
  have b1 : ∀ s, iblk m c 1 t (ix3 0 s j) = m ((c : Thread nD τ).loc main_arg1) (ix3 b s n) := fun s =>
    congrArg (m ((c : Thread nD τ).loc main_arg1)) (place3 (win0_1.rect_emb_val t _) i1 h (first _ _) hn)
  have b2 : iblk m c 2 t (ix3 0 i j) = m ((c : Thread nD τ).loc main_arg2) (ix3 b i n) :=
    congrArg (m ((c : Thread nD τ).loc main_arg2)) (place3 (win0_2.rect_emb_val t _) i2 h (first _ _) hn)
  have b3 : iblk m c 3 t (ix3 0 0 j) = m ((c : Thread nD τ).loc main_arg3) (ix3 b 0 n) :=
    congrArg (m ((c : Thread nD τ).loc main_arg3)) (place3 (win0_3.rect_emb_val t _) i3 h rfl hn)
  refine (out_apply ..).trans ?_
  simp only [b0, b1, b2, b3]

/-- The result after the run. -/
theorem final (c : Dev nD) (b : Fin 8) (i : Fin 1024) (n : Fin 1024) :
    (dats m 0 c).arrAt 4 cfg0.N (ix3 b i n)
      = gather (m ((c : Thread nD τ).loc main_arg2) (ix3 b i n)) (m ((c : Thread nD τ).loc main_arg3) (ix3 b 0 n))
        (fun s => m ((c : Thread nD τ).loc main_arg0) (ix3 b s i)) (fun s => m ((c : Thread nD τ).loc main_arg1) (ix3 b s n)) := by
  obtain ⟨t, j, hb, hn⟩ : ∃ (t : Fin cfg0.N) (j : Fin 512), t.val / 2 = b.val ∧ t.val % 2 * 512 + j.val = n.val :=
    ⟨⟨b.val * 2 + n.val / 512, by have h : cfg0.N = 16 := N_0; omega⟩, ⟨n.val % 512, by omega⟩,
      show (b.val * 2 + n.val / 512) / 2 = b.val by omega, show (b.val * 2 + n.val / 512) % 2 * 512 + n.val % 512 = n.val by omega⟩
  have e : (win0_4.rect t).emb (ix3 0 i j) = ix3 b i n :=
    place3 (win0_4.rect_emb_val t _) (idx t).2.2.2.2 (show t.val / 2 * 1 + 0 = b.val by omega) (first _ _) hn
  refine (congrArg _ e).symm.trans ?_
  exact (congrFun ((Value.blocks4 m c t (flush4 t)).trans (Value.flushed4 m c t)) (ix3 0 i j)).trans (written m c t hb hn i)

end Cert.CombineSampleIdeal.Arr

namespace Cert.CombineSampleRefIdeal.Refv

open Cert.CombineSampleRefIdeal Cert.CombineSampleRefIdeal.Read Cert.Spec Idealize.ShloMosaic

/-- The reference's result. -/
theorem ref_apply (x0 : FVec Ideal S8x2048x1024 .bf16) (x1 : FVec Ideal S8x2048x1024 .bf16) (x2 : FVec Ideal S8x1024x1024 .f32) (x3 : FVec Ideal S8x1x1024 .f32)
    (b : Fin 8) (i : Fin 1024) (n : Fin 1024) :
    val_main_v5 (F := Ideal) x0 x1 x2 x3 (ix3 b i n)
      = gather (x2 (ix3 b i n)) (x3 (ix3 b 0 n)) (fun s => x0 (ix3 b s i)) (fun s => x1 (ix3 b s n)) := by
  pointwise [val_main_v0, val_main_v1, val_main_v2, val_main_v3, val_main_v4, val_main_v5, dot_S8x2048x1024_S8x2048x1024_S8x1024x1024_1_1_2_2_0_0]
  rfl

end Cert.CombineSampleRefIdeal.Refv

namespace Cert.Proof.CombineSampleClaims

open Idealize.ShloMosaic Idealize.ShloMosaic.TcCoe Idealize.SL.Sem Cert.Spec

theorem frame_p : Cert.quiescent_CombineSample := fun m ρ _ => Cert.CombineSample.Gen.frame m ρ
theorem frame_pi : Cert.quiescent_CombineSampleIdeal := fun m ρ _ => Cert.CombineSampleIdeal.Gen.frame m ρ
theorem frame_ri : Cert.quiescent_CombineSampleRefIdeal := fun m ρ _ =>
  (θ_run Cert.CombineSampleRefIdeal.defs _ _).mono (fun r h => ⟨fun c => (h c).2, Idealize.ShloMosaic.sem_eq_zero_of_no_sems (by decide) r.2⟩)
    (Cert.CombineSampleRefIdeal.Value.run (F := Ideal) m ρ)

theorem algebraic : Cert.algebraic_CombineSampleIdeal_CombineSampleRefIdeal := fun m ρ m' ρ' _ hag =>
  ⟨fun c => (Cert.CombineSampleIdeal.Gen.dats m 0 c).arrAt 4 Cert.CombineSampleIdeal.cfg0.N, Cert.CombineSampleIdeal.Value.run_blocks m ρ,
    (θ_run Cert.CombineSampleRefIdeal.defs _ _).mono (fun r h c => by
      obtain ⟨e0, e1, e2, e3⟩ := hag c
      refine ⟨((h c).1.trans (Cert.CombineSampleRefIdeal.Read.val_main_v5_eq ..)).trans ?_, (h c).2⟩
      rw [e0, e1, e2, e3]
      exact Cert.Windows.ext3 fun b a n => (Cert.CombineSampleRefIdeal.Refv.ref_apply _ _ _ _ b a n).trans (Cert.CombineSampleIdeal.Arr.final m c b a n).symm)
      (Cert.CombineSampleRefIdeal.Value.run m' ρ')⟩

end Cert.Proof.CombineSampleClaims

end
-- ==== Proof.ShortConvClaim.lean ====
/-
  The short convolution: the second result of the call that mixes along the sequence. Grid point `16 j + b` computes columns
  `256 j …` of request `b`. The kernel finds a token's neighbours by rotating the rows and puts zero where the rotation comes
  round; the reference pads the rows with zeros. Both add up the same products in the same order, so nothing is asked of the
  arguments. The first result's part of the body is run but nothing is said of its values.
-/
module

public import proofs.«01_k».proof.Defs
public import proofs.«01_k».proof.Proof.CombineClaim
public import proofs.«01_k».proof.Proof.InprojMainBlock
public import proofs.«01_k».proof.Proof.Gen.ShortConv.Frame
public import proofs.«01_k».proof.Proof.Gen.ShortConvIdeal.Value
public import proofs.«01_k».proof.Proof.Gen.ShortConvRefIdeal.Run
public import proofs.«01_k».proof.Proof.Gen.ShortConvRefIdeal.Read
public import Idealize.ShloMosaic.Lib.Pointwise
public import Idealize.ShloMosaic.Lib.Pointwise.Tactic
public import Idealize.ShloMosaic.Lib.StableHlo.ReadAt
public import Idealize.ShloMosaic.Lib.Quiescent

@[expose] public section

set_option maxRecDepth 16384

noncomputable section

namespace Cert.Spec

open Idealize.ShloMosaic

/-- The number before place `i`, zero at the first place. -/
def before {L : Nat} (x : Fin L → EReal) (i : Fin L) : EReal := if i.val = 0 then 0 else x ⟨i.val - 1, by omega⟩

/-- The number after place `i`, zero at the last place. -/
def after {L : Nat} (x : Fin L → EReal) (i : Fin L) : EReal := if h : i.val + 1 < L then x ⟨i.val + 1, h⟩ else 0

/-- One column of the short convolution: gate `g` on the centred sum of three weighed neighbours and a bias. -/
def conv3 {L : Nat} (g x : Fin L → EReal) (w : Fin 3 → EReal) (b : EReal) (i : Fin L) : EReal :=
  g i * (before x i * w 0 + x i * w 1 + after x i * w 2 + b)

/-- Column `n` of the short convolution's part `p`, among the projection's columns. -/
def part (p : Nat) (n : Fin 512) (hp : p < 3 := by decide) : Fin 6144 := ⟨1536 + (p * 512 + n.val), by omega⟩

/-- Column `n` of the short convolution of one request, of the projection's rows `x`. -/
def shortConv {L : Nat} (x : Fin L → Fin 6144 → EReal) (w : Fin 3 → EReal) (b : EReal) (n : Fin 512) (i : Fin L) : EReal :=
  conv3 (fun i => x i (part 1 n)) (fun i => x i (part 2 n) * x i (part 0 n)) w b i

/-- One block's result, of the blocks a point reads. -/
def blockConv {L : Nat} (u bg cg : (⟨3, ![1, L, 256]⟩ : Shape).Idx → EReal) (w : (⟨2, ![3, 256]⟩ : Shape).Idx → EReal)
    (b : (⟨2, ![1, 256]⟩ : Shape).Idx → EReal) (i : Fin L) (n : Fin 256) : EReal :=
  conv3 (fun i => bg (ix3 0 i n)) (fun i => cg (ix3 0 i n) * u (ix3 0 i n)) (fun k => w (ix2 k n)) (b (ix2 0 n)) i

/-- A block's result is the short convolution's, once its blocks are request `r`'s columns `col`. -/
theorem blockConv_eq {B L : Nat} (x : (⟨3, ![B, L, 6144]⟩ : Shape).Idx → EReal) (w : (⟨2, ![3, 512]⟩ : Shape).Idx → EReal) (b : (⟨1, ![512]⟩ : Shape).Idx → EReal)
    {u bg cg : (⟨3, ![1, L, 256]⟩ : Shape).Idx → EReal} {wb : (⟨2, ![3, 256]⟩ : Shape).Idx → EReal} {bb : (⟨2, ![1, 256]⟩ : Shape).Idx → EReal}
    (r : Fin B) (col : Fin 256 → Fin 512) (hu : ∀ i n, u (ix3 0 i n) = x (ix3 r i (part 0 (col n)))) (hbg : ∀ i n, bg (ix3 0 i n) = x (ix3 r i (part 1 (col n))))
    (hcg : ∀ i n, cg (ix3 0 i n) = x (ix3 r i (part 2 (col n)))) (hw : ∀ k n, wb (ix2 k n) = w (ix2 k (col n))) (hb : ∀ n, bb (ix2 0 n) = b (ix1 (col n)))
    (i : Fin L) (n : Fin 256) :
    blockConv u bg cg wb bb i n = shortConv (fun i k => x (ix3 r i k)) (fun k => w (ix2 k (col n))) (b (ix1 (col n))) (col n) i := by
  unfold blockConv
  simp only [hu, hbg, hcg, hw, hb]
  rfl

/-- An element of a block of 256 columns that belong to part `p`, in request `r`. -/
theorem at_part {B L q j : Nat} {x : (⟨3, ![B, L, 6144]⟩ : Shape).Idx} {index size y : Fin 3 → Nat} (hx : ∀ a, (x a).val = index a * size a + y a)
    (p : Nat) (hp : p < 3) {r : Fin B} {i : Fin L} {n : Fin 256} {k : Fin 512} (hi : index = ![q, 0, 6 + 2 * p + j]) (hr : r.val = q)
    (hk : k.val = j * 256 + n.val) (hs : size = ![1, L, 256]) (hy : y = ![0, i.val, n.val]) :
    x = ix3 r i (part p k hp) := by
  subst hs hy hr
  exact Windows.place3 hx hi (Nat.mul_one _) (Windows.first _ _)
    (show (6 + 2 * p + j) * 256 + n.val = 1536 + (p * 512 + k.val) by omega)

/-- A choice by whether two places are the same. -/
theorem select_place {α : Type} {i k : Nat} (hi : i < 2 ^ 32) (hk : k < 2 ^ 32) (a b : α) :
    Scalar.select (IntOp.cmpi .eq (BitVec.ofNat 32 i) (BitVec.ofNat 32 k)) a b = if i = k then a else b := by
  by_cases h : i = k
  · subst h
    simp [Scalar.select, IntOp.cmpi]
  · have ne : BitVec.ofNat 32 i ≠ BitVec.ofNat 32 k := fun e => h (by
      have := congrArg BitVec.toNat e
      rwa [BitVec.toNat_ofNat, BitVec.toNat_ofNat, Nat.mod_eq_of_lt hi, Nat.mod_eq_of_lt hk] at this)
    have e : IntOp.cmpi .eq (BitVec.ofNat 32 i) (BitVec.ofNat 32 k) = 0#1 := congrArg BitVec.ofBool (beq_eq_false_iff_ne.mpr ne)
    rw [e, if_neg h]
    rfl

/-- The row before, found by a rotation of `L` rows by one, times its weight. -/
theorem rolled_before {L : Nat} (hL : L < 2 ^ 32) (x : Fin L → EReal) (w : EReal) (i : Fin L) (h : (i.val + L - 1) % L < L) :
    Scalar.select (IntOp.cmpi .eq (BitVec.ofNat 32 i.val) (BitVec.ofNat 32 0)) 0 (x ⟨(i.val + L - 1) % L, h⟩ * w) = before x i * w := by
  rw [select_place (by omega) (by omega), before]
  split
  · exact (zero_mul w).symm
  · exact congrArg (x · * w) (Fin.ext (show (i.val + L - 1) % L = i.val - 1 by
      rw [show i.val + L - 1 = i.val - 1 + L by omega, Nat.add_mod_right, Nat.mod_eq_of_lt (by omega)]))

/-- The row after, found by a rotation of `L` rows by all but one, times its weight. -/
theorem rolled_after {L k : Nat} (hk : k + 1 = L) (hL : L < 2 ^ 32) (x : Fin L → EReal) (w : EReal) (i : Fin L) (h : (i.val + L - k) % L < L) :
    Scalar.select (IntOp.cmpi .eq (BitVec.ofNat 32 i.val) (BitVec.ofNat 32 k)) 0 (x ⟨(i.val + L - k) % L, h⟩ * w) = after x i * w := by
  rw [select_place (by omega) (by omega), after]
  by_cases e : i.val = k
  · rw [if_pos e, dif_neg (by omega), zero_mul]
  · rw [if_neg e, dif_pos (by omega)]
    exact congrArg (x · * w) (Fin.ext (show (i.val + L - k) % L = i.val + 1 by
      rw [show i.val + L - k = i.val + 1 by omega, Nat.mod_eq_of_lt (by omega)]))

theorem zero_word : FloatOps.sitofp (F := Ideal) .f32 (0#32) = (0 : EReal) := by
  show (((0#32 : BitVec 32).toInt : ℝ) : EReal) = 0
  norm_num

/-- The row before, found in rows padded with a zero at each end. -/
theorem padded_before {L : Nat} (x : Fin L → EReal) (i : Fin L) :
    (if h : 1 ≤ i.val ∧ i.val - 1 < L then x ⟨i.val - 1, h.2⟩ else FloatOps.sitofp (F := Ideal) .f32 (0#32)) = before x i := by
  rw [zero_word, before]
  by_cases e : i.val = 0
  · rw [if_pos e, dif_neg (by omega)]
  · rw [if_neg e, dif_pos (by omega)]

/-- The row after, found in rows padded with a zero at each end. -/
theorem padded_after {L : Nat} (x : Fin L → EReal) (i : Fin L) :
    (if h : 1 ≤ 2 + i.val ∧ 2 + i.val - 1 < L then x ⟨2 + i.val - 1, h.2⟩ else FloatOps.sitofp (F := Ideal) .f32 (0#32)) = after x i := by
  rw [zero_word, after]
  by_cases e : i.val + 1 < L
  · rw [dif_pos e, dif_pos (by omega)]
    exact congrArg x (Fin.ext (show 2 + i.val - 1 = i.val + 1 by omega))
  · rw [dif_neg e, dif_neg (by omega)]

end Cert.Spec

namespace Cert.ShortConvIdeal.Arr

open Cert.ShortConvIdeal Cert.ShortConvIdeal.Gen Cert.Spec Cert.Windows Idealize.ShloMosaic Idealize.ShloMosaic.TcCoe Idealize.ShloMosaic.Tactic
open Cert.CombineIdeal.Arr (hz3)
open Cert.InprojMainIdeal.Block (hz2)

/-! ## One block -/

theorem pay_apply (u bg cg : Vec Ideal S1x256x256 .bf16) (w0 w1 w2 b : Vec Ideal S1x256 .f32) (i n : Fin 256) :
    k0_pay1 (F := Ideal) (k0_pay26 bg) (k0_pay27 k0_pay3 cg u) (k0_pay28 k0_pay2 cg u w0 w1) (k0_pay29 w2) b (ix3 0 i n)
      = conv3 (fun i => bg (ix3 0 i n)) (fun i => cg (ix3 0 i n) * u (ix3 0 i n)) ![w0 (ix2 0 n), w1 (ix2 0 n), w2 (ix2 0 n)] (b (ix2 0 n)) i := by
  unfold_payloads
  pointwise []
  have hb := rolled_before (L := 256) (by norm_num) (fun i => cg (ix3 0 i n) * u (ix3 0 i n)) (w0 (ix2 0 n)) i (Nat.mod_lt _ (by norm_num))
  have ha := rolled_after (L := 256) (k := 255) rfl (by norm_num) (fun i => cg (ix3 0 i n) * u (ix3 0 i n)) (w2 (ix2 0 n)) i (Nat.mod_lt _ (by norm_num))
  beta_reduce at hb ha
  rw [hb, ha]
  rfl

/-- Row `k` of the weights, as the body loads it. -/
theorem row_apply (x : Vec Ideal S3x256 .f32) (k : Fin 3) (inb) (n : Fin 256) :
    View.ld x (Rect.unit ![k.val, 0] S1x256.size inb) (ix2 0 n) = x (ix2 k n) :=
  congrArg x (funext fun a => Fin.ext (by
    match a with
    | ⟨0, _⟩ => show k.val + 1 * 0 = k.val; omega
    | ⟨1, _⟩ => show 0 + 1 * n.val = n.val; omega))

theorem pay_done (u bg cg : Vec Ideal S1x256x256 .bf16) (w : Vec Ideal S3x256 .f32) (b : Vec Ideal S1x256 .f32) (i n : Fin 256) (h0 h1 h2) :
    k0_pay1 (F := Ideal) (k0_pay26 bg) (k0_pay27 k0_pay3 cg u)
      (k0_pay28 k0_pay2 cg u (View.ld w (Rect.unit ![0, 0] S1x256.size h0)) (View.ld w (Rect.unit ![1, 0] S1x256.size h1)))
      (k0_pay29 (View.ld w (Rect.unit ![2, 0] S1x256.size h2))) b (ix3 0 i n) = blockConv u bg cg w b i n := by
  rw [pay_apply, show View.ld w (Rect.unit ![0, 0] S1x256.size h0) (ix2 0 n) = w (ix2 0 n) from row_apply w 0 h0 n,
    show View.ld w (Rect.unit ![1, 0] S1x256.size h1) (ix2 0 n) = w (ix2 1 n) from row_apply w 1 h1 n,
    show View.ld w (Rect.unit ![2, 0] S1x256.size h2) (ix2 0 n) = w (ix2 2 n) from row_apply w 2 h2 n]
  rfl

variable (m : (ℓ : Loc nD τ sig) → Buf (Elt Ideal) ℓ)

/-- What a point leaves in the second result's block. -/
theorem out_apply (c : Dev nD) (t : Fin cfg0.N) (i n : Fin 256) :
    (outsAt0 m c t).2 (ix3 0 i n) = blockConv (iblk m c 3 t) (iblk m c 4 t) (iblk m c 5 t) (iblk m c 12 t) (iblk m c 13 t) i n := by
  unfold outsAt0
  dsimp only
  unfold out0_A_19
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_3 t).read_unread, (hs0_4 t).read_unread, (hs0_5 t).read_unread, (hs0_12 t).read_unread, (hs0_13 t).read_unread]
  rw [View.canon_unit_zero hz3, View.ld_unit_zero hz3, View.ld_unit_zero hz3, View.ld_unit_zero hz3, View.ld_unit_zero hz2]
  exact pay_done _ _ _ _ _ i n _ _ _

/-! ## The array -/

theorem idx : ∀ t : Fin cfg0.N,
    (win0_3.index t = ![t.val % 16, 0, 6 + t.val / 16] ∧ win0_4.index t = ![t.val % 16, 0, 8 + t.val / 16] ∧ win0_5.index t = ![t.val % 16, 0, 10 + t.val / 16])
      ∧ (win0_12.index t = ![0, t.val / 16] ∧ win0_13.index t = ![0, t.val / 16] ∧ win0_19.index t = ![t.val % 16, 0, t.val / 16]) :=
  (by decide +kernel : ∀ t : Fin grid0.N,
    (win0_3.index t = ![t.val % 16, 0, 6 + t.val / 16] ∧ win0_4.index t = ![t.val % 16, 0, 8 + t.val / 16] ∧ win0_5.index t = ![t.val % 16, 0, 10 + t.val / 16])
      ∧ (win0_12.index t = ![0, t.val / 16] ∧ win0_13.index t = ![0, t.val / 16] ∧ win0_19.index t = ![t.val % 16, 0, t.val / 16]))

theorem points (t : Fin cfg0.N) : t.val < 32 := lt_of_lt_of_eq t.isLt (by decide : cfg0.N = 32)

/-- The request of a point and the columns it computes. -/
def request (t : Fin cfg0.N) : Fin 16 := ⟨t.val % 16, by omega⟩
def col (t : Fin cfg0.N) (n : Fin 256) : Fin 512 := ⟨t.val / 16 * 256 + n.val, by have := points t; omega⟩

theorem exists_point (b : Fin 16) (n : Fin 512) : ∃ t n', request t = b ∧ col t n' = n :=
  ⟨⟨n.val / 256 * 16 + b.val, lt_of_lt_of_eq (show _ < 32 by omega) (by decide : 32 = cfg0.N)⟩, ⟨n.val % 256, by omega⟩,
    Fin.ext (show (n.val / 256 * 16 + b.val) % 16 = b.val by omega),
    Fin.ext (show (n.val / 256 * 16 + b.val) / 16 * 256 + n.val % 256 = n.val by omega)⟩

theorem bias_at (c : Dev nD) (n : Fin 512) : V m c main_v1 (ix2 0 n) = m ((c : Thread nD τ).loc main_arg4) (ix1 n) := by
  unfold V
  simp only [hostOps0, List.flatten_cons, List.flatten_nil, List.append_nil, List.cons_append, List.nil_append]
  after_reads_at

theorem blk3 (c : Dev nD) (t : Fin cfg0.N) (i n : Fin 256) :
    iblk m c 3 t (ix3 0 i n) = m ((c : Thread nD τ).loc main_arg0) (ix3 (request t) i (part 0 (col t n))) := by
  show V m c main_arg0 ((win0_3.rect t).emb (ix3 0 i n)) = _
  rw [V_main_arg0]
  exact congrArg _ (at_part (win0_3.rect_emb_val t _) 0 _ (idx t).1.1 rfl rfl rfl (funext fun a => by fin_cases a <;> rfl))

theorem blk4 (c : Dev nD) (t : Fin cfg0.N) (i n : Fin 256) :
    iblk m c 4 t (ix3 0 i n) = m ((c : Thread nD τ).loc main_arg0) (ix3 (request t) i (part 1 (col t n))) := by
  show V m c main_arg0 ((win0_4.rect t).emb (ix3 0 i n)) = _
  rw [V_main_arg0]
  exact congrArg _ (at_part (win0_4.rect_emb_val t _) 1 _ (idx t).1.2.1 rfl rfl rfl (funext fun a => by fin_cases a <;> rfl))

theorem blk5 (c : Dev nD) (t : Fin cfg0.N) (i n : Fin 256) :
    iblk m c 5 t (ix3 0 i n) = m ((c : Thread nD τ).loc main_arg0) (ix3 (request t) i (part 2 (col t n))) := by
  show V m c main_arg0 ((win0_5.rect t).emb (ix3 0 i n)) = _
  rw [V_main_arg0]
  exact congrArg _ (at_part (win0_5.rect_emb_val t _) 2 _ (idx t).1.2.2 rfl rfl rfl (funext fun a => by fin_cases a <;> rfl))

theorem blk12 (c : Dev nD) (t : Fin cfg0.N) (k : Fin 3) (n : Fin 256) :
    iblk m c 12 t (ix2 k n) = m ((c : Thread nD τ).loc main_arg3) (ix2 k (col t n)) := by
  show V m c main_arg3 ((win0_12.rect t).emb (ix2 k n)) = _
  rw [V_main_arg3]
  exact congrArg _ (place2 (win0_12.rect_emb_val t _) (idx t).2.1 (first _ _) rfl)

theorem blk13 (c : Dev nD) (t : Fin cfg0.N) (n : Fin 256) : iblk m c 13 t (ix2 0 n) = m ((c : Thread nD τ).loc main_arg4) (ix1 (col t n)) :=
  (congrArg (V m c main_v1) (place2 (win0_13.rect_emb_val t _) (idx t).2.2.1 rfl rfl)).trans (bias_at m c (col t n))

theorem flush19 : ∀ t : Fin cfg0.N, (cfg0.win 19).flush t = true :=
  (by decide +kernel : ∀ t : Fin grid0.N, win0_19.flush t = true)

/-- The second result after the run. -/
theorem final (c : Dev nD) (b : Fin 16) (i : Fin 256) (n : Fin 512) :
    (dats m 0 c).arrAt 19 cfg0.N (ix3 b i n)
      = shortConv (fun i k => m ((c : Thread nD τ).loc main_arg0) (ix3 b i k)) (fun k => m ((c : Thread nD τ).loc main_arg3) (ix2 k n))
        (m ((c : Thread nD τ).loc main_arg4) (ix1 n)) n i := by
  obtain ⟨t, n, rfl, rfl⟩ := exists_point b n
  have e : (win0_19.rect t).emb (ix3 0 i n) = ix3 (request t) i (col t n) :=
    place3 (win0_19.rect_emb_val t _) (idx t).2.2.2 (Nat.mul_one _) (first _ _) rfl
  rw [← e]
  refine (congrFun ((Value.blocks19 m c t (flush19 t)).trans (Value.flushed19 m c t)) (ix3 0 i n)).trans ((out_apply m c t i n).trans ?_)
  exact blockConv_eq (m ((c : Thread nD τ).loc main_arg0)) (m ((c : Thread nD τ).loc main_arg3)) (m ((c : Thread nD τ).loc main_arg4)) (request t) (col t)
    (blk3 m c t) (blk4 m c t) (blk5 m c t) (blk12 m c t) (blk13 m c t) i n

end Cert.ShortConvIdeal.Arr

namespace Cert.ShortConvRefIdeal.Refv

open Cert.ShortConvRefIdeal Cert.ShortConvRefIdeal.Read Cert.Spec Idealize.ShloMosaic

/-- The reference's result. -/
theorem ref_apply (x0 : FVec Ideal S16x256x6144 .bf16) (x3 : FVec Ideal S3x512 .f32) (x4 : FVec Ideal S512 .f32) (b : Fin 16) (i : Fin 256) (n : Fin 512) :
    val_main_v31 (F := Ideal) x0 x3 x4 (ix3 b i n)
      = shortConv (fun i k => x0 (ix3 b i k)) (fun k => x3 (ix2 k n)) (x4 (ix1 n)) n i := by
  pointwise [val_main_v0, val_main_v1, val_main_v2, val_main_v3, val_main_v4, val_main_v5, val_main_c, val_main_call0_v0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31]
  simp only [shortConv, conv3, part, Nat.zero_mul, Nat.zero_add, Nat.one_mul, Nat.reduceMul]
  refine congrArg₂ (· * ·) rfl (congrArg₂ (· + ·) (congrArg₂ (· + ·) (congrArg₂ (· + ·) (congrArg₂ (· * ·) ?_ rfl) rfl) (congrArg₂ (· * ·) ?_ rfl)) rfl)
  · refine Eq.trans ?_ (padded_before _ i)
    split_ifs <;> rfl
  · refine Eq.trans ?_ (padded_after _ i)
    split_ifs <;> rfl

end Cert.ShortConvRefIdeal.Refv

namespace Cert.Proof.ShortConvClaims

open Idealize.ShloMosaic

theorem frame_p : Cert.quiescent_ShortConv := fun m ρ _ => Cert.ShortConv.Gen.frame m ρ
theorem frame_pi : Cert.quiescent_ShortConvIdeal := fun m ρ _ => Cert.ShortConvIdeal.Gen.frame m ρ
theorem frame_ri : Cert.quiescent_ShortConvRefIdeal := fun m ρ _ =>
  (θ_run Cert.ShortConvRefIdeal.defs _ _).mono (fun r h => ⟨fun c => (h c).2, Idealize.ShloMosaic.sem_eq_zero_of_no_sems (by decide) r.2⟩)
    (Cert.ShortConvRefIdeal.Value.run (F := Ideal) m ρ)

theorem algebraic : Cert.algebraic_ShortConvIdeal_ShortConvRefIdeal := fun m ρ m' ρ' _ hag =>
  ⟨fun c => (Cert.ShortConvIdeal.Gen.dats m 0 c).arrAt 19 Cert.ShortConvIdeal.cfg0.N,
    (θ_run Cert.ShortConvIdeal.defs _ _).mono (fun _ h c => (h c).2) (Cert.ShortConvIdeal.Value.run_blocks m ρ),
    (θ_run Cert.ShortConvRefIdeal.defs _ _).mono (fun r h c => by
      obtain ⟨e0, -, -, e3, e4, -⟩ := hag c
      refine ⟨((h c).1.trans (Cert.ShortConvRefIdeal.Read.val_main_v31_eq ..)).trans ?_, (h c).2⟩
      rw [e0, e3, e4]
      exact Cert.Windows.ext3 fun b i n => (Cert.ShortConvRefIdeal.Refv.ref_apply _ _ _ b i n).trans (Cert.ShortConvIdeal.Arr.final m c b i n).symm)
      (Cert.ShortConvRefIdeal.Value.run m' ρ')⟩

end Cert.Proof.ShortConvClaims

end
-- ==== Proof.ConvSampleClaim.lean ====
/-
  The short convolution at the sample's shapes: 8 requests of 1024 tokens. Grid point `8 j + b` computes columns `256 j …` of
  request `b`. What does not depend on the number of rows is ShortConvClaim's.
-/
module

public import proofs.«01_k».proof.Defs
public import proofs.«01_k».proof.Proof.ShortConvClaim
public import proofs.«01_k».proof.Proof.Gen.ConvSample.Frame
public import proofs.«01_k».proof.Proof.Gen.ConvSampleIdeal.Value
public import proofs.«01_k».proof.Proof.Gen.ConvSampleRefIdeal.Run
public import proofs.«01_k».proof.Proof.Gen.ConvSampleRefIdeal.Read
public import Idealize.ShloMosaic.Lib.Pointwise
public import Idealize.ShloMosaic.Lib.Pointwise.Tactic
public import Idealize.ShloMosaic.Lib.StableHlo.ReadAt
public import Idealize.ShloMosaic.Lib.Quiescent

@[expose] public section

set_option maxRecDepth 16384

noncomputable section

namespace Cert.ConvSampleIdeal.Arr

open Cert.ConvSampleIdeal Cert.ConvSampleIdeal.Gen Cert.Spec Cert.Windows Idealize.ShloMosaic Idealize.ShloMosaic.TcCoe Idealize.ShloMosaic.Tactic
open Cert.ShortConvIdeal.Arr (row_apply)
open Cert.CombineIdeal.Arr (hz3)
open Cert.InprojMainIdeal.Block (hz2)

/-! ## One block -/

theorem pay_apply (u bg cg : Vec Ideal S1x1024x256 .bf16) (w0 w1 w2 b : Vec Ideal S1x256 .f32) (i : Fin 1024) (n : Fin 256) :
    k0_pay1 (F := Ideal) (k0_pay26 bg) (k0_pay27 k0_pay3 cg u) (k0_pay28 k0_pay2 cg u w0 w1) (k0_pay29 w2) b (ix3 0 i n)
      = conv3 (fun i => bg (ix3 0 i n)) (fun i => cg (ix3 0 i n) * u (ix3 0 i n)) ![w0 (ix2 0 n), w1 (ix2 0 n), w2 (ix2 0 n)] (b (ix2 0 n)) i := by
  unfold_payloads
  pointwise []
  have hb := rolled_before (L := 1024) (by norm_num) (fun i => cg (ix3 0 i n) * u (ix3 0 i n)) (w0 (ix2 0 n)) i (Nat.mod_lt _ (by norm_num))
  have ha := rolled_after (L := 1024) (k := 1023) rfl (by norm_num) (fun i => cg (ix3 0 i n) * u (ix3 0 i n)) (w2 (ix2 0 n)) i (Nat.mod_lt _ (by norm_num))
  beta_reduce at hb ha
  rw [hb, ha]
  rfl

theorem pay_done (u bg cg : Vec Ideal S1x1024x256 .bf16) (w : Vec Ideal S3x256 .f32) (b : Vec Ideal S1x256 .f32) (i : Fin 1024) (n : Fin 256) (h0 h1 h2) :
    k0_pay1 (F := Ideal) (k0_pay26 bg) (k0_pay27 k0_pay3 cg u)
      (k0_pay28 k0_pay2 cg u (View.ld w (Rect.unit ![0, 0] S1x256.size h0)) (View.ld w (Rect.unit ![1, 0] S1x256.size h1)))
      (k0_pay29 (View.ld w (Rect.unit ![2, 0] S1x256.size h2))) b (ix3 0 i n) = blockConv u bg cg w b i n := by
  rw [pay_apply, show View.ld w (Rect.unit ![0, 0] S1x256.size h0) (ix2 0 n) = w (ix2 0 n) from row_apply w 0 h0 n,
    show View.ld w (Rect.unit ![1, 0] S1x256.size h1) (ix2 0 n) = w (ix2 1 n) from row_apply w 1 h1 n,
    show View.ld w (Rect.unit ![2, 0] S1x256.size h2) (ix2 0 n) = w (ix2 2 n) from row_apply w 2 h2 n]
  rfl

variable (m : (ℓ : Loc nD τ sig) → Buf (Elt Ideal) ℓ)

/-- What a point leaves in the second result's block. -/
theorem out_apply (c : Dev nD) (t : Fin cfg0.N) (i : Fin 1024) (n : Fin 256) :
    (outsAt0 m c t).2 (ix3 0 i n) = blockConv (iblk m c 3 t) (iblk m c 4 t) (iblk m c 5 t) (iblk m c 12 t) (iblk m c 13 t) i n := by
  unfold outsAt0
  dsimp only
  unfold out0_A_19
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_3 t).read_unread, (hs0_4 t).read_unread, (hs0_5 t).read_unread, (hs0_12 t).read_unread, (hs0_13 t).read_unread]
  rw [View.canon_unit_zero hz3, View.ld_unit_zero hz3, View.ld_unit_zero hz3, View.ld_unit_zero hz3, View.ld_unit_zero hz2]
  exact pay_done _ _ _ _ _ i n _ _ _

/-! ## The array -/

theorem idx : ∀ t : Fin cfg0.N,
    (win0_3.index t = ![t.val % 8, 0, 6 + t.val / 8] ∧ win0_4.index t = ![t.val % 8, 0, 8 + t.val / 8] ∧ win0_5.index t = ![t.val % 8, 0, 10 + t.val / 8])
      ∧ (win0_12.index t = ![0, t.val / 8] ∧ win0_13.index t = ![0, t.val / 8] ∧ win0_19.index t = ![t.val % 8, 0, t.val / 8]) :=
  (by decide +kernel : ∀ t : Fin grid0.N,
    (win0_3.index t = ![t.val % 8, 0, 6 + t.val / 8] ∧ win0_4.index t = ![t.val % 8, 0, 8 + t.val / 8] ∧ win0_5.index t = ![t.val % 8, 0, 10 + t.val / 8])
      ∧ (win0_12.index t = ![0, t.val / 8] ∧ win0_13.index t = ![0, t.val / 8] ∧ win0_19.index t = ![t.val % 8, 0, t.val / 8]))

theorem points (t : Fin cfg0.N) : t.val < 16 := lt_of_lt_of_eq t.isLt (by decide : cfg0.N = 16)

/-- The request of a point and the columns it computes. -/
def request (t : Fin cfg0.N) : Fin 8 := ⟨t.val % 8, by omega⟩
def col (t : Fin cfg0.N) (n : Fin 256) : Fin 512 := ⟨t.val / 8 * 256 + n.val, by have := points t; omega⟩

theorem exists_point (b : Fin 8) (n : Fin 512) : ∃ t n', request t = b ∧ col t n' = n :=
  ⟨⟨n.val / 256 * 8 + b.val, lt_of_lt_of_eq (show _ < 16 by omega) (by decide : 16 = cfg0.N)⟩, ⟨n.val % 256, by omega⟩,
    Fin.ext (show (n.val / 256 * 8 + b.val) % 8 = b.val by omega),
    Fin.ext (show (n.val / 256 * 8 + b.val) / 8 * 256 + n.val % 256 = n.val by omega)⟩

theorem bias_at (c : Dev nD) (n : Fin 512) : V m c main_v1 (ix2 0 n) = m ((c : Thread nD τ).loc main_arg4) (ix1 n) := by
  unfold V
  simp only [hostOps0, List.flatten_cons, List.flatten_nil, List.append_nil, List.cons_append, List.nil_append]
  after_reads_at

theorem blk3 (c : Dev nD) (t : Fin cfg0.N) (i : Fin 1024) (n : Fin 256) :
    iblk m c 3 t (ix3 0 i n) = m ((c : Thread nD τ).loc main_arg0) (ix3 (request t) i (part 0 (col t n))) := by
  show V m c main_arg0 ((win0_3.rect t).emb (ix3 0 i n)) = _
  rw [V_main_arg0]
  exact congrArg _ (at_part (win0_3.rect_emb_val t _) 0 _ (idx t).1.1 rfl rfl rfl (funext fun a => by fin_cases a <;> rfl))

theorem blk4 (c : Dev nD) (t : Fin cfg0.N) (i : Fin 1024) (n : Fin 256) :
    iblk m c 4 t (ix3 0 i n) = m ((c : Thread nD τ).loc main_arg0) (ix3 (request t) i (part 1 (col t n))) := by
  show V m c main_arg0 ((win0_4.rect t).emb (ix3 0 i n)) = _
  rw [V_main_arg0]
  exact congrArg _ (at_part (win0_4.rect_emb_val t _) 1 _ (idx t).1.2.1 rfl rfl rfl (funext fun a => by fin_cases a <;> rfl))

theorem blk5 (c : Dev nD) (t : Fin cfg0.N) (i : Fin 1024) (n : Fin 256) :
    iblk m c 5 t (ix3 0 i n) = m ((c : Thread nD τ).loc main_arg0) (ix3 (request t) i (part 2 (col t n))) := by
  show V m c main_arg0 ((win0_5.rect t).emb (ix3 0 i n)) = _
  rw [V_main_arg0]
  exact congrArg _ (at_part (win0_5.rect_emb_val t _) 2 _ (idx t).1.2.2 rfl rfl rfl (funext fun a => by fin_cases a <;> rfl))

theorem blk12 (c : Dev nD) (t : Fin cfg0.N) (k : Fin 3) (n : Fin 256) :
    iblk m c 12 t (ix2 k n) = m ((c : Thread nD τ).loc main_arg3) (ix2 k (col t n)) := by
  show V m c main_arg3 ((win0_12.rect t).emb (ix2 k n)) = _
  rw [V_main_arg3]
  exact congrArg _ (place2 (win0_12.rect_emb_val t _) (idx t).2.1 (first _ _) rfl)

theorem blk13 (c : Dev nD) (t : Fin cfg0.N) (n : Fin 256) : iblk m c 13 t (ix2 0 n) = m ((c : Thread nD τ).loc main_arg4) (ix1 (col t n)) :=
  (congrArg (V m c main_v1) (place2 (win0_13.rect_emb_val t _) (idx t).2.2.1 rfl rfl)).trans (bias_at m c (col t n))

theorem flush19 : ∀ t : Fin cfg0.N, (cfg0.win 19).flush t = true :=
  (by decide +kernel : ∀ t : Fin grid0.N, win0_19.flush t = true)

/-- The second result after the run. -/
theorem final (c : Dev nD) (b : Fin 8) (i : Fin 1024) (n : Fin 512) :
    (dats m 0 c).arrAt 19 cfg0.N (ix3 b i n)
      = shortConv (fun i k => m ((c : Thread nD τ).loc main_arg0) (ix3 b i k)) (fun k => m ((c : Thread nD τ).loc main_arg3) (ix2 k n))
        (m ((c : Thread nD τ).loc main_arg4) (ix1 n)) n i := by
  obtain ⟨t, n, rfl, rfl⟩ := exists_point b n
  have e : (win0_19.rect t).emb (ix3 0 i n) = ix3 (request t) i (col t n) :=
    place3 (win0_19.rect_emb_val t _) (idx t).2.2.2 (Nat.mul_one _) (first _ _) rfl
  rw [← e]
  refine (congrFun ((Value.blocks19 m c t (flush19 t)).trans (Value.flushed19 m c t)) (ix3 0 i n)).trans ((out_apply m c t i n).trans ?_)
  exact blockConv_eq (m ((c : Thread nD τ).loc main_arg0)) (m ((c : Thread nD τ).loc main_arg3)) (m ((c : Thread nD τ).loc main_arg4)) (request t) (col t)
    (blk3 m c t) (blk4 m c t) (blk5 m c t) (blk12 m c t) (blk13 m c t) i n

end Cert.ConvSampleIdeal.Arr

namespace Cert.ConvSampleRefIdeal.Refv

open Cert.ConvSampleRefIdeal Cert.ConvSampleRefIdeal.Read Cert.Spec Idealize.ShloMosaic

/-- The reference's result. -/
theorem ref_apply (x0 : FVec Ideal S8x1024x6144 .bf16) (x3 : FVec Ideal S3x512 .f32) (x4 : FVec Ideal S512 .f32) (b : Fin 8) (i : Fin 1024) (n : Fin 512) :
    val_main_v31 (F := Ideal) x0 x3 x4 (ix3 b i n)
      = shortConv (fun i k => x0 (ix3 b i k)) (fun k => x3 (ix2 k n)) (x4 (ix1 n)) n i := by
  pointwise [val_main_v0, val_main_v1, val_main_v2, val_main_v3, val_main_v4, val_main_v5, val_main_c, val_main_call0_v0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31]
  simp only [shortConv, conv3, part, Nat.zero_mul, Nat.zero_add, Nat.one_mul, Nat.reduceMul]
  refine congrArg₂ (· * ·) rfl (congrArg₂ (· + ·) (congrArg₂ (· + ·) (congrArg₂ (· + ·) (congrArg₂ (· * ·) ?_ rfl) rfl) (congrArg₂ (· * ·) ?_ rfl)) rfl)
  · refine Eq.trans ?_ (padded_before _ i)
    split_ifs <;> rfl
  · refine Eq.trans ?_ (padded_after _ i)
    split_ifs <;> rfl

end Cert.ConvSampleRefIdeal.Refv

namespace Cert.Proof.ConvSampleClaims

open Idealize.ShloMosaic

theorem frame_p : Cert.quiescent_ConvSample := fun m ρ _ => Cert.ConvSample.Gen.frame m ρ
theorem frame_pi : Cert.quiescent_ConvSampleIdeal := fun m ρ _ => Cert.ConvSampleIdeal.Gen.frame m ρ
theorem frame_ri : Cert.quiescent_ConvSampleRefIdeal := fun m ρ _ =>
  (θ_run Cert.ConvSampleRefIdeal.defs _ _).mono (fun r h => ⟨fun c => (h c).2, Idealize.ShloMosaic.sem_eq_zero_of_no_sems (by decide) r.2⟩)
    (Cert.ConvSampleRefIdeal.Value.run (F := Ideal) m ρ)

theorem algebraic : Cert.algebraic_ConvSampleIdeal_ConvSampleRefIdeal := fun m ρ m' ρ' _ hag =>
  ⟨fun c => (Cert.ConvSampleIdeal.Gen.dats m 0 c).arrAt 19 Cert.ConvSampleIdeal.cfg0.N,
    (θ_run Cert.ConvSampleIdeal.defs _ _).mono (fun _ h c => (h c).2) (Cert.ConvSampleIdeal.Value.run_blocks m ρ),
    (θ_run Cert.ConvSampleRefIdeal.defs _ _).mono (fun r h c => by
      obtain ⟨e0, -, -, e3, e4, -⟩ := hag c
      refine ⟨((h c).1.trans (Cert.ConvSampleRefIdeal.Read.val_main_v31_eq ..)).trans ?_, (h c).2⟩
      rw [e0, e3, e4]
      exact Cert.Windows.ext3 fun b i n => (Cert.ConvSampleRefIdeal.Refv.ref_apply _ _ _ b i n).trans (Cert.ConvSampleIdeal.Arr.final m c b i n).symm)
      (Cert.ConvSampleRefIdeal.Value.run m' ρ')⟩

end Cert.Proof.ConvSampleClaims

end
-- ==== Proof.lean ====
/-
  The claim: the facts the programs state, then each call's frames, and each call's equality with its reference.
-/
module

public import proofs.«01_k».proof.Defs
public import proofs.«01_k».proof.Proof.Gen.Attention
public import proofs.«01_k».proof.Proof.Gen.AttentionIdeal
public import proofs.«01_k».proof.Proof.Gen.AttentionRefIdeal
public import proofs.«01_k».proof.Proof.Gen.InprojMain
public import proofs.«01_k».proof.Proof.Gen.InprojMainIdeal
public import proofs.«01_k».proof.Proof.Gen.InprojMainRefIdeal
public import proofs.«01_k».proof.Proof.Gen.InprojQkv
public import proofs.«01_k».proof.Proof.Gen.InprojQkvIdeal
public import proofs.«01_k».proof.Proof.Gen.InprojQkvRefIdeal
public import proofs.«01_k».proof.Proof.Gen.Merge
public import proofs.«01_k».proof.Proof.Gen.MergeIdeal
public import proofs.«01_k».proof.Proof.Gen.MergeRefIdeal
public import proofs.«01_k».proof.Proof.Gen.Ffn
public import proofs.«01_k».proof.Proof.Gen.FfnIdeal
public import proofs.«01_k».proof.Proof.Gen.FfnRefIdeal
public import proofs.«01_k».proof.Proof.Gen.Modulation
public import proofs.«01_k».proof.Proof.Gen.ModulationIdeal
public import proofs.«01_k».proof.Proof.Gen.ModulationRefIdeal
public import proofs.«01_k».proof.Proof.Gen.Combine
public import proofs.«01_k».proof.Proof.Gen.CombineIdeal
public import proofs.«01_k».proof.Proof.Gen.CombineRefIdeal
public import proofs.«01_k».proof.Proof.Gen.MainSample
public import proofs.«01_k».proof.Proof.Gen.MainSampleIdeal
public import proofs.«01_k».proof.Proof.Gen.MainSampleRefIdeal
public import proofs.«01_k».proof.Proof.Gen.QkvSample
public import proofs.«01_k».proof.Proof.Gen.QkvSampleIdeal
public import proofs.«01_k».proof.Proof.Gen.QkvSampleRefIdeal
public import proofs.«01_k».proof.Proof.Gen.MergeSample
public import proofs.«01_k».proof.Proof.Gen.MergeSampleIdeal
public import proofs.«01_k».proof.Proof.Gen.MergeSampleRefIdeal
public import proofs.«01_k».proof.Proof.Gen.CombineSample
public import proofs.«01_k».proof.Proof.Gen.CombineSampleIdeal
public import proofs.«01_k».proof.Proof.Gen.CombineSampleRefIdeal
public import proofs.«01_k».proof.Proof.Gen.ShortConv
public import proofs.«01_k».proof.Proof.Gen.ShortConvIdeal
public import proofs.«01_k».proof.Proof.Gen.ShortConvRefIdeal
public import proofs.«01_k».proof.Proof.Gen.ConvSample
public import proofs.«01_k».proof.Proof.Gen.ConvSampleIdeal
public import proofs.«01_k».proof.Proof.Gen.ConvSampleRefIdeal
public import proofs.«01_k».proof.Proof.Gen.Pre_finite_qk
public import proofs.«01_k».proof.Proof.Gen.Pre_gates_spread
public import proofs.«01_k».proof.Proof.AttentionClaim
public import proofs.«01_k».proof.Proof.InprojMainClaim
public import proofs.«01_k».proof.Proof.InprojQkvClaim
public import proofs.«01_k».proof.Proof.MergeClaim
public import proofs.«01_k».proof.Proof.FfnClaim
public import proofs.«01_k».proof.Proof.ModulationClaim
public import proofs.«01_k».proof.Proof.CombineClaim
public import proofs.«01_k».proof.Proof.MainSampleClaim
public import proofs.«01_k».proof.Proof.QkvSampleClaim
public import proofs.«01_k».proof.Proof.MergeSampleClaim
public import proofs.«01_k».proof.Proof.CombineSampleClaim
public import proofs.«01_k».proof.Proof.ShortConvClaim
public import proofs.«01_k».proof.Proof.ConvSampleClaim

@[expose] public section

noncomputable section

namespace Cert.Proof

theorem claim : Cert.Claim :=
  ⟨Cert.Attention.Gen.facts,
    Cert.AttentionIdeal.Gen.facts,
    Cert.AttentionRefIdeal.Gen.facts,
    Cert.InprojMain.Gen.facts,
    Cert.InprojMainIdeal.Gen.facts,
    Cert.InprojMainRefIdeal.Gen.facts,
    Cert.InprojQkv.Gen.facts,
    Cert.InprojQkvIdeal.Gen.facts,
    Cert.InprojQkvRefIdeal.Gen.facts,
    Cert.Merge.Gen.facts,
    Cert.MergeIdeal.Gen.facts,
    Cert.MergeRefIdeal.Gen.facts,
    Cert.Ffn.Gen.facts,
    Cert.FfnIdeal.Gen.facts,
    Cert.FfnRefIdeal.Gen.facts,
    Cert.Modulation.Gen.facts,
    Cert.ModulationIdeal.Gen.facts,
    Cert.ModulationRefIdeal.Gen.facts,
    Cert.Combine.Gen.facts,
    Cert.CombineIdeal.Gen.facts,
    Cert.CombineRefIdeal.Gen.facts,
    Cert.MainSample.Gen.facts,
    Cert.MainSampleIdeal.Gen.facts,
    Cert.MainSampleRefIdeal.Gen.facts,
    Cert.QkvSample.Gen.facts,
    Cert.QkvSampleIdeal.Gen.facts,
    Cert.QkvSampleRefIdeal.Gen.facts,
    Cert.MergeSample.Gen.facts,
    Cert.MergeSampleIdeal.Gen.facts,
    Cert.MergeSampleRefIdeal.Gen.facts,
    Cert.CombineSample.Gen.facts,
    Cert.CombineSampleIdeal.Gen.facts,
    Cert.CombineSampleRefIdeal.Gen.facts,
    Cert.ShortConv.Gen.facts,
    Cert.ShortConvIdeal.Gen.facts,
    Cert.ShortConvRefIdeal.Gen.facts,
    Cert.ConvSample.Gen.facts,
    Cert.ConvSampleIdeal.Gen.facts,
    Cert.ConvSampleRefIdeal.Gen.facts,
    Cert.Pre_finite_qk.Gen.facts,
    Cert.Pre_gates_spread.Gen.facts,
    Cert.Proof.AttentionClaims.frame_p,
    Cert.Proof.AttentionClaims.frame_pi,
    Cert.Proof.AttentionClaims.frame_pi_pre,
    Cert.Proof.AttentionClaims.frame_ri,
    Cert.Proof.AttentionClaims.frame_ri_pre,
    Cert.Proof.InprojMainClaims.frame_p,
    Cert.Proof.InprojMainClaims.frame_pi,
    Cert.Proof.InprojMainClaims.frame_ri,
    Cert.Proof.InprojQkvClaims.frame_p,
    Cert.Proof.InprojQkvClaims.frame_pi,
    Cert.Proof.InprojQkvClaims.frame_ri,
    Cert.Proof.MergeClaims.frame_p,
    Cert.Proof.MergeClaims.frame_pi,
    Cert.Proof.MergeClaims.frame_ri,
    Cert.Proof.FfnClaims.frame_p,
    Cert.Proof.FfnClaims.frame_pi,
    Cert.Proof.FfnClaims.frame_pi_pre,
    Cert.Proof.FfnClaims.frame_ri,
    Cert.Proof.FfnClaims.frame_ri_pre,
    Cert.Proof.ModulationClaims.frame_p,
    Cert.Proof.ModulationClaims.frame_pi,
    Cert.Proof.ModulationClaims.frame_ri,
    Cert.Proof.CombineClaims.frame_p,
    Cert.Proof.CombineClaims.frame_pi,
    Cert.Proof.CombineClaims.frame_ri,
    Cert.Proof.MainSampleClaims.frame_p,
    Cert.Proof.MainSampleClaims.frame_pi,
    Cert.Proof.MainSampleClaims.frame_ri,
    Cert.Proof.QkvSampleClaims.frame_p,
    Cert.Proof.QkvSampleClaims.frame_pi,
    Cert.Proof.QkvSampleClaims.frame_ri,
    Cert.Proof.MergeSampleClaims.frame_p,
    Cert.Proof.MergeSampleClaims.frame_pi,
    Cert.Proof.MergeSampleClaims.frame_ri,
    Cert.Proof.CombineSampleClaims.frame_p,
    Cert.Proof.CombineSampleClaims.frame_pi,
    Cert.Proof.CombineSampleClaims.frame_ri,
    Cert.Proof.ShortConvClaims.frame_p,
    Cert.Proof.ShortConvClaims.frame_pi,
    Cert.Proof.ShortConvClaims.frame_ri,
    Cert.Proof.ConvSampleClaims.frame_p,
    Cert.Proof.ConvSampleClaims.frame_pi,
    Cert.Proof.ConvSampleClaims.frame_ri,
    trivial,
    Cert.Proof.AttentionClaims.algebraic,
    trivial,
    Cert.Proof.InprojMainClaims.algebraic,
    trivial,
    Cert.Proof.InprojQkvClaims.algebraic,
    trivial,
    Cert.Proof.MergeClaims.algebraic,
    trivial,
    Cert.Proof.FfnClaims.algebraic,
    trivial,
    Cert.Proof.ModulationClaims.algebraic,
    trivial,
    Cert.Proof.CombineClaims.algebraic,
    trivial,
    Cert.Proof.MainSampleClaims.algebraic,
    trivial,
    Cert.Proof.QkvSampleClaims.algebraic,
    trivial,
    Cert.Proof.MergeSampleClaims.algebraic,
    trivial,
    Cert.Proof.CombineSampleClaims.algebraic,
    trivial,
    Cert.Proof.ShortConvClaims.algebraic,
    trivial,
    Cert.Proof.ConvSampleClaims.algebraic⟩

end Cert.Proof

end
